-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Rotate (m : (ℓ : Loc Cert.Rotate.nD Cert.Rotate.τ Cert.Rotate.sig) → Buf (Elt Bits) ℓ) : Prop :=
  True

def Pre_RotateIdeal (m : (ℓ : Loc Cert.RotateIdeal.nD Cert.RotateIdeal.τ Cert.RotateIdeal.sig) → Buf (Elt Ideal) ℓ) : Prop :=
  True

def Pre_RotateIdeal_finite_x [hPre_finite_x : Cert.Pre_finite_x.Facts] (m : (ℓ : Loc Cert.RotateIdeal.nD Cert.RotateIdeal.τ Cert.RotateIdeal.sig) → Buf (Elt Ideal) ℓ) : Prop :=
  ∀ c : Dev Cert.RotateIdeal.nD,
    (Cert.Pre_finite_x.fn (F := Ideal) (m ((c.tc : Thread Cert.RotateIdeal.nD Cert.RotateIdeal.τ).loc Cert.RotateIdeal.main_arg0)) (m ((c.tc : Thread Cert.RotateIdeal.nD Cert.RotateIdeal.τ).loc Cert.RotateIdeal.main_arg1))) = (fun _ => 1#1)

def Pre_RotateReferenceIdeal (m : (ℓ : Loc Cert.RotateReferenceIdeal.nD Cert.RotateReferenceIdeal.τ Cert.RotateReferenceIdeal.sig) → Buf (Elt Ideal) ℓ) : Prop :=
  True

def Pre_RotateReferenceIdeal_finite_x [hPre_finite_x : Cert.Pre_finite_x.Facts] (m : (ℓ : Loc Cert.RotateReferenceIdeal.nD Cert.RotateReferenceIdeal.τ Cert.RotateReferenceIdeal.sig) → Buf (Elt Ideal) ℓ) : Prop :=
  ∀ c : Dev Cert.RotateReferenceIdeal.nD,
    (Cert.Pre_finite_x.fn (F := Ideal) (m ((c.tc : Thread Cert.RotateReferenceIdeal.nD Cert.RotateReferenceIdeal.τ).loc Cert.RotateReferenceIdeal.main_arg0)) (m ((c.tc : Thread Cert.RotateReferenceIdeal.nD Cert.RotateReferenceIdeal.τ).loc Cert.RotateReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Rotate [hRotate : Cert.Rotate.Facts] : Prop :=
  ∀ (m : (ℓ : Loc Cert.Rotate.nD Cert.Rotate.τ Cert.Rotate.sig) → Buf (Elt Bits) ℓ) (g : Dev Cert.Rotate.nD → PrngReg), Pre_Rotate m →
    θ_run (Cert.Rotate.defs (F := Bits)) (onTc (τ := Cert.Rotate.τ) (Cert.Rotate.main (F := Bits))) ⟨m, fun _ => 0, g⟩ (fun r => (∀ c : Dev Cert.Rotate.nD,
      r.2.mem ((c.tc : Thread Cert.Rotate.nD Cert.Rotate.τ).loc Cert.Rotate.main_arg0) = m ((c.tc : Thread Cert.Rotate.nD Cert.Rotate.τ).loc Cert.Rotate.main_arg0)
      ∧ r.2.mem ((c.tc : Thread Cert.Rotate.nD Cert.Rotate.τ).loc Cert.Rotate.main_arg1) = m ((c.tc : Thread Cert.Rotate.nD Cert.Rotate.τ).loc Cert.Rotate.main_arg1))
      ∧ r.2.sem = fun _ => 0)

def quiescent_RotateIdeal [hRotateIdeal : Cert.RotateIdeal.Facts] : Prop :=
  ∀ (m : (ℓ : Loc Cert.RotateIdeal.nD Cert.RotateIdeal.τ Cert.RotateIdeal.sig) → Buf (Elt Ideal) ℓ) (g : Dev Cert.RotateIdeal.nD → PrngReg), Pre_RotateIdeal m →
    θ_run (Cert.RotateIdeal.defs (F := Ideal)) (onTc (τ := Cert.RotateIdeal.τ) (Cert.RotateIdeal.main (F := Ideal))) ⟨m, fun _ => 0, g⟩ (fun r => (∀ c : Dev Cert.RotateIdeal.nD,
      r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
      ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1))
      ∧ r.2.sem = fun _ => 0)

def quiescent_RotateIdeal_pre_finite_x [hRotateIdeal : Cert.RotateIdeal.Facts] [hPre_finite_x : Cert.Pre_finite_x.Facts] : Prop :=
  ∀ (m : (ℓ : Loc Cert.RotateIdeal.nD Cert.RotateIdeal.τ Cert.RotateIdeal.sig) → Buf (Elt Ideal) ℓ) (g : Dev Cert.RotateIdeal.nD → PrngReg), Pre_RotateIdeal_finite_x m →
    θ_run (Cert.RotateIdeal.defs (F := Ideal)) (onTc (τ := Cert.RotateIdeal.τ) (Cert.RotateIdeal.main (F := Ideal))) ⟨m, fun _ => 0, g⟩ (fun r => (∀ c : Dev Cert.RotateIdeal.nD,
      r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
      ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1))
      ∧ r.2.sem = fun _ => 0)

def quiescent_RotateReferenceIdeal [hRotateReferenceIdeal : Cert.RotateReferenceIdeal.Facts] : Prop :=
  ∀ (m : (ℓ : Loc Cert.RotateReferenceIdeal.nD Cert.RotateReferenceIdeal.τ Cert.RotateReferenceIdeal.sig) → Buf (Elt Ideal) ℓ) (g : Dev Cert.RotateReferenceIdeal.nD → PrngReg), Pre_RotateReferenceIdeal m →
    θ_run (Cert.RotateReferenceIdeal.defs (F := Ideal)) (onTc (τ := Cert.RotateReferenceIdeal.τ) (Cert.RotateReferenceIdeal.main (F := Ideal))) ⟨m, fun _ => 0, g⟩ (fun r => (∀ c : Dev Cert.RotateReferenceIdeal.nD,
      r.2.mem ((c.tc : Thread Cert.RotateReferenceIdeal.nD Cert.RotateReferenceIdeal.τ).loc Cert.RotateReferenceIdeal.main_arg0) = m ((c.tc : Thread Cert.RotateReferenceIdeal.nD Cert.RotateReferenceIdeal.τ).loc Cert.RotateReferenceIdeal.main_arg0)
      ∧ r.2.mem ((c.tc : Thread Cert.RotateReferenceIdeal.nD Cert.RotateReferenceIdeal.τ).loc Cert.RotateReferenceIdeal.main_arg1) = m ((c.tc : Thread Cert.RotateReferenceIdeal.nD Cert.RotateReferenceIdeal.τ).loc Cert.RotateReferenceIdeal.main_arg1))
      ∧ r.2.sem = fun _ => 0)

def quiescent_RotateReferenceIdeal_pre_finite_x [hRotateReferenceIdeal : Cert.RotateReferenceIdeal.Facts] [hPre_finite_x : Cert.Pre_finite_x.Facts] : Prop :=
  ∀ (m : (ℓ : Loc Cert.RotateReferenceIdeal.nD Cert.RotateReferenceIdeal.τ Cert.RotateReferenceIdeal.sig) → Buf (Elt Ideal) ℓ) (g : Dev Cert.RotateReferenceIdeal.nD → PrngReg), Pre_RotateReferenceIdeal_finite_x m →
    θ_run (Cert.RotateReferenceIdeal.defs (F := Ideal)) (onTc (τ := Cert.RotateReferenceIdeal.τ) (Cert.RotateReferenceIdeal.main (F := Ideal))) ⟨m, fun _ => 0, g⟩ (fun r => (∀ c : Dev Cert.RotateReferenceIdeal.nD,
      r.2.mem ((c.tc : Thread Cert.RotateReferenceIdeal.nD Cert.RotateReferenceIdeal.τ).loc Cert.RotateReferenceIdeal.main_arg0) = m ((c.tc : Thread Cert.RotateReferenceIdeal.nD Cert.RotateReferenceIdeal.τ).loc Cert.RotateReferenceIdeal.main_arg0)
      ∧ r.2.mem ((c.tc : Thread Cert.RotateReferenceIdeal.nD Cert.RotateReferenceIdeal.τ).loc Cert.RotateReferenceIdeal.main_arg1) = m ((c.tc : Thread Cert.RotateReferenceIdeal.nD Cert.RotateReferenceIdeal.τ).loc Cert.RotateReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Rotate_RotateIdeal : Prop :=
  IdealRules.bf16_pair.BufferStatement Cert.RotateIdeal.S2376x2x128 Cert.RotateIdeal.S2376x1x128
  ∧ IdealRules.bf16_pair.Statement Cert.RotateIdeal.S16x128 Cert.RotateIdeal.S8x128
  ∧ IdealRules.bf16_pair.Statement Cert.RotateIdeal.S8x2x128 Cert.RotateIdeal.S8x1x128
  ∧ IdealRules.bf16_pair.Statement Cert.RotateIdeal.S4x2x128 Cert.RotateIdeal.S4x1x128
  ∧ IdealRules.bf16_pair.SelectZeroStatement Cert.RotateIdeal.S4x128
  ∧ IdealRules.bf16_pair.Statement Cert.RotateIdeal.S152x2x128 Cert.RotateIdeal.S152x1x128
  ∧ IdealRules.bf16_pair.Statement Cert.RotateIdeal.S304x128 Cert.RotateIdeal.S152x128
  ∧ IdealRules.bf16_pack.Statement Cert.RotateIdeal.S152x128

def algebraic_RotateIdeal_RotateReferenceIdeal_pre_finite_x [hRotateIdeal : Cert.RotateIdeal.Facts] [hRotateReferenceIdeal : Cert.RotateReferenceIdeal.Facts] [hPre_finite_x : Cert.Pre_finite_x.Facts] : Prop :=
  ∀ (m : (ℓ : Loc Cert.RotateIdeal.nD Cert.RotateIdeal.τ Cert.RotateIdeal.sig) → Buf (Elt Ideal) ℓ) (g : Dev Cert.RotateIdeal.nD → PrngReg)
    (m' : (ℓ : Loc Cert.RotateReferenceIdeal.nD Cert.RotateReferenceIdeal.τ Cert.RotateReferenceIdeal.sig) → Buf (Elt Ideal) ℓ) (g' : Dev Cert.RotateReferenceIdeal.nD → PrngReg), Pre_RotateIdeal_finite_x m →
    (∀ c : Dev Cert.RotateIdeal.nD,
      m' ((c.tc : Thread Cert.RotateReferenceIdeal.nD Cert.RotateReferenceIdeal.τ).loc Cert.RotateReferenceIdeal.main_arg0) = m ((c.tc : Thread Cert.RotateIdeal.nD Cert.RotateIdeal.τ).loc Cert.RotateIdeal.main_arg0)
      ∧ m' ((c.tc : Thread Cert.RotateReferenceIdeal.nD Cert.RotateReferenceIdeal.τ).loc Cert.RotateReferenceIdeal.main_arg1) = m ((c.tc : Thread Cert.RotateIdeal.nD Cert.RotateIdeal.τ).loc Cert.RotateIdeal.main_arg1)) →
    ∃ (v0 : (c : Dev Cert.RotateIdeal.nD) → Buf (Elt Ideal) ((c.tc : Thread Cert.RotateIdeal.nD Cert.RotateIdeal.τ).loc Cert.RotateIdeal.main_v1_0)) (v1 : (c : Dev Cert.RotateIdeal.nD) → Buf (Elt Ideal) ((c.tc : Thread Cert.RotateIdeal.nD Cert.RotateIdeal.τ).loc Cert.RotateIdeal.main_v1_1)),
      θ_run (Cert.RotateIdeal.defs (F := Ideal)) (onTc (τ := Cert.RotateIdeal.τ) (Cert.RotateIdeal.main (F := Ideal))) ⟨m, fun _ => 0, g⟩ (fun r => ∀ c : Dev Cert.RotateIdeal.nD,
          r.2.mem ((c.tc : Thread Cert.RotateIdeal.nD Cert.RotateIdeal.τ).loc Cert.RotateIdeal.main_v1_0) = v0 c
          ∧ r.2.mem ((c.tc : Thread Cert.RotateIdeal.nD Cert.RotateIdeal.τ).loc Cert.RotateIdeal.main_v1_1) = v1 c
          ∧ r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
          ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1))
      ∧ θ_run (Cert.RotateReferenceIdeal.defs (F := Ideal)) (onTc (τ := Cert.RotateReferenceIdeal.τ) (Cert.RotateReferenceIdeal.main (F := Ideal))) ⟨m', fun _ => 0, g'⟩ (fun r => ∀ c : Dev Cert.RotateReferenceIdeal.nD,
          r.2.mem ((c.tc : Thread Cert.RotateReferenceIdeal.nD Cert.RotateReferenceIdeal.τ).loc Cert.RotateReferenceIdeal.main_v55) = v0 c
          ∧ r.2.mem ((c.tc : Thread Cert.RotateReferenceIdeal.nD Cert.RotateReferenceIdeal.τ).loc Cert.RotateReferenceIdeal.main_v54) = v1 c
          ∧ r.2.mem ((c.tc : Thread Cert.RotateReferenceIdeal.nD Cert.RotateReferenceIdeal.τ).loc Cert.RotateReferenceIdeal.main_arg0) = m' ((c.tc : Thread Cert.RotateReferenceIdeal.nD Cert.RotateReferenceIdeal.τ).loc Cert.RotateReferenceIdeal.main_arg0)
          ∧ r.2.mem ((c.tc : Thread Cert.RotateReferenceIdeal.nD Cert.RotateReferenceIdeal.τ).loc Cert.RotateReferenceIdeal.main_arg1) = m' ((c.tc : Thread Cert.RotateReferenceIdeal.nD Cert.RotateReferenceIdeal.τ).loc Cert.RotateReferenceIdeal.main_arg1))

def Claim : Prop :=
  ∃ (hKernel : Cert.Kernel.Facts) (hKernelIdeal : Cert.KernelIdeal.Facts) (hReferenceIdeal : Cert.ReferenceIdeal.Facts) (hRotate : Cert.Rotate.Facts) (hRotateIdeal : Cert.RotateIdeal.Facts) (hRotateReferenceIdeal : Cert.RotateReferenceIdeal.Facts) (hPre_finite_x : Cert.Pre_finite_x.Facts),
    quiescent_Kernel (hKernel := hKernel)
    ∧ quiescent_KernelIdeal (hKernelIdeal := hKernelIdeal)
    ∧ quiescent_ReferenceIdeal (hReferenceIdeal := hReferenceIdeal)
    ∧ quiescent_Rotate (hRotate := hRotate)
    ∧ quiescent_RotateIdeal (hRotateIdeal := hRotateIdeal)
    ∧ quiescent_RotateIdeal_pre_finite_x (hRotateIdeal := hRotateIdeal) (hPre_finite_x := hPre_finite_x)
    ∧ quiescent_RotateReferenceIdeal (hRotateReferenceIdeal := hRotateReferenceIdeal)
    ∧ quiescent_RotateReferenceIdeal_pre_finite_x (hRotateReferenceIdeal := hRotateReferenceIdeal) (hPre_finite_x := hPre_finite_x)
    ∧ preserves_Kernel_KernelIdeal
    ∧ algebraic_KernelIdeal_ReferenceIdeal (hKernelIdeal := hKernelIdeal) (hReferenceIdeal := hReferenceIdeal)
    ∧ preserves_Rotate_RotateIdeal
    ∧ algebraic_RotateIdeal_RotateReferenceIdeal_pre_finite_x (hRotateIdeal := hRotateIdeal) (hRotateReferenceIdeal := hRotateReferenceIdeal) (hPre_finite_x := hPre_finite_x)
-- ==== Pre_finite_x.lean ====
abbrev S1x256x18944 : Shape := ⟨3, ![1, 256, 18944]⟩
abbrev S148x148 : Shape := ⟨2, ![148, 148]⟩
abbrev S_ : Shape := ⟨0, ![]⟩

class Facts : Prop where
  bitsLt_bf16_f32 : FTy.bits .bf16 < FTy.bits .f32
  bcast_S_S1x256x18944 : S_.BroadcastsInDim S1x256x18944 (![] : Fin 0 → Fin S1x256x18944.rank)

variable [Facts]

def fn {F : FTy → Type} [FloatOps F] (main_arg0 : FVec F S1x256x18944 .bf16) (main_arg1 : FVec F S148x148 .f32) : IVec S1x256x18944 1 :=
  let main_v0 : FVec F S1x256x18944 .f32 := (extf .f32 · bitsLt_bf16_f32) main_arg0
  let main_v1 : FVec F S1x256x18944 .f32 := Host.absf main_v0
  let main_cst : FVec F S_ .f32 := constant S_ .f32 0x7F800000#32
  let main_v2 : FVec F S1x256x18944 .f32 := broadcastInDim S1x256x18944 ![] bcast_S_S1x256x18944 main_cst
  let main_v3 : IVec S1x256x18944 1 := cmpf .olt main_v1 main_v2
  main_v3
-- ==== Kernel.lean ====
abbrev S256x18944 : Shape := ⟨2, ![256, 18944]⟩
abbrev S18944x3584 : Shape := ⟨2, ![18944, 3584]⟩
abbrev S256 : Shape := ⟨1, ![256]⟩
abbrev S3584 : Shape := ⟨1, ![3584]⟩
abbrev S256x1 : Shape := ⟨2, ![256, 1]⟩
abbrev S256x128 : Shape := ⟨2, ![256, 128]⟩
abbrev S1x3584 : Shape := ⟨2, ![1, 3584]⟩
abbrev S256x3584 : Shape := ⟨2, ![256, 3584]⟩
abbrev S1x256 : Shape := ⟨2, ![1, 256]⟩
abbrev S18944x256 : Shape := ⟨2, ![18944, 256]⟩
abbrev S256x256 : Shape := ⟨2, ![256, 256]⟩
abbrev S128x128 : Shape := ⟨2, ![128, 128]⟩
abbrev S128 : Shape := ⟨1, ![128]⟩
abbrev S1x128 : Shape := ⟨2, ![1, 128]⟩

abbrev nBuf : Space → Nat
  | .hbm => 9
  | .vmem => 9
  | .smem => 0
  | _ => 0

abbrev bufTy : (tb : Table) → Fin (tcTables nBuf tb) → BufTy
  | .hbm, ⟨0, _⟩ => ⟨S256x18944, .fp8e4m3⟩
  | .hbm, ⟨1, _⟩ => ⟨S18944x3584, .fp8e4m3⟩
  | .hbm, ⟨2, _⟩ => ⟨S256, .f32⟩
  | .hbm, ⟨3, _⟩ => ⟨S3584, .f32⟩
  | .hbm, ⟨4, _⟩ => ⟨S256x1, .f32⟩
  | .hbm, ⟨5, _⟩ => ⟨S256x128, .f32⟩
  | .hbm, ⟨6, _⟩ => ⟨S1x3584, .f32⟩
  | .hbm, ⟨7, _⟩ => ⟨S256x3584, .bf16⟩
  | .hbm, ⟨8, _⟩ => ⟨S1x256, .f32⟩
  | .local _ .vmem, ⟨0, _⟩ => ⟨S256x18944, .fp8e4m3⟩
  | .local _ .vmem, ⟨1, _⟩ => ⟨S18944x256, .fp8e4m3⟩
  | .local _ .vmem, ⟨2, _⟩ => ⟨S18944x256, .fp8e4m3⟩
  | .local _ .vmem, ⟨3, _⟩ => ⟨S256x128, .f32⟩
  | .local _ .vmem, ⟨4, _⟩ => ⟨S1x256, .f32⟩
  | .local _ .vmem, ⟨5, _⟩ => ⟨S1x256, .f32⟩
  | .local _ .vmem, ⟨6, _⟩ => ⟨S256x256, .bf16⟩
  | .local _ .vmem, ⟨7, _⟩ => ⟨S256x256, .bf16⟩
  | .local _ .vmem, ⟨8, _⟩ => ⟨S1x256, .f32⟩
  | _, _ => ⟨S256x18944, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![14], ![false]⟩

def k0_cond1 (i : grid0.Coords) : BitVec 1 :=
  let arg0 : BitVec 32 := BitVec.ofNat 32 (i 0).val
  let c0_i32 : BitVec 32 := 0#32
  let v13 : BitVec 1 := Scalar.cmpi .eq arg0 c0_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x18944 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S18944x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S256x18944 : Shape := ⟨2, ![256, 18944]⟩
abbrev S18944x3584 : Shape := ⟨2, ![18944, 3584]⟩
abbrev S256 : Shape := ⟨1, ![256]⟩
abbrev S3584 : Shape := ⟨1, ![3584]⟩
abbrev S1x256 : Shape := ⟨2, ![1, 256]⟩
abbrev S256x3584 : Shape := ⟨2, ![256, 3584]⟩
abbrev S256x1 : Shape := ⟨2, ![256, 1]⟩
abbrev S1x3584 : Shape := ⟨2, ![1, 3584]⟩

abbrev nBuf : Space → Nat
  | .hbm => 6
  | .vmem => 5
  | .smem => 0
  | _ => 0

abbrev bufTy : (tb : Table) → Fin (tcTables nBuf tb) → BufTy
  | .hbm, ⟨0, _⟩ => ⟨S256x18944, .fp8e4m3⟩
  | .hbm, ⟨1, _⟩ => ⟨S18944x3584, .fp8e4m3⟩
  | .hbm, ⟨2, _⟩ => ⟨S256, .f32⟩
  | .hbm, ⟨3, _⟩ => ⟨S3584, .f32⟩
  | .hbm, ⟨4, _⟩ => ⟨S1x256, .f32⟩
  | .hbm, ⟨5, _⟩ => ⟨S256x3584, .bf16⟩
  | .local _ .vmem, ⟨0, _⟩ => ⟨S256x18944, .fp8e4m3⟩
  | .local _ .vmem, ⟨1, _⟩ => ⟨S18944x3584, .fp8e4m3⟩
  | .local _ .vmem, ⟨2, _⟩ => ⟨S256, .f32⟩
  | .local _ .vmem, ⟨3, _⟩ => ⟨S3584, .f32⟩
  | .local _ .vmem, ⟨4, _⟩ => ⟨S256x3584, .bf16⟩
  | _, _ => ⟨S256x18944, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x18944 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18944x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Rotate.lean ====
abbrev S1x256x18944 : Shape := ⟨3, ![1, 256, 18944]⟩
abbrev S148x148 : Shape := ⟨2, ![148, 148]⟩
abbrev S256x18944 : Shape := ⟨2, ![256, 18944]⟩
abbrev S256x128 : Shape := ⟨2, ![256, 128]⟩
abbrev S32x18944 : Shape := ⟨2, ![32, 18944]⟩
abbrev S32x128 : Shape := ⟨2, ![32, 128]⟩
abbrev S2376x128 : Shape := ⟨2, ![2376, 128]⟩
abbrev S608x128 : Shape := ⟨2, ![608, 128]⟩
abbrev S4736x128 : Shape := ⟨2, ![4736, 128]⟩
abbrev S256x256 : Shape := ⟨2, ![256, 256]⟩
abbrev S160x512 : Shape := ⟨2, ![160, 512]⟩
abbrev S148x128 : Shape := ⟨2, ![148, 128]⟩
abbrev S12x128 : Shape := ⟨2, ![12, 128]⟩
abbrev S160x128 : Shape := ⟨2, ![160, 128]⟩
abbrev S148x20 : Shape := ⟨2, ![148, 20]⟩
abbrev S148x108 : Shape := ⟨2, ![148, 108]⟩
abbrev S16x128 : Shape := ⟨2, ![16, 128]⟩
abbrev S8x128 : Shape := ⟨2, ![8, 128]⟩
abbrev S4x128 : Shape := ⟨2, ![4, 128]⟩
abbrev S56x128 : Shape := ⟨2, ![56, 128]⟩
abbrev S152x128 : Shape := ⟨2, ![152, 128]⟩
abbrev S304x128 : Shape := ⟨2, ![304, 128]⟩
abbrev S304x256 : Shape := ⟨2, ![304, 256]⟩
abbrev S144x128 : Shape := ⟨2, ![144, 128]⟩
abbrev S128x128 : Shape := ⟨2, ![128, 128]⟩
abbrev S24x128 : Shape := ⟨2, ![24, 128]⟩
abbrev S512x128 : Shape := ⟨2, ![512, 128]⟩
abbrev S512x256 : Shape := ⟨2, ![512, 256]⟩
abbrev S160x256 : Shape := ⟨2, ![160, 256]⟩
abbrev S128 : Shape := ⟨1, ![128]⟩
abbrev S1x128 : Shape := ⟨2, ![1, 128]⟩
abbrev S32 : Shape := ⟨1, ![32]⟩
abbrev S32x1 : Shape := ⟨2, ![32, 1]⟩
abbrev S32x256 : Shape := ⟨2, ![32, 256]⟩

abbrev nBuf : Space → Nat
  | .hbm => 5
  | .vmem => 13
  | .smem => 0
  | _ => 0

abbrev bufTy : (tb : Table) → Fin (tcTables nBuf tb) → BufTy
  | .hbm, ⟨0, _⟩ => ⟨S1x256x18944, .bf16⟩
  | .hbm, ⟨1, _⟩ => ⟨S148x148, .f32⟩
  | .hbm, ⟨2, _⟩ => ⟨S256x18944, .bf16⟩
  | .hbm, ⟨3, _⟩ => ⟨S256x18944, .fp8e4m3⟩
  | .hbm, ⟨4, _⟩ => ⟨S256x128, .f32⟩
  | .local _ .vmem, ⟨0, _⟩ => ⟨S32x18944, .bf16⟩
  | .local _ .vmem, ⟨1, _⟩ => ⟨S32x18944, .bf16⟩
  | .local _ .vmem, ⟨2, _⟩ => ⟨S148x148, .f32⟩
  | .local _ .vmem, ⟨3, _⟩ => ⟨S32x18944, .fp8e4m3⟩
  | .local _ .vmem, ⟨4, _⟩ => ⟨S32x18944, .fp8e4m3⟩
  | .local _ .vmem, ⟨5, _⟩ => ⟨S32x128, .f32⟩
  | .local _ .vmem, ⟨6, _⟩ => ⟨S32x128, .f32⟩
  | .local _ .vmem, ⟨7, _⟩ => ⟨S2376x128, .i32⟩
  | .local _ .vmem, ⟨8, _⟩ => ⟨S608x128, .f32⟩
  | .local _ .vmem, ⟨9, _⟩ => ⟨S4736x128, .f32⟩
  | .local _ .vmem, ⟨10, _⟩ => ⟨S256x256, .bf16⟩
  | .local _ .vmem, ⟨11, _⟩ => ⟨S160x512, .bf16⟩
  | .local _ .vmem, ⟨12, _⟩ => ⟨S32x128, .f32⟩
  | _, _ => ⟨S1x256x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x18944 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S148x148 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x18944 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RotateIdeal.lean ====
abbrev S2376x2x128 : Shape := ⟨3, ![2376, 2, 128]⟩
abbrev S2376x1x128 : Shape := ⟨3, ![2376, 1, 128]⟩
abbrev S8x2x128 : Shape := ⟨3, ![8, 2, 128]⟩
abbrev S8x1x128 : Shape := ⟨3, ![8, 1, 128]⟩
abbrev S4x2x128 : Shape := ⟨3, ![4, 2, 128]⟩
abbrev S4x1x128 : Shape := ⟨3, ![4, 1, 128]⟩
abbrev S152x2x128 : Shape := ⟨3, ![152, 2, 128]⟩
abbrev S152x1x128 : Shape := ⟨3, ![152, 1, 128]⟩
  | .local _ .vmem, ⟨7, _⟩ => ⟨S2376x2x128, .bf16⟩
variable {F : FTy → Type} [FloatOps F]
-- ==== RotateReferenceIdeal.lean ====
abbrev S1x256x18944 : Shape := ⟨3, ![1, 256, 18944]⟩
abbrev S148x148 : Shape := ⟨2, ![148, 148]⟩
abbrev S1x256x148x128 : Shape := ⟨4, ![1, 256, 148, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S1x256x128x148 : Shape := ⟨4, ![1, 256, 128, 148]⟩
abbrev S256x18944 : Shape := ⟨2, ![256, 18944]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S256x128 : Shape := ⟨2, ![256, 128]⟩

abbrev nBuf : Space → Nat
  | .hbm => 79
  | .vmem => 3
  | .smem => 0
  | _ => 0

abbrev bufTy : (tb : Table) → Fin (tcTables nBuf tb) → BufTy
  | .hbm, ⟨0, _⟩ => ⟨S1x256x18944, .bf16⟩
  | .hbm, ⟨1, _⟩ => ⟨S148x148, .f32⟩
  | .hbm, ⟨2, _⟩ => ⟨S1x256x18944, .f32⟩
  | .hbm, ⟨3, _⟩ => ⟨S1x256x148x128, .f32⟩
  | .hbm, ⟨4, _⟩ => ⟨S128, .i32⟩
  | .hbm, ⟨5, _⟩ => ⟨S128x1, .i32⟩
  | .hbm, ⟨6, _⟩ => ⟨S1x128, .i32⟩
  | .hbm, ⟨7, _⟩ => ⟨S128x128, .i32⟩
  | .hbm, ⟨8, _⟩ => ⟨S128x128, .i32⟩
  | .hbm, ⟨9, _⟩ => ⟨S128x128, .i32⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S_, .i32⟩
  | .hbm, ⟨15, _⟩ => ⟨S128x128, .i32⟩
  | .hbm, ⟨16, _⟩ => ⟨S128x128, .i1⟩
  | .hbm, ⟨17, _⟩ => ⟨S_, .f32⟩
  | .hbm, ⟨18, _⟩ => ⟨S_, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S1x256x148x128, .f32⟩
  | .hbm, ⟨24, _⟩ => ⟨S1x256x128x148, .f32⟩
  | .hbm, ⟨25, _⟩ => ⟨S1x256x148x128, .f32⟩
  | .hbm, ⟨26, _⟩ => ⟨S_, .f32⟩
  | .hbm, ⟨27, _⟩ => ⟨S1x256x148x128, .f32⟩
  | .hbm, ⟨28, _⟩ => ⟨S1x256x148x128, .f32⟩
  | .hbm, ⟨29, _⟩ => ⟨S256x18944, .f32⟩
  | .hbm, ⟨30, _⟩ => ⟨S256x18944, .f32⟩
  | .hbm, ⟨31, _⟩ => ⟨S_, .f32⟩
  | .hbm, ⟨32, _⟩ => ⟨S256, .f32⟩
  | .hbm, ⟨33, _⟩ => ⟨S_, .f32⟩
  | .hbm, ⟨34, _⟩ => ⟨S256, .f32⟩
  | .hbm, ⟨35, _⟩ => ⟨S256, .f32⟩
  | .hbm, ⟨36, _⟩ => ⟨S256, .i32⟩
  | .hbm, ⟨37, _⟩ => ⟨S_, .i32⟩
  | .hbm, ⟨38, _⟩ => ⟨S256, .i32⟩
  | .hbm, ⟨39, _⟩ => ⟨S256, .i32⟩
  | .hbm, ⟨40, _⟩ => ⟨S256, .f32⟩
  | .hbm, ⟨41, _⟩ => ⟨S256x1, .f32⟩
  | .hbm, ⟨42, _⟩ => ⟨S1x256, .f32⟩
  | .hbm, ⟨43, _⟩ => ⟨S256x256, .f32⟩
  | .hbm, ⟨44, _⟩ => ⟨S256x256, .f32⟩
  | .hbm, ⟨45, _⟩ => ⟨S256x256, .i1⟩
  | .hbm, ⟨46, _⟩ => ⟨S256x256, .i32⟩
  | .hbm, ⟨47, _⟩ => ⟨S_, .i32⟩
  | .hbm, ⟨48, _⟩ => ⟨S256, .i32⟩
  | .hbm, ⟨49, _⟩ => ⟨S_, .i32⟩
  | .hbm, ⟨50, _⟩ => ⟨S256, .i32⟩
  | .hbm, ⟨51, _⟩ => ⟨S256, .i32⟩
  | .hbm, ⟨52, _⟩ => ⟨S_, .i32⟩
  | .hbm, ⟨53, _⟩ => ⟨S256, .i32⟩
  | .hbm, ⟨54, _⟩ => ⟨S256, .i1⟩
  | .hbm, ⟨55, _⟩ => ⟨S_, .i32⟩
  | .hbm, ⟨56, _⟩ => ⟨S256, .i32⟩
  | .hbm, ⟨57, _⟩ => ⟨S256, .i32⟩
  | .hbm, ⟨58, _⟩ => ⟨S_, .i32⟩
  | .hbm, ⟨59, _⟩ => ⟨S_, .i32⟩
  | .hbm, ⟨60, _⟩ => ⟨S256, .i32⟩
  | .hbm, ⟨61, _⟩ => ⟨S256, .i32⟩
  | .hbm, ⟨62, _⟩ => ⟨S_, .i32⟩
  | .hbm, ⟨63, _⟩ => ⟨S256, .i32⟩
  | .hbm, ⟨64, _⟩ => ⟨S256, .i32⟩
  | .hbm, ⟨65, _⟩ => ⟨S_, .i32⟩
  | .hbm, ⟨66, _⟩ => ⟨S256, .i32⟩
  | .hbm, ⟨67, _⟩ => ⟨S256, .i32⟩
  | .hbm, ⟨68, _⟩ => ⟨S256, .f32⟩
  | .hbm, ⟨69, _⟩ => ⟨S_, .i32⟩
  | .hbm, ⟨70, _⟩ => ⟨S256, .i32⟩
  | .hbm, ⟨71, _⟩ => ⟨S256, .i32⟩
  | .hbm, ⟨72, _⟩ => ⟨S_, .i32⟩
  | .hbm, ⟨73, _⟩ => ⟨S256, .i32⟩
  | .hbm, ⟨74, _⟩ => ⟨S256, .i32⟩
  | .hbm, ⟨75, _⟩ => ⟨S256, .f32⟩
  | .hbm, ⟨76, _⟩ => ⟨S256x1, .f32⟩
  | .hbm, ⟨77, _⟩ => ⟨S256x128, .f32⟩
  | .hbm, ⟨78, _⟩ => ⟨S256x18944, .fp8e4m3⟩
  | .local _ .vmem, ⟨0, _⟩ => ⟨S256x18944, .f32⟩
  | .local _ .vmem, ⟨1, _⟩ => ⟨S256, .f32⟩
  | .local _ .vmem, ⟨2, _⟩ => ⟨S256x18944, .fp8e4m3⟩
  | _, _ => ⟨S1x256x18944, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_c_0 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_6 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_c_8 : Ref sig .tc := ⟨.hbm, 52, rfl⟩
abbrev main_v38 : Ref sig .tc := ⟨.hbm, 53, rfl⟩
abbrev main_v39 : Ref sig .tc := ⟨.hbm, 54, rfl⟩
abbrev main_c_9 : Ref sig .tc := ⟨.hbm, 55, rfl⟩
abbrev main_v40 : Ref sig .tc := ⟨.hbm, 56, rfl⟩
abbrev main_v41 : Ref sig .tc := ⟨.hbm, 57, rfl⟩
abbrev main_c_10 : Ref sig .tc := ⟨.hbm, 58, rfl⟩
abbrev main_call1_v0 : Ref sig .tc := ⟨.hbm, 59, rfl⟩
abbrev main_call1_v1 : Ref sig .tc := ⟨.hbm, 60, rfl⟩
abbrev main_v42 : Ref sig .tc := ⟨.hbm, 61, rfl⟩
abbrev main_c_11 : Ref sig .tc := ⟨.hbm, 62, rfl⟩
abbrev main_v43 : Ref sig .tc := ⟨.hbm, 63, rfl⟩
abbrev main_v44 : Ref sig .tc := ⟨.hbm, 64, rfl⟩
abbrev main_c_12 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_13 : Ref sig .tc := ⟨.hbm, 69, rfl⟩
abbrev main_v48 : Ref sig .tc := ⟨.hbm, 70, rfl⟩
abbrev main_v49 : Ref sig .tc := ⟨.hbm, 71, rfl⟩
abbrev main_c_14 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S256x18944 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x18944 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.DownRun.lean ====
/- The down-projection call, run at any float instance. Its second output, the row of scales, is written at the first grid
   point only and leaves for its array at the last one, so its staging buffer carries the row across the grid. This module
   states the body's triple in the two cases of its branch, the pipeline's proof data with both outputs named, and the run. -/

import proofs.«01_k».proof.Proof.Gen.KernelIdeal.Frame
import proofs.«01_k».proof.Proof.Gen.KernelIdeal.Skeleton
import Idealize.ShloMosaic.Lib.Pipeline.Value
import Idealize.ShloMosaic.Lib.Claim

set_option maxRecDepth 16384

noncomputable section

namespace Cert.KernelIdeal.Down

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch and the accesses -/

/-- The condition of the body's branch. -/
abbrev cond0_0 (i : grid0.Coords) : Prop := k0_cond1 i = 1#1
/-- It holds at the first point only. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, k0_cond1, e0]
    word_cmp
   : ∀ t : Fin grid0.N, cond0_0 (grid0.coords t) ↔ t.val % 14 = 0)

/-- The whole block of codes. -/
abbrev rC : Rect S256x18944 := Rect.unit (s := S256x18944) ![0, 0] S256x18944.size inb_S256x18944_S256x18944_0_0
/-- The whole block of weights. -/
abbrev rW : Rect S18944x256 := Rect.unit (s := S18944x256) ![0, 0] S18944x256.size inb_S18944x256_S18944x256_0_0
/-- The first column of the lane-replicated scales. -/
abbrev rX : Rect S256x128 := Rect.unit (s := S256x128) ![0, 0] S256x1.size inb_S256x128_S256x1_0_0
/-- The whole block of weight scales. -/
abbrev rS : Rect S1x256 := Rect.unit (s := S1x256) ![0, 0] S1x256.size inb_S1x256_S1x256_0_0
/-- The whole output block. -/
abbrev rO : Rect S256x256 := Rect.unit (s := S256x256) ![0, 0] S256x256.size inb_S256x256_S256x256_0_0
/-- The upper half of the replicated scales, -/
abbrev rU : Rect S256x128 := Rect.unit (s := S256x128) ![0, 0] S128x128.size inb_S256x128_S128x128_0_0
/-- and the lower half. -/
abbrev rL : Rect S256x128 := Rect.unit (s := S256x128) ![128, 0] S128x128.size inb_S256x128_S128x128_128_0
/-- The left half of the row of scales, -/
abbrev rA : Rect S1x256 := Rect.unit (s := S1x256) ![0, 0] S1x128.size inb_S1x256_S1x128_0_0
/-- and the right half. -/
abbrev rB : Rect S1x256 := Rect.unit (s := S1x256) ![0, 128] S1x128.size inb_S1x256_S1x128_0_128

/-- What the body leaves in the output block, from the blocks it is given. -/
def out4 (x0 : Vec F S256x18944 .fp8e4m3) (x1 : Vec F S18944x256 .fp8e4m3) (x2 : Vec F S256x128 .f32) (x3 : Vec F S1x256 .f32) : Vec F S256x256 .bf16 :=
  View.canon [⟨rO, k0_pay1 (View.ld x0 rC) (View.ld x1 rW) (View.ld x2 rX) (View.ld x3 rS)⟩]

/-- What the first point leaves in the row of scales, from the replicated scales. -/
def out5 (x2 : Vec F S256x128 .f32) : Vec F S1x256 .f32 :=
  View.canon [⟨rB, k0_pay3 (View.ld x2 rL)⟩, ⟨rA, k0_pay2 (View.ld x2 rU)⟩]

/-- The output block's one store covers it. -/
theorem cover4 (p0 : Vec F S256x256 .bf16) (y : S256x256.Idx) :
    ∃ pc ∈ ([⟨rO, p0⟩] : List (View.Piece (Elt F) S256x256 .bf16)), y ∈ pc.1.set :=
  View.cover_of_tiled [⟨rO, p0⟩] S256x256.size (by rfl) y

/-- The row's two stores cover it. -/
theorem cover5 (p0 p1 : Vec F S1x128 .f32) (y : S1x256.Idx) :
    ∃ pc ∈ ([⟨rB, p0⟩, ⟨rA, p1⟩] : List (View.Piece (Elt F) S1x256 .f32)), y ∈ pc.1.set :=
  View.cover_of_tiled [⟨rB, p0⟩, ⟨rA, p1⟩] S1x128.size (by rfl) y

/-! ## The body's triple -/

set_option maxHeartbeats 1000000 in
/-- The body at the first grid point: the output block is computed, and the scales' row is written in its two halves. -/
theorem run_first (c : Dev nD) (i : grid0.Coords) (arg1 : Memref sig .tc .vmem S256x18944 .fp8e4m3) (harg1 : arg1.IsWhole) (arg2 : Memref sig .tc .vmem S18944x256 .fp8e4m3) (harg2 : arg2.IsWhole) (arg3 : Memref sig .tc .vmem S256x128 .f32) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (hc : cond0_0 i)
    (x0 : Vec F S256x18944 .fp8e4m3) (x1 : Vec F S18944x256 .fp8e4m3) (x2 : Vec F S256x128 .f32) (x3 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4 x0 x1 x2 x3) ∗ owns (c : Thread nD τ) arg6 fullShare (out5 x2)) -∗ K ⟨⟩))
      ⊢ wp frame (wpE (defs₀ (F := F)) Variants.none c none) E (cc0_down_proj i arg1 harg1 arg2 harg2 arg3 harg3 arg4 harg4 arg5 harg5 arg6 harg6) K := by
  simp only [cc0_down_proj_eq_skeleton]; unfold cc0_down_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover4 _)
  · iexists _; isplitr
    swap; · iexact H5
    ipureintro
    exact View.read_writes_eq_canon _ _ _ (cover5 _ _)

set_option maxHeartbeats 1000000 in
/-- The body at a later grid point: the output block is computed, and the row of scales is left as found. -/
theorem run_later (c : Dev nD) (i : grid0.Coords) (arg1 : Memref sig .tc .vmem S256x18944 .fp8e4m3) (harg1 : arg1.IsWhole) (arg2 : Memref sig .tc .vmem S18944x256 .fp8e4m3) (harg2 : arg2.IsWhole) (arg3 : Memref sig .tc .vmem S256x128 .f32) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (hc : ¬cond0_0 i)
    (x0 : Vec F S256x18944 .fp8e4m3) (x1 : Vec F S18944x256 .fp8e4m3) (x2 : Vec F S256x128 .f32) (x3 : Vec F S1x256 .f32) (x5 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4 x0 x1 x2 x3) ∗ owns (c : Thread nD τ) arg6 fullShare x5) -∗ K ⟨⟩))
      ⊢ wp frame (wpE (defs₀ (F := F)) Variants.none c none) E (cc0_down_proj i arg1 harg1 arg2 harg2 arg3 harg3 arg4 harg4 arg5 harg5 arg6 harg6) K := by
  simp only [cc0_down_proj_eq_skeleton]; unfold cc0_down_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3 hf5
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover4 _)
  · iexists f5; isplitr; · ipureintro; rfl
    iexact H5

/-! ## The pipeline's proof data -/

/-- Window 0's current staging buffer at point `t`. -/
abbrev ms0_0 (t : Fin cfg0.N) : Memref sig .tc .vmem S256x18944 .fp8e4m3 := win0_0.stage (cfg0.slots t 0)
/-- Window 1's current staging buffer at point `t`. -/
abbrev ms0_1 (t : Fin cfg0.N) : Memref sig .tc .vmem S18944x256 .fp8e4m3 := win0_1.stage (cfg0.slots t 1)
/-- Window 2's current staging buffer at point `t`. -/
abbrev ms0_2 (t : Fin cfg0.N) : Memref sig .tc .vmem S256x128 .f32 := win0_2.stage (cfg0.slots t 2)
/-- Window 3's current staging buffer at point `t`. -/
abbrev ms0_3 (t : Fin cfg0.N) : Memref sig .tc .vmem S1x256 .f32 := win0_3.stage (cfg0.slots t 3)
/-- Window 4's current staging buffer at point `t`. -/
abbrev ms0_4 (t : Fin cfg0.N) : Memref sig .tc .vmem S256x256 .bf16 := win0_4.stage (cfg0.slots t 4)
/-- Window 5's current staging buffer at point `t`. -/
abbrev ms0_5 (t : Fin cfg0.N) : Memref sig .tc .vmem S1x256 .f32 := win0_5.stage (cfg0.slots t 5)

/-- The first grid point. -/
abbrev t0 : Fin cfg0.N := ⟨0, by decide⟩

/-- The row of scales as the first point writes it. -/
def row (c : Dev nD) : Vec F S1x256 .f32 := out5 (iblk m c 2 t0)

/-- The proof data: the arrays as the region finds them; after the body each input's buffer at its block, the output block
    computed from the blocks, and the row of scales as the first point writes it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
    | ⟨5, _⟩ => row m c
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- Input window 0's buffer is left at its block. -/
theorem after0_0 (c : Dev nD) (t : Fin cfg0.N) : (dats m 0 c).after 0 t = iblk m c 0 t := by dsimp only [dats]
/-- Input window 0's buffer holds its block when the body runs. -/
theorem before0_0 (c : Dev nD) (t : Fin cfg0.N) (d) : (dats m 0 c).before 0 t d = iblk m c 0 t :=
  before0_0_of m (dats m 0 c) (A_eq m c 0) (after0_0 m c) t d
/-- Input window 1's buffer is left at its block. -/
theorem after0_1 (c : Dev nD) (t : Fin cfg0.N) : (dats m 0 c).after 1 t = iblk m c 1 t := by dsimp only [dats]
/-- Input window 1's buffer holds its block when the body runs. -/
theorem before0_1 (c : Dev nD) (t : Fin cfg0.N) (d) : (dats m 0 c).before 1 t d = iblk m c 1 t :=
  before0_1_of m (dats m 0 c) (A_eq m c 1) (after0_1 m c) t d
/-- Input window 2's buffer is left at its block. -/
theorem after0_2 (c : Dev nD) (t : Fin cfg0.N) : (dats m 0 c).after 2 t = iblk m c 2 t := by dsimp only [dats]
/-- Input window 2's buffer holds its block when the body runs. -/
theorem before0_2 (c : Dev nD) (t : Fin cfg0.N) (d) : (dats m 0 c).before 2 t d = iblk m c 2 t :=
  before0_2_of m (dats m 0 c) (A_eq m c 2) (after0_2 m c) t d
/-- Input window 3's buffer is left at its block. -/
theorem after0_3 (c : Dev nD) (t : Fin cfg0.N) : (dats m 0 c).after 3 t = iblk m c 3 t := by dsimp only [dats]
/-- Input window 3's buffer holds its block when the body runs. -/
theorem before0_3 (c : Dev nD) (t : Fin cfg0.N) (d) : (dats m 0 c).before 3 t d = iblk m c 3 t :=
  before0_3_of m (dats m 0 c) (A_eq m c 3) (after0_3 m c) t d
/-- The output block is left computed. -/
theorem after0_4 (c : Dev nD) (t : Fin cfg0.N) : (dats m 0 c).after 4 t = out4 (iblk m c 0 t) (iblk m c 1 t) (iblk m c 2 t) (iblk m c 3 t) := by dsimp only [dats]
/-- The row is left as the first point writes it. -/
theorem after0_5 (c : Dev nD) (t : Fin cfg0.N) : (dats m 0 c).after 5 t = row m c := by dsimp only [dats]

/-- Window 0 is never idle. -/
theorem liveAt0_0 : ∀ t : Fin cfg0.N, cfg0.idle 0 (grid0.coords t) = false := fun _ => rfl
/-- Window 1 is never idle. -/
theorem liveAt0_1 : ∀ t : Fin cfg0.N, cfg0.idle 1 (grid0.coords t) = false := fun _ => rfl
/-- Window 2 is never idle. -/
theorem liveAt0_2 : ∀ t : Fin cfg0.N, cfg0.idle 2 (grid0.coords t) = false := fun _ => rfl
/-- Window 3 is never idle. -/
theorem liveAt0_3 : ∀ t : Fin cfg0.N, cfg0.idle 3 (grid0.coords t) = false := fun _ => rfl
/-- Window 4 is never idle. -/
theorem liveAt0_4 : ∀ t : Fin cfg0.N, cfg0.idle 4 (grid0.coords t) = false := fun _ => rfl
/-- The row's window is not idle at the first point. -/
theorem live5 (t : Fin cfg0.N) (h : t.val % 14 = 0) : cfg0.idle 5 (grid0.coords t) = false := by
  show (!(k0_cond1 (grid0.coords t) == 1#1)) = false
  rw [(hcond0_0 t).mpr h]; rfl
/-- It is idle at every other point. -/
theorem idle5 (t : Fin cfg0.N) (h : ¬ t.val % 14 = 0) : cfg0.idle 5 (grid0.coords t) = true := by
  show (!(k0_cond1 (grid0.coords t) == 1#1)) = true
  have h' : ¬ k0_cond1 (grid0.coords t) = 1#1 := fun e => h ((hcond0_0 t).mp e)
  simp [h']

/-- The scales' window does not move, so its block at the first point is its block at every point. -/
theorem row_eq (c : Dev nD) (t : Fin cfg0.N) : row m c = out5 (iblk m c 2 t) := rfl

/-- After the first point, the row's buffer holds the row when the body runs. -/
theorem before5 (c : Dev nD) (t : Fin cfg0.N) (h : ¬ t.val % 14 = 0) (d) : (dats m 0 c).before 5 t d = row m c := by
  obtain ⟨n, hn⟩ := t
  induction n with
  | zero => exact absurd rfl h
  | succ n ih =>
    have hn' : n < 14 := Nat.lt_of_lt_of_eq (Nat.lt_of_succ_lt hn) N_0
    have hn14 : n + 1 < 14 := Nat.lt_of_lt_of_eq hn N_0
    rw [Dat.before_of_pos _ _ _ (Nat.succ_ne_zero n) rfl]
    have hfl : (cfg0.win 5).flush ⟨n, Nat.lt_of_succ_lt hn⟩ = false := by
      rw [Bool.eq_false_iff]; intro e
      have := (flush0_5 _).mp e
      simp only at this; omega
    show (if (cfg0.win 5).flush ⟨n, Nat.lt_of_succ_lt hn⟩ then d else (dats m 0 c).left 5 ⟨n, Nat.lt_of_succ_lt hn⟩ d) = _
    rw [hfl, if_neg Bool.false_ne_true]
    unfold Dat.left
    by_cases h0 : n % 14 = 0
    · rw [live5 ⟨n, Nat.lt_of_succ_lt hn⟩ h0]
      show (dats m 0 c).kept 5 ⟨n, Nat.lt_of_succ_lt hn⟩ d = _
      unfold Dat.kept
      rw [after0_5]
      rfl
    · rw [idle5 ⟨n, Nat.lt_of_succ_lt hn⟩ h0]
      exact ih _ h0

/-- So a later point hands the row's buffer back holding the row. -/
theorem leaves5 (c : Dev nD) (t : Fin cfg0.N) (h : ¬ t.val % 14 = 0) :
    (owns (c : Thread nD τ) (ms0_5 t) fullShare (row m c) : sProp 𝕄) ⊢ (dats m 0 c).leavesExact 5 t := by
  cases hf : (cfg0.win 5).flush t with
  | false =>
    rw [Dat.leavesExact_idle _ _ _ (idle5 t h) hf]
    simp only [before5 m c t h]
    iintro H
    iexists (fun _ => Classical.arbitrary _)
    iexact H
  | true =>
    unfold Dat.leavesExact
    rw [idle5 t h, hf, after0_5]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  by_cases h0 : t.val % 14 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [live5 t h0], after0_5]
    iintro ⟨HΦ, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ ((hcond0_0 t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    rw [row_eq m c t]
    iexact H5
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    simp only [before5 m c t h0]
    iintro ⟨HΦ, Ho, ⟨%d0, H0⟩, ⟨%d1, H1⟩, ⟨%d2, H2⟩, ⟨%d3, H3⟩, ⟨%d4, H4⟩, ⟨%d5, H5⟩⟩
    iapply (run_later c (grid0.coords t) _ _ _ _ _ _ _ _ _ _ _ _ (fun h => h0 ((hcond0_0 t).mp h)) (iblk m c 0 t) (iblk m c 1 t) (iblk m c 2 t) (iblk m c 3 t) (row m c) Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iapply (leaves5 m c t h0); iexact H5

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every weakly fair execution terminates with every array of the pipeline as the proof data computes it, every other
    unscoped buffer as the region found it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the arguments end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Down

end
-- ==== Proof.DownValue.lean ====
/- What the down-projection call computes, over the extended reals: its two result arrays as functions of the arguments, index by
   index. The first is the product of the codes and the weight codes, times the row's scale, times the column's scale; the
   second is the row of scales the body reads off the diagonal of the replicated scales, which is the scales themselves. -/

import proofs.«01_k».proof.Proof.DownRun
import Idealize.ShloMosaic.Lib.Pointwise
import Idealize.ShloMosaic.Lib.ValueIdx

noncomputable section

namespace Cert.KernelIdeal.Down

open Cert.KernelIdeal Cert.KernelIdeal.Gen
open Idealize.ShloMosaic Idealize.ShloMosaic.TcCoe Idealize.SL.Sem
open Idealize.ShloMosaic.Pipeline (Dat Cfg Window)

/-! ## The body's values at an index -/

/-- The output block's entry: a row of codes against a column of weights, times the two scales. -/
theorem pay1_apply (v0 : Vec Ideal S256x18944 .fp8e4m3) (v1 : Vec Ideal S18944x256 .fp8e4m3) (v3 : Vec Ideal S256x1 .f32) (v7 : Vec Ideal S1x256 .f32) (r : Fin 256) (c : Fin 256) :
    k0_pay1 v0 v1 v3 v7 (ix2 r c) = (∑ k : Fin 18944, v0 (ix2 r k) * v1 (ix2 k c)) * v3 (ix2 r 0) * v7 (ix2 0 c) := by
  pointwise [k0_pay1]

/-- Summing a square's columns with everything off the diagonal replaced by zero reads the diagonal (upper half). -/
theorem pay2_apply (v : Vec Ideal S128x128 .f32) (c : Fin 128) :
    k0_pay2 v (ix2 0 c) = v (ix2 c c) := by
  pointwise [k0_pay2]
  rw [Finset.sum_eq_single c]
  · rw [IntOp.cmpi_eq.mpr rfl]; rfl
  · intro b _ hb
    have h : ¬ IntOp.cmpi .eq (BitVec.ofNat 32 b.val) (BitVec.ofNat 32 c.val) = 1#1 := by
      rw [IntOp.cmpi_eq]
      intro h
      have := congrArg BitVec.toNat h
      simp only [BitVec.toNat_ofNat] at this
      rw [Nat.mod_eq_of_lt (by omega), Nat.mod_eq_of_lt (by omega)] at this
      exact hb (Fin.ext this)
    exact if_neg h
  · intro h; exact absurd (Finset.mem_univ _) h

/-- The same for the lower half. -/
theorem pay3_apply (v : Vec Ideal S128x128 .f32) (c : Fin 128) :
    k0_pay3 v (ix2 0 c) = v (ix2 c c) := by
  pointwise [k0_pay3]
  rw [Finset.sum_eq_single c]
  · rw [IntOp.cmpi_eq.mpr rfl]; rfl
  · intro b _ hb
    have h : ¬ IntOp.cmpi .eq (BitVec.ofNat 32 b.val) (BitVec.ofNat 32 c.val) = 1#1 := by
      rw [IntOp.cmpi_eq]
      intro h
      have := congrArg BitVec.toNat h
      simp only [BitVec.toNat_ofNat] at this
      rw [Nat.mod_eq_of_lt (by omega), Nat.mod_eq_of_lt (by omega)] at this
      exact hb (Fin.ext this)
    exact if_neg h
  · intro h; exact absurd (Finset.mem_univ _) h

variable (m : (ℓ : Loc nD τ sig) → Buf (Elt Ideal) ℓ) (ρ : Dev nD → PrngReg)

/-! ## The arrays the call is given -/

/-- The scales, repeated along 128 lanes. -/
theorem V_scales (c : Dev nD) (r : Fin 256) (l : Fin 128) :
    (V m c main_v1 : Vec Ideal S256x128 .f32) (ix2 r l) = (m ((c : Thread nD τ).loc main_arg2) : Vec Ideal S256 .f32) (ix1 r) := by
  have h : (V m c main_v1 : Vec Ideal S256x128 .f32) =
      broadcastInDim S256x128 ![0, 1] bcast_S256x1_S256x128_0_1 (broadcastInDim S256x1 ![0] bcast_S256_S256x1_0 (m ((c : Thread nD τ).loc main_arg2) : Vec Ideal S256 .f32)) := rfl
  rw [h]
  pointwise

/-- The weight scales as one row. -/
theorem V_wscales (c : Dev nD) (q : Fin 3584) :
    (V m c main_v2 : Vec Ideal S1x3584 .f32) (ix2 0 q) = (m ((c : Thread nD τ).loc main_arg3) : Vec Ideal S3584 .f32) (ix1 q) := by
  have h : (V m c main_v2 : Vec Ideal S1x3584 .f32) =
      shapeCast S1x3584 (m ((c : Thread nD τ).loc main_arg3) : Vec Ideal S3584 .f32) shapeCasts_S3584_S1x3584 := rfl
  have key : ∀ x : Vec Ideal S3584 .f32, shapeCast S1x3584 x shapeCasts_S3584_S1x3584 (ix2 0 q) = x (ix1 q) := by
    intro x
    pointwise
  rw [h, key]

/-! ## The windows' blocks -/

/-- The block indices of the six windows at a point: only the weights, the weight scales and the output move, along columns. -/
theorem idx_facts : ∀ t : Fin cfg0.N,
    (win0_0.index t (0 : Fin 2) = 0 ∧ win0_0.index t (1 : Fin 2) = 0)
    ∧ (win0_1.index t (0 : Fin 2) = 0 ∧ win0_1.index t (1 : Fin 2) = t.val)
    ∧ (win0_2.index t (0 : Fin 2) = 0 ∧ win0_2.index t (1 : Fin 2) = 0)
    ∧ (win0_3.index t (0 : Fin 2) = 0 ∧ win0_3.index t (1 : Fin 2) = t.val)
    ∧ (win0_4.index t (0 : Fin 2) = 0 ∧ win0_4.index t (1 : Fin 2) = t.val)
    ∧ (win0_5.index t (0 : Fin 2) = 0 ∧ win0_5.index t (1 : Fin 2) = 0) :=
  (by decide +kernel : ∀ t : Fin grid0.N, _)

/-- Column `j` of block `t`, as a column of the array. -/
def col (t : Fin cfg0.N) (j : Fin 256) : Fin 3584 :=
  ⟨t.val * 256 + j.val, by have ht : t.val < 14 := Nat.lt_of_lt_of_eq t.isLt N_0; omega⟩

/-- Window 0's block at point `t`, placed in its array. -/
theorem emb0 (t : Fin cfg0.N) (a : Fin 256) (b : Fin 18944) : ((cfg0.win 0).blk t).view.emb (ix2 a b : S256x18944.Idx) = (ix2 a b : S256x18944.Idx) := by
  obtain ⟨h0, h1, h2, h3, h4, h5⟩ := idx_facts t
  obtain ⟨e0, e1⟩ := h0
  funext x; apply Fin.ext
  match x with
  | ⟨0, _⟩ => show win0_0.index t (0 : Fin 2) * 256 + 1 * a.val = a.val; omega
  | ⟨1, _⟩ => show win0_0.index t (1 : Fin 2) * 18944 + 1 * b.val = b.val; rw [e1]; omega

/-- Window 1's block at point `t`, placed in its array. -/
theorem emb1 (t : Fin cfg0.N) (a : Fin 18944) (b : Fin 256) : ((cfg0.win 1).blk t).view.emb (ix2 a b : S18944x256.Idx) = (ix2 a (col t b) : S18944x3584.Idx) := by
  obtain ⟨h0, h1, h2, h3, h4, h5⟩ := idx_facts t
  obtain ⟨e0, e1⟩ := h1
  funext x; apply Fin.ext
  match x with
  | ⟨0, _⟩ => show win0_1.index t (0 : Fin 2) * 18944 + 1 * a.val = a.val; omega
  | ⟨1, _⟩ => show win0_1.index t (1 : Fin 2) * 256 + 1 * b.val = t.val * 256 + b.val; rw [e1]; omega

/-- Window 2's block at point `t`, placed in its array. -/
theorem emb2 (t : Fin cfg0.N) (a : Fin 256) (b : Fin 128) : ((cfg0.win 2).blk t).view.emb (ix2 a b : S256x128.Idx) = (ix2 a b : S256x128.Idx) := by
  obtain ⟨h0, h1, h2, h3, h4, h5⟩ := idx_facts t
  obtain ⟨e0, e1⟩ := h2
  funext x; apply Fin.ext
  match x with
  | ⟨0, _⟩ => show win0_2.index t (0 : Fin 2) * 256 + 1 * a.val = a.val; omega
  | ⟨1, _⟩ => show win0_2.index t (1 : Fin 2) * 128 + 1 * b.val = b.val; rw [e1]; omega

/-- Window 3's block at point `t`, placed in its array. -/
theorem emb3 (t : Fin cfg0.N) (a : Fin 1) (b : Fin 256) : ((cfg0.win 3).blk t).view.emb (ix2 a b : S1x256.Idx) = (ix2 a (col t b) : S1x3584.Idx) := by
  obtain ⟨h0, h1, h2, h3, h4, h5⟩ := idx_facts t
  obtain ⟨e0, e1⟩ := h3
  funext x; apply Fin.ext
  match x with
  | ⟨0, _⟩ => show win0_3.index t (0 : Fin 2) * 1 + 1 * a.val = a.val; omega
  | ⟨1, _⟩ => show win0_3.index t (1 : Fin 2) * 256 + 1 * b.val = t.val * 256 + b.val; rw [e1]; omega

/-- Window 4's block at point `t`, placed in its array. -/
theorem emb4 (t : Fin cfg0.N) (a : Fin 256) (b : Fin 256) : ((cfg0.win 4).blk t).view.emb (ix2 a b : S256x256.Idx) = (ix2 a (col t b) : S256x3584.Idx) := by
  obtain ⟨h0, h1, h2, h3, h4, h5⟩ := idx_facts t
  obtain ⟨e0, e1⟩ := h4
  funext x; apply Fin.ext
  match x with
  | ⟨0, _⟩ => show win0_4.index t (0 : Fin 2) * 256 + 1 * a.val = a.val; omega
  | ⟨1, _⟩ => show win0_4.index t (1 : Fin 2) * 256 + 1 * b.val = t.val * 256 + b.val; rw [e1]; omega

/-- Window 5's block at point `t`, placed in its array. -/
theorem emb5 (t : Fin cfg0.N) (a : Fin 1) (b : Fin 256) : ((cfg0.win 5).blk t).view.emb (ix2 a b : S1x256.Idx) = (ix2 a b : S1x256.Idx) := by
  obtain ⟨h0, h1, h2, h3, h4, h5⟩ := idx_facts t
  obtain ⟨e0, e1⟩ := h5
  funext x; apply Fin.ext
  match x with
  | ⟨0, _⟩ => show win0_5.index t (0 : Fin 2) * 1 + 1 * a.val = a.val; omega
  | ⟨1, _⟩ => show win0_5.index t (1 : Fin 2) * 256 + 1 * b.val = b.val; rw [e1]; omega

/-- A block of codes is the codes. -/
theorem blk0 (c : Dev nD) (t : Fin cfg0.N) (r : Fin 256) (k : Fin 18944) :
    (iblk m c 0 t : Vec Ideal S256x18944 .fp8e4m3) (ix2 r k) = (m ((c : Thread nD τ).loc main_arg0) : Vec Ideal S256x18944 .fp8e4m3) (ix2 r k) := by
  show (V m c main_arg0 : Vec Ideal S256x18944 .fp8e4m3) (((cfg0.win 0).blk t).view.emb (ix2 r k : S256x18944.Idx)) = _
  rw [emb0, V_main_arg0]

/-- A block of weights is 256 columns of the weights. -/
theorem blk1 (c : Dev nD) (t : Fin cfg0.N) (k : Fin 18944) (j : Fin 256) :
    (iblk m c 1 t : Vec Ideal S18944x256 .fp8e4m3) (ix2 k j) = (m ((c : Thread nD τ).loc main_arg1) : Vec Ideal S18944x3584 .fp8e4m3) (ix2 k (col t j)) := by
  show (V m c main_arg1 : Vec Ideal S18944x3584 .fp8e4m3) (((cfg0.win 1).blk t).view.emb (ix2 k j : S18944x256.Idx)) = _
  rw [emb1, V_main_arg1]

/-- A block of replicated scales is the scales. -/
theorem blk2 (c : Dev nD) (t : Fin cfg0.N) (r : Fin 256) (l : Fin 128) :
    (iblk m c 2 t : Vec Ideal S256x128 .f32) (ix2 r l) = (m ((c : Thread nD τ).loc main_arg2) : Vec Ideal S256 .f32) (ix1 r) := by
  show (V m c main_v1 : Vec Ideal S256x128 .f32) (((cfg0.win 2).blk t).view.emb (ix2 r l : S256x128.Idx)) = _
  rw [emb2, V_scales]

/-- A block of weight scales is 256 of them. -/
theorem blk3 (c : Dev nD) (t : Fin cfg0.N) (j : Fin 256) :
    (iblk m c 3 t : Vec Ideal S1x256 .f32) (ix2 0 j) = (m ((c : Thread nD τ).loc main_arg3) : Vec Ideal S3584 .f32) (ix1 (col t j)) := by
  show (V m c main_v2 : Vec Ideal S1x3584 .f32) (((cfg0.win 3).blk t).view.emb (ix2 0 j : S1x256.Idx)) = _
  rw [emb3, V_wscales]

/-! ## What the body leaves, at an index -/

theorem hz2 : (![0, 0] : Fin 2 → Nat) = fun _ => 0 := funext fun a => by fin_cases a <;> rfl

/-- The output block. -/
theorem out4_apply (x0 : Vec Ideal S256x18944 .fp8e4m3) (x1 : Vec Ideal S18944x256 .fp8e4m3) (x2 : Vec Ideal S256x128 .f32) (x3 : Vec Ideal S1x256 .f32) (r j : Fin 256) :
    out4 x0 x1 x2 x3 (ix2 r j) = (∑ k : Fin 18944, x0 (ix2 r k) * x1 (ix2 k j)) * x2 (ix2 r 0) * x3 (ix2 0 j) := by
  unfold out4
  rw [View.canon_unit_zero hz2, View.ld_unit_zero (S := S256x18944) hz2 _ x0, View.ld_unit_zero (S := S18944x256) hz2 _ x1, View.ld_unit_zero (S := S1x256) hz2 _ x3]
  have hX : View.ld x2 rX (ix2 r 0) = x2 (ix2 r 0) := by
    show x2 (rX.emb (ix2 r 0 : S256x1.Idx)) = _
    congr 1
    funext x; apply Fin.ext
    match x with
    | ⟨0, _⟩ => show 0 + 1 * r.val = r.val; omega
    | ⟨1, _⟩ => rfl
  refine (pay1_apply x0 x1 (View.ld x2 rX) x3 r j).trans ?_
  rw [hX]

/-- The row of scales, at each column. -/
theorem out5_apply (x2 : Vec Ideal S256x128 .f32) (v : Vec Ideal S256 .f32) (h : ∀ (r : Fin 256) (l : Fin 128), x2 (ix2 r l) = v (ix1 r)) (j : Fin 256) :
    out5 x2 (ix2 0 j) = v (ix1 j) := by
  unfold out5
  by_cases hj : j.val < 128
  · have ho : (ix2 0 j : S1x256.Idx) ∉ rB.set := by
      intro hm
      have h' : 128 ≤ j.val := (Rect.mem_set_unit.mp hm 1).1
      omega
    refine (View.canon_cons_of_not_mem (⟨rB, k0_pay3 (View.ld x2 rL)⟩ : View.Piece (Elt Ideal) S1x256 .f32) _ ho).trans ?_
    have he : (ix2 0 j : S1x256.Idx) = rA.emb (ix2 0 ⟨j.val, hj⟩ : S1x128.Idx) := by
      funext x; apply Fin.ext
      match x with
      | ⟨0, _⟩ => rfl
      | ⟨1, _⟩ => show j.val = 0 + 1 * j.val; omega
    rw [he, View.canon_cons_emb]
    refine (pay2_apply (View.ld x2 rU) ⟨j.val, hj⟩).trans ?_
    have e2 : rU.emb (ix2 ⟨j.val, hj⟩ ⟨j.val, hj⟩ : S128x128.Idx) = (ix2 j ⟨j.val, hj⟩ : S256x128.Idx) := by
      funext x; apply Fin.ext
      match x with
      | ⟨0, _⟩ => exact Nat.zero_add _ |>.trans (Nat.one_mul _)
      | ⟨1, _⟩ => exact Nat.zero_add _ |>.trans (Nat.one_mul _)
    show x2 (rU.emb (ix2 ⟨j.val, hj⟩ ⟨j.val, hj⟩ : S128x128.Idx)) = _
    rw [e2, h]
  · have hj' : j.val - 128 < 128 := by omega
    have he : (ix2 0 j : S1x256.Idx) = rB.emb (ix2 0 ⟨j.val - 128, hj'⟩ : S1x128.Idx) := by
      funext x; apply Fin.ext
      match x with
      | ⟨0, _⟩ => rfl
      | ⟨1, _⟩ => show j.val = 128 + 1 * (j.val - 128); omega
    rw [he, View.canon_cons_emb]
    refine (pay3_apply (View.ld x2 rL) ⟨j.val - 128, hj'⟩).trans ?_
    have e2 : rL.emb (ix2 ⟨j.val - 128, hj'⟩ ⟨j.val - 128, hj'⟩ : S128x128.Idx) = (ix2 j ⟨j.val - 128, hj'⟩ : S256x128.Idx) := by
      funext x; apply Fin.ext
      match x with
      | ⟨0, _⟩ => show 128 + 1 * (j.val - 128) = j.val; omega
      | ⟨1, _⟩ => show 0 + 1 * (j.val - 128) = j.val - 128; omega
    show x2 (rL.emb (ix2 ⟨j.val - 128, hj'⟩ ⟨j.val - 128, hj'⟩ : S128x128.Idx)) = _
    rw [e2, h]

/-! ## The arrays after the run -/

/-- The projection: codes times weight codes, times the row's scale, times the column's scale. -/
def proj (a0 : Vec Ideal S256x18944 .fp8e4m3) (a1 : Vec Ideal S18944x3584 .fp8e4m3) (a2 : Vec Ideal S256 .f32) (a3 : Vec Ideal S3584 .f32) : Vec Ideal S256x3584 .bf16 :=
  fun i => (∑ k : Fin 18944, a0 (ix2 (i 0) k) * a1 (ix2 k (i 1))) * a2 (ix1 (i 0)) * a3 (ix1 (i 1))

/-- The scales as one row. -/
def scaleRow (a2 : Vec Ideal S256 .f32) : Vec Ideal S1x256 .f32 := fun i => a2 (ix1 (i 1))

/-- The projection of the arguments as launched. -/
abbrev G4 (c : Dev nD) : Vec Ideal S256x3584 .bf16 :=
  proj (m ((c : Thread nD τ).loc main_arg0)) (m ((c : Thread nD τ).loc main_arg1)) (m ((c : Thread nD τ).loc main_arg2)) (m ((c : Thread nD τ).loc main_arg3))

/-- What each point writes back is its block of the projection. -/
theorem flushed4 (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4]
  funext j
  obtain ⟨r, q, rfl⟩ : ∃ (r q : Fin 256), j = (ix2 r q : S256x256.Idx) := ⟨j 0, j 1, eq_ix2 j⟩
  show out4 (iblk m c 0 t) (iblk m c 1 t) (iblk m c 2 t) (iblk m c 3 t) (ix2 r q) = G4 m c (((cfg0.win 4).blk t).view.emb (ix2 r q : S256x256.Idx))
  rw [emb4]
  refine (out4_apply _ _ _ _ r q).trans ?_
  simp only [blk0, blk1, blk2, blk3]
  rfl

/-- Every index of the output is in some point's block. -/
theorem covered4 (i : S256x3584.Idx) : ∃ t : Fin cfg0.N, (cfg0.win 4).flush t = true ∧ i ∈ ((cfg0.win 4).blk t).view.set := by
  obtain ⟨r, q, rfl⟩ : ∃ (r : Fin 256) (q : Fin 3584), i = (ix2 r q : S256x3584.Idx) := ⟨i 0, i 1, eq_ix2 i⟩
  have hq : q.val / 256 < cfg0.N := by rw [show cfg0.N = 14 from N_0]; omega
  refine ⟨⟨q.val / 256, hq⟩, flush0_4 _, ?_⟩
  have h := ((cfg0.win 4).blk ⟨q.val / 256, hq⟩).view.emb_mem_set (ix2 r (⟨q.val % 256, Nat.mod_lt _ (by decide)⟩ : Fin 256) : S256x256.Idx)
  rw [emb4] at h
  have e : col ⟨q.val / 256, hq⟩ ⟨q.val % 256, Nat.mod_lt _ (by decide)⟩ = q := by
    apply Fin.ext; show q.val / 256 * 256 + q.val % 256 = q.val; omega
  rwa [e] at h

/-- The output array after the run is the projection. -/
theorem final4 (c : Dev nD) : (dats m 0 c).arrAt 4 cfg0.N = G4 m c :=
  (dats m 0 c).arrAt_eq_of_cover 4 (G4 m c) (fun t _ => flushed4 m c t) covered4

/-- What the last point writes back is the scales as one row. -/
theorem flushed5 (c : Dev nD) (t : Fin cfg0.N) :
    (dats m 0 c).flushed 5 t = ((cfg0.win 5).blk t).view.read (Elt Ideal) (scaleRow (m ((c : Thread nD τ).loc main_arg2))) := by
  show (cfg0.win 5).cut (grid0.coords t) ((dats m 0 c).after 5 t) = _
  rw [after0_5]
  funext j
  obtain ⟨r, q, rfl⟩ : ∃ (r : Fin 1) (q : Fin 256), j = (ix2 r q : S1x256.Idx) := ⟨j 0, j 1, eq_ix2 j⟩
  obtain rfl : r = 0 := Subsingleton.elim _ _
  show row m c (ix2 0 q) = scaleRow (m ((c : Thread nD τ).loc main_arg2)) (((cfg0.win 5).blk t).view.emb (ix2 0 q : S1x256.Idx))
  rw [emb5]
  exact out5_apply _ (m ((c : Thread nD τ).loc main_arg2)) (fun r l => blk2 m c t0 r l) q

/-- The last point's block of the row is the whole row. -/
theorem covered5 (i : S1x256.Idx) : ∃ t : Fin cfg0.N, (cfg0.win 5).flush t = true ∧ i ∈ ((cfg0.win 5).blk t).view.set := by
  obtain ⟨r, q, rfl⟩ : ∃ (r : Fin 1) (q : Fin 256), i = (ix2 r q : S1x256.Idx) := ⟨i 0, i 1, eq_ix2 i⟩
  refine ⟨⟨13, by decide⟩, (flush0_5 _).mpr rfl, ?_⟩
  have h := ((cfg0.win 5).blk ⟨13, by decide⟩).view.emb_mem_set (ix2 r q : S1x256.Idx)
  rwa [emb5] at h

/-- The row's array after the run is the scales. -/
theorem final5 (c : Dev nD) : (dats m 0 c).arrAt 5 cfg0.N = scaleRow (m ((c : Thread nD τ).loc main_arg2)) :=
  (dats m 0 c).arrAt_eq_of_cover 5 (scaleRow (m ((c : Thread nD τ).loc main_arg2))) (fun t _ => flushed5 m c t) covered5

/-- The run: both results named, the arguments unchanged. -/
theorem run : θ_run defs (onTc (τ := τ) (main (F := Ideal))) ⟨m, fun _ => 0, ρ⟩ (fun r => ∀ c : Dev nD,
      r.2.mem ((c.tc : Thread nD τ).loc main_v3_0) = G4 m c
      ∧ r.2.mem ((c.tc : Thread nD τ).loc main_v3_1) = scaleRow (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (run_main m ρ) (unchanged m ρ))
  exact ⟨((h.1 c).1 4).trans (final4 m c), ((h.1 c).1 5).trans (final5 m c), h.2 c⟩

end Cert.KernelIdeal.Down

end
-- ==== Proof.DownEq.lean ====
/- The reference's results over the extended reals, index by index, and their agreement with the down-projection call's. -/

import proofs.«01_k».proof.Defs
import proofs.«01_k».proof.Proof.DownValue
import proofs.«01_k».proof.Proof.Gen.ReferenceIdeal.Value
import Idealize.ShloMosaic.Lib.Pointwise
import Idealize.ShloMosaic.Lib.ValueIdx

noncomputable section

namespace Cert.Proof.DownEq

open Idealize.ShloMosaic Idealize.ShloMosaic.TcCoe Idealize.SL.Sem
open Cert.ReferenceIdeal Cert.ReferenceIdeal.Gen

/-- The reference's first result at an index: the same sum of products and the same two scales. -/
theorem ref_apply (v0 : Vec Ideal S256x18944 .fp8e4m3) (v1 : Vec Ideal S18944x3584 .fp8e4m3) (v3 : Vec Ideal S256 .f32) (v7 : Vec Ideal S3584 .f32) (r : Fin 256) (c : Fin 3584) :
    k0_pay1 v0 v1 v3 v7 (ix2 r c) = (∑ k : Fin 18944, v0 (ix2 r k) * v1 (ix2 k c)) * v3 (ix1 r) * v7 (ix1 c) := by
  pointwise [k0_pay1]

/-- So the reference's first result is the projection. -/
theorem ref_eq (v0 : Vec Ideal S256x18944 .fp8e4m3) (v1 : Vec Ideal S18944x3584 .fp8e4m3) (v3 : Vec Ideal S256 .f32) (v7 : Vec Ideal S3584 .f32) :
    k0_pay1 v0 v1 v3 v7 = Cert.KernelIdeal.Down.proj v0 v1 v3 v7 := by
  funext i
  obtain ⟨r, q, rfl⟩ : ∃ (r : Fin 256) (q : Fin 3584), i = (ix2 r q : S256x3584.Idx) := ⟨i 0, i 1, eq_ix2 i⟩
  exact ref_apply v0 v1 v3 v7 r q

variable (m : (ℓ : Loc nD τ sig) → Buf (Elt Ideal) ℓ) (ρ : Dev nD → PrngReg)

/-- The reference's second result, the scales laid as one row. -/
theorem V_row (c : Dev nD) :
    (V m c main_v0 : Vec Ideal S1x256 .f32) = Cert.KernelIdeal.Down.scaleRow (m ((c : Thread nD τ).loc main_arg2) : Vec Ideal S256 .f32) := by
  have h : (V m c main_v0 : Vec Ideal S1x256 .f32) =
      shapeCast S1x256 (m ((c : Thread nD τ).loc main_arg2) : Vec Ideal S256 .f32) shapeCasts_S256_S1x256 := rfl
  have key : ∀ (x : Vec Ideal S256 .f32) (q : Fin 256), shapeCast S1x256 x shapeCasts_S256_S1x256 (ix2 0 q) = x (ix1 q) := by
    intro x q
    pointwise
  rw [h]
  funext i
  obtain ⟨r, q, rfl⟩ : ∃ (r : Fin 1) (q : Fin 256), i = (ix2 r q : S1x256.Idx) := ⟨i 0, i 1, eq_ix2 i⟩
  obtain rfl : r = 0 := Subsingleton.elim _ _
  exact key _ q

/-- The reference's run: both results named, the arguments unchanged. -/
theorem run : θ_run defs (onTc (τ := τ) (main (F := Ideal))) ⟨m, fun _ => 0, ρ⟩ (fun r => ∀ c : Dev nD,
      r.2.mem ((c.tc : Thread nD τ).loc main_v1) = Cert.KernelIdeal.Down.proj (m ((c : Thread nD τ).loc main_arg0)) (m ((c : Thread nD τ).loc main_arg1)) (m ((c : Thread nD τ).loc main_arg2)) (m ((c : Thread nD τ).loc main_arg3))
      ∧ r.2.mem ((c.tc : Thread nD τ).loc main_v0) = Cert.KernelIdeal.Down.scaleRow (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (run_main m ρ) (Cert.ReferenceIdeal.Value.run m ρ))
  refine ⟨(h.2 c).1.trans (ref_eq _ _ _ _), ?_, (h.2 c).2⟩
  exact ((h.1 c).2 main_v0 (Pipeline.mem_restRefs_of main_v0 (by decide) (by decide))).trans (V_row m c)

/-- The two programs end with equal results over the extended reals. -/
theorem algebraic [hKernelIdeal : Cert.KernelIdeal.Facts] [hReferenceIdeal : Cert.ReferenceIdeal.Facts] :
    Cert.algebraic_KernelIdeal_ReferenceIdeal := by
  intro m g m' g' _ hagree
  refine ⟨fun c => Cert.KernelIdeal.Down.G4 m c, fun c => Cert.KernelIdeal.Down.scaleRow (m ((c.tc : Thread Cert.KernelIdeal.nD Cert.KernelIdeal.τ).loc Cert.KernelIdeal.main_arg2)), Cert.KernelIdeal.Down.run m g, ?_⟩
  refine (θ_run _ _ _).mono (fun r h c => ?_) (run m' g')
  obtain ⟨h0, h1, hargs⟩ := h c
  obtain ⟨e0, e1, e2, e3⟩ := hagree c
  refine ⟨h0.trans ?_, h1.trans ?_, hargs⟩
  · rw [e0, e1, e2, e3]
  · rw [e2]

end Cert.Proof.DownEq

end
-- ==== Proof.DownFrame.lean ====
/- The down-projection call, run at any float instance. Its second output, the row of scales, is written at the first grid
   point only and leaves for its array at the last one, so its staging buffer carries the row across the grid. This module
   states the body's triple in the two cases of its branch, the pipeline's proof data with both outputs named, and the run. -/

import proofs.«01_k».proof.Proof.Gen.Kernel.Frame
import proofs.«01_k».proof.Proof.Gen.Kernel.Skeleton
import Idealize.ShloMosaic.Lib.Pipeline.Value
import Idealize.ShloMosaic.Lib.Claim

set_option maxRecDepth 16384

noncomputable section

namespace Cert.Kernel.Down

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch and the accesses -/

/-- The condition of the body's branch. -/
abbrev cond0_0 (i : grid0.Coords) : Prop := k0_cond1 i = 1#1
/-- It holds at the first point only. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, k0_cond1, e0]
    word_cmp
   : ∀ t : Fin grid0.N, cond0_0 (grid0.coords t) ↔ t.val % 14 = 0)

/-- The whole block of codes. -/
abbrev rC : Rect S256x18944 := Rect.unit (s := S256x18944) ![0, 0] S256x18944.size inb_S256x18944_S256x18944_0_0
/-- The whole block of weights. -/
abbrev rW : Rect S18944x256 := Rect.unit (s := S18944x256) ![0, 0] S18944x256.size inb_S18944x256_S18944x256_0_0
/-- The first column of the lane-replicated scales. -/
abbrev rX : Rect S256x128 := Rect.unit (s := S256x128) ![0, 0] S256x1.size inb_S256x128_S256x1_0_0
/-- The whole block of weight scales. -/
abbrev rS : Rect S1x256 := Rect.unit (s := S1x256) ![0, 0] S1x256.size inb_S1x256_S1x256_0_0
/-- The whole output block. -/
abbrev rO : Rect S256x256 := Rect.unit (s := S256x256) ![0, 0] S256x256.size inb_S256x256_S256x256_0_0
/-- The upper half of the replicated scales, -/
abbrev rU : Rect S256x128 := Rect.unit (s := S256x128) ![0, 0] S128x128.size inb_S256x128_S128x128_0_0
/-- and the lower half. -/
abbrev rL : Rect S256x128 := Rect.unit (s := S256x128) ![128, 0] S128x128.size inb_S256x128_S128x128_128_0
/-- The left half of the row of scales, -/
abbrev rA : Rect S1x256 := Rect.unit (s := S1x256) ![0, 0] S1x128.size inb_S1x256_S1x128_0_0
/-- and the right half. -/
abbrev rB : Rect S1x256 := Rect.unit (s := S1x256) ![0, 128] S1x128.size inb_S1x256_S1x128_0_128

/-- What the body leaves in the output block, from the blocks it is given. -/
def out4 (x0 : Vec F S256x18944 .fp8e4m3) (x1 : Vec F S18944x256 .fp8e4m3) (x2 : Vec F S256x128 .f32) (x3 : Vec F S1x256 .f32) : Vec F S256x256 .bf16 :=
  View.canon [⟨rO, k0_pay1 (View.ld x0 rC) (View.ld x1 rW) (View.ld x2 rX) (View.ld x3 rS)⟩]

/-- What the first point leaves in the row of scales, from the replicated scales. -/
def out5 (x2 : Vec F S256x128 .f32) : Vec F S1x256 .f32 :=
  View.canon [⟨rB, k0_pay3 (View.ld x2 rL)⟩, ⟨rA, k0_pay2 (View.ld x2 rU)⟩]

/-- The output block's one store covers it. -/
theorem cover4 (p0 : Vec F S256x256 .bf16) (y : S256x256.Idx) :
    ∃ pc ∈ ([⟨rO, p0⟩] : List (View.Piece (Elt F) S256x256 .bf16)), y ∈ pc.1.set :=
  View.cover_of_tiled [⟨rO, p0⟩] S256x256.size (by rfl) y

/-- The row's two stores cover it. -/
theorem cover5 (p0 p1 : Vec F S1x128 .f32) (y : S1x256.Idx) :
    ∃ pc ∈ ([⟨rB, p0⟩, ⟨rA, p1⟩] : List (View.Piece (Elt F) S1x256 .f32)), y ∈ pc.1.set :=
  View.cover_of_tiled [⟨rB, p0⟩, ⟨rA, p1⟩] S1x128.size (by rfl) y

/-! ## The body's triple -/

set_option maxHeartbeats 1000000 in
/-- The body at the first grid point: the output block is computed, and the scales' row is written in its two halves. -/
theorem run_first (c : Dev nD) (i : grid0.Coords) (arg1 : Memref sig .tc .vmem S256x18944 .fp8e4m3) (harg1 : arg1.IsWhole) (arg2 : Memref sig .tc .vmem S18944x256 .fp8e4m3) (harg2 : arg2.IsWhole) (arg3 : Memref sig .tc .vmem S256x128 .f32) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (hc : cond0_0 i)
    (x0 : Vec F S256x18944 .fp8e4m3) (x1 : Vec F S18944x256 .fp8e4m3) (x2 : Vec F S256x128 .f32) (x3 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4 x0 x1 x2 x3) ∗ owns (c : Thread nD τ) arg6 fullShare (out5 x2)) -∗ K ⟨⟩))
      ⊢ wp frame (wpE (defs₀ (F := F)) Variants.none c none) E (cc0_down_proj i arg1 harg1 arg2 harg2 arg3 harg3 arg4 harg4 arg5 harg5 arg6 harg6) K := by
  simp only [cc0_down_proj_eq_skeleton]; unfold cc0_down_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover4 _)
  · iexists _; isplitr
    swap; · iexact H5
    ipureintro
    exact View.read_writes_eq_canon _ _ _ (cover5 _ _)

set_option maxHeartbeats 1000000 in
/-- The body at a later grid point: the output block is computed, and the row of scales is left as found. -/
theorem run_later (c : Dev nD) (i : grid0.Coords) (arg1 : Memref sig .tc .vmem S256x18944 .fp8e4m3) (harg1 : arg1.IsWhole) (arg2 : Memref sig .tc .vmem S18944x256 .fp8e4m3) (harg2 : arg2.IsWhole) (arg3 : Memref sig .tc .vmem S256x128 .f32) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (hc : ¬cond0_0 i)
    (x0 : Vec F S256x18944 .fp8e4m3) (x1 : Vec F S18944x256 .fp8e4m3) (x2 : Vec F S256x128 .f32) (x3 : Vec F S1x256 .f32) (x5 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4 x0 x1 x2 x3) ∗ owns (c : Thread nD τ) arg6 fullShare x5) -∗ K ⟨⟩))
      ⊢ wp frame (wpE (defs₀ (F := F)) Variants.none c none) E (cc0_down_proj i arg1 harg1 arg2 harg2 arg3 harg3 arg4 harg4 arg5 harg5 arg6 harg6) K := by
  simp only [cc0_down_proj_eq_skeleton]; unfold cc0_down_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3 hf5
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover4 _)
  · iexists f5; isplitr; · ipureintro; rfl
    iexact H5

/-! ## The pipeline's proof data -/

/-- Window 0's current staging buffer at point `t`. -/
abbrev ms0_0 (t : Fin cfg0.N) : Memref sig .tc .vmem S256x18944 .fp8e4m3 := win0_0.stage (cfg0.slots t 0)
/-- Window 1's current staging buffer at point `t`. -/
abbrev ms0_1 (t : Fin cfg0.N) : Memref sig .tc .vmem S18944x256 .fp8e4m3 := win0_1.stage (cfg0.slots t 1)
/-- Window 2's current staging buffer at point `t`. -/
abbrev ms0_2 (t : Fin cfg0.N) : Memref sig .tc .vmem S256x128 .f32 := win0_2.stage (cfg0.slots t 2)
/-- Window 3's current staging buffer at point `t`. -/
abbrev ms0_3 (t : Fin cfg0.N) : Memref sig .tc .vmem S1x256 .f32 := win0_3.stage (cfg0.slots t 3)
/-- Window 4's current staging buffer at point `t`. -/
abbrev ms0_4 (t : Fin cfg0.N) : Memref sig .tc .vmem S256x256 .bf16 := win0_4.stage (cfg0.slots t 4)
/-- Window 5's current staging buffer at point `t`. -/
abbrev ms0_5 (t : Fin cfg0.N) : Memref sig .tc .vmem S1x256 .f32 := win0_5.stage (cfg0.slots t 5)

/-- The first grid point. -/
abbrev t0 : Fin cfg0.N := ⟨0, by decide⟩

/-- The row of scales as the first point writes it. -/
def row (c : Dev nD) : Vec F S1x256 .f32 := out5 (iblk m c 2 t0)

/-- The proof data: the arrays as the region finds them; after the body each input's buffer at its block, the output block
    computed from the blocks, and the row of scales as the first point writes it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
    | ⟨5, _⟩ => row m c
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- Input window 0's buffer is left at its block. -/
theorem after0_0 (c : Dev nD) (t : Fin cfg0.N) : (dats m 0 c).after 0 t = iblk m c 0 t := by dsimp only [dats]
/-- Input window 0's buffer holds its block when the body runs. -/
theorem before0_0 (c : Dev nD) (t : Fin cfg0.N) (d) : (dats m 0 c).before 0 t d = iblk m c 0 t :=
  before0_0_of m (dats m 0 c) (A_eq m c 0) (after0_0 m c) t d
/-- Input window 1's buffer is left at its block. -/
theorem after0_1 (c : Dev nD) (t : Fin cfg0.N) : (dats m 0 c).after 1 t = iblk m c 1 t := by dsimp only [dats]
/-- Input window 1's buffer holds its block when the body runs. -/
theorem before0_1 (c : Dev nD) (t : Fin cfg0.N) (d) : (dats m 0 c).before 1 t d = iblk m c 1 t :=
  before0_1_of m (dats m 0 c) (A_eq m c 1) (after0_1 m c) t d
/-- Input window 2's buffer is left at its block. -/
theorem after0_2 (c : Dev nD) (t : Fin cfg0.N) : (dats m 0 c).after 2 t = iblk m c 2 t := by dsimp only [dats]
/-- Input window 2's buffer holds its block when the body runs. -/
theorem before0_2 (c : Dev nD) (t : Fin cfg0.N) (d) : (dats m 0 c).before 2 t d = iblk m c 2 t :=
  before0_2_of m (dats m 0 c) (A_eq m c 2) (after0_2 m c) t d
/-- Input window 3's buffer is left at its block. -/
theorem after0_3 (c : Dev nD) (t : Fin cfg0.N) : (dats m 0 c).after 3 t = iblk m c 3 t := by dsimp only [dats]
/-- Input window 3's buffer holds its block when the body runs. -/
theorem before0_3 (c : Dev nD) (t : Fin cfg0.N) (d) : (dats m 0 c).before 3 t d = iblk m c 3 t :=
  before0_3_of m (dats m 0 c) (A_eq m c 3) (after0_3 m c) t d
/-- The output block is left computed. -/
theorem after0_4 (c : Dev nD) (t : Fin cfg0.N) : (dats m 0 c).after 4 t = out4 (iblk m c 0 t) (iblk m c 1 t) (iblk m c 2 t) (iblk m c 3 t) := by dsimp only [dats]
/-- The row is left as the first point writes it. -/
theorem after0_5 (c : Dev nD) (t : Fin cfg0.N) : (dats m 0 c).after 5 t = row m c := by dsimp only [dats]

/-- Window 0 is never idle. -/
theorem liveAt0_0 : ∀ t : Fin cfg0.N, cfg0.idle 0 (grid0.coords t) = false := fun _ => rfl
/-- Window 1 is never idle. -/
theorem liveAt0_1 : ∀ t : Fin cfg0.N, cfg0.idle 1 (grid0.coords t) = false := fun _ => rfl
/-- Window 2 is never idle. -/
theorem liveAt0_2 : ∀ t : Fin cfg0.N, cfg0.idle 2 (grid0.coords t) = false := fun _ => rfl
/-- Window 3 is never idle. -/
theorem liveAt0_3 : ∀ t : Fin cfg0.N, cfg0.idle 3 (grid0.coords t) = false := fun _ => rfl
/-- Window 4 is never idle. -/
theorem liveAt0_4 : ∀ t : Fin cfg0.N, cfg0.idle 4 (grid0.coords t) = false := fun _ => rfl
/-- The row's window is not idle at the first point. -/
theorem live5 (t : Fin cfg0.N) (h : t.val % 14 = 0) : cfg0.idle 5 (grid0.coords t) = false := by
  show (!(k0_cond1 (grid0.coords t) == 1#1)) = false
  rw [(hcond0_0 t).mpr h]; rfl
/-- It is idle at every other point. -/
theorem idle5 (t : Fin cfg0.N) (h : ¬ t.val % 14 = 0) : cfg0.idle 5 (grid0.coords t) = true := by
  show (!(k0_cond1 (grid0.coords t) == 1#1)) = true
  have h' : ¬ k0_cond1 (grid0.coords t) = 1#1 := fun e => h ((hcond0_0 t).mp e)
  simp [h']

/-- The scales' window does not move, so its block at the first point is its block at every point. -/
theorem row_eq (c : Dev nD) (t : Fin cfg0.N) : row m c = out5 (iblk m c 2 t) := rfl

/-- After the first point, the row's buffer holds the row when the body runs. -/
theorem before5 (c : Dev nD) (t : Fin cfg0.N) (h : ¬ t.val % 14 = 0) (d) : (dats m 0 c).before 5 t d = row m c := by
  obtain ⟨n, hn⟩ := t
  induction n with
  | zero => exact absurd rfl h
  | succ n ih =>
    have hn' : n < 14 := Nat.lt_of_lt_of_eq (Nat.lt_of_succ_lt hn) N_0
    have hn14 : n + 1 < 14 := Nat.lt_of_lt_of_eq hn N_0
    rw [Dat.before_of_pos _ _ _ (Nat.succ_ne_zero n) rfl]
    have hfl : (cfg0.win 5).flush ⟨n, Nat.lt_of_succ_lt hn⟩ = false := by
      rw [Bool.eq_false_iff]; intro e
      have := (flush0_5 _).mp e
      simp only at this; omega
    show (if (cfg0.win 5).flush ⟨n, Nat.lt_of_succ_lt hn⟩ then d else (dats m 0 c).left 5 ⟨n, Nat.lt_of_succ_lt hn⟩ d) = _
    rw [hfl, if_neg Bool.false_ne_true]
    unfold Dat.left
    by_cases h0 : n % 14 = 0
    · rw [live5 ⟨n, Nat.lt_of_succ_lt hn⟩ h0]
      show (dats m 0 c).kept 5 ⟨n, Nat.lt_of_succ_lt hn⟩ d = _
      unfold Dat.kept
      rw [after0_5]
      rfl
    · rw [idle5 ⟨n, Nat.lt_of_succ_lt hn⟩ h0]
      exact ih _ h0

/-- So a later point hands the row's buffer back holding the row. -/
theorem leaves5 (c : Dev nD) (t : Fin cfg0.N) (h : ¬ t.val % 14 = 0) :
    (owns (c : Thread nD τ) (ms0_5 t) fullShare (row m c) : sProp 𝕄) ⊢ (dats m 0 c).leavesExact 5 t := by
  cases hf : (cfg0.win 5).flush t with
  | false =>
    rw [Dat.leavesExact_idle _ _ _ (idle5 t h) hf]
    simp only [before5 m c t h]
    iintro H
    iexists (fun _ => Classical.arbitrary _)
    iexact H
  | true =>
    unfold Dat.leavesExact
    rw [idle5 t h, hf, after0_5]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  by_cases h0 : t.val % 14 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [live5 t h0], after0_5]
    iintro ⟨HΦ, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ ((hcond0_0 t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    rw [row_eq m c t]
    iexact H5
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    simp only [before5 m c t h0]
    iintro ⟨HΦ, Ho, ⟨%d0, H0⟩, ⟨%d1, H1⟩, ⟨%d2, H2⟩, ⟨%d3, H3⟩, ⟨%d4, H4⟩, ⟨%d5, H5⟩⟩
    iapply (run_later c (grid0.coords t) _ _ _ _ _ _ _ _ _ _ _ _ (fun h => h0 ((hcond0_0 t).mp h)) (iblk m c 0 t) (iblk m c 1 t) (iblk m c 2 t) (iblk m c 3 t) (row m c) Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iapply (leaves5 m c t h0); iexact H5

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every weakly fair execution terminates with every array of the pipeline as the proof data computes it, every other
    unscoped buffer as the region found it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the arguments end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Down

end
-- ==== Proof.WrdCut.lean ====
/-
  The rotate-and-quantise body cut into four stretches: the two constant matrices, the transposition,
  the eight rotations with the row maxima and the scale, and the codes.
-/
import proofs.«01_k».proof.Proof.Gen.Rotate.Frame.Runs
import Idealize.ShloMosaic.Lib.Tactic.Stretches
import Idealize.ShloMosaic.Lib.Tactic.OpenCalls

set_option maxRecDepth 16384

noncomputable section

namespace Cert.Rotate.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

open_calls rot := cc0_rotate_quant [k0_part148, k0_part149, k0_part150, k0_part2, k0_part56]

cut_chain st := rot at 2, 76, 113

/-- The rows of the transposed scratch that the stores of the first two stretches fill lie in it. -/
theorem inb_big : ∀ a : Fin S2376x128.rank, (![0, 0] : Fin 2 → ℕ) a + (![2368, 128] : Fin 2 → ℕ) a ≤ S2376x128.size a := by
  decide

end Cert.Rotate.Gen

end
-- ==== Proof.WrdFold.lean ====
/-
  Folding the transposed scratch: the tiles the first two stretches store fill its first 2368 rows.
-/
import proofs.«01_k».proof.Proof.WrdCut

set_option maxRecDepth 16384

noncomputable section

namespace Cert.Rotate.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- What a whole buffer holds after writes that cover it: their canonical contents. -/
theorem owns_of_writes {sp : Space} {s : Shape} {e : EltTy} [∀ e, Nonempty (Elt F e)] (c : Dev nD) (M : Memref sig .tc sp s e)
    (f : M.view.ty.Contents (Elt F)) (L : List (View.Piece (Elt F) s e)) (h : ∀ y, ∃ p ∈ L, y ∈ p.1.set) :
    (M.view.loc (c : Thread nD τ) ↦[M.view.set]{fullShare} M.view.writes (Elt F) f L : sProp 𝕄) ⊢ owns (c : Thread nD τ) M fullShare (View.canon L) := by
  unfold owns
  iintro H
  iexists _; isplitr; swap; · iexact H
  ipureintro; exact View.read_writes_eq_canon _ _ _ h

/-- Writes that cover exactly the indices of the rectangle `R` are one write of `R`. -/
theorem writes_eq_one {sp : Space} {s : Shape} {e : EltTy} [∀ e, Nonempty (Elt F e)] (M : Memref sig .tc sp s e) (hM : M.IsWhole)
    (f : M.view.ty.Contents (Elt F)) (L : List (View.Piece (Elt F) s e)) (R : Rect s) (hcov : ∀ y ∈ R.set, ∃ p ∈ L, y ∈ p.1.set)
    (hin : ∀ p ∈ L, ∀ y ∈ p.1.set, y ∈ R.set) :
    M.view.writes (Elt F) f L = M.view.writes (Elt F) f [⟨R, fun x => View.canon L (R.emb x)⟩] := by
  rw [hM.eq_unread (f := M.view.writes (Elt F) f L) rfl]
  refine (hM.eq_unread ?_).symm
  funext y
  by_cases hy : y ∈ R.set
  · rw [View.read_writes_apply_eq_canon _ _ _ _ (hcov y hy), View.read_writes_apply_eq_canon _ _ _ _ ⟨_, List.mem_singleton.mpr rfl, hy⟩]
    obtain ⟨x, rfl⟩ := R.exists_idx_of_mem hy
    exact View.canon_cons_emb R (fun x => View.canon L (R.emb x)) [] x
  · rw [View.read_writes_apply_of_forall_not_mem _ _ _ _ fun p hp h => hy (hin p hp y h),
      View.read_writes_apply_of_forall_not_mem _ _ _ _ fun p hp h => hy (by rw [List.mem_singleton.mp hp] at h; exact h)]

/-- A tile's place in the transposed scratch: every 148th row of eight from row `o` on, every lane. -/
def tileOK (p : View.Piece (Elt F) S2376x128 .i32) : Bool :=
  p.1.size 0 == 8 && p.1.stride 0 == 148 && p.1.off 1 == 0 && p.1.size 1 == 128 && p.1.stride 1 == 1

/-- The first rows of the 296 tiles, last stored first. -/
def tileRows : List ℕ := (List.range 148).reverse.map (fun k => 1184 + k) ++ (List.range 148).reverse

/-- Pieces that stand at those places cover exactly the first 2368 rows. -/
theorem tiles_cover (L : List (View.Piece (Elt F) S2376x128 .i32)) (hok : L.all tileOK = true) (hrows : L.map (fun p => p.1.off 0) = tileRows) :
    (∀ y ∈ (Rect.unit (s := S2376x128) ![0, 0] (![2368, 128] : Fin 2 → ℕ) inb_big).set, ∃ p ∈ L, y ∈ p.1.set) ∧ (∀ p ∈ L, ∀ y ∈ p.1.set, y ∈ (Rect.unit (s := S2376x128) ![0, 0] (![2368, 128] : Fin 2 → ℕ) inb_big).set) := by
  have hok' : ∀ p ∈ L, p.1.size 0 = 8 ∧ p.1.stride 0 = 148 ∧ p.1.off 1 = 0 ∧ p.1.size 1 = 128 ∧ p.1.stride 1 = 1 := by
    intro p hp
    have := List.all_eq_true.mp hok p hp
    simpa [tileOK, and_assoc] using this
  constructor
  · intro y hy
    have h0 : (y 0 : ℕ) < 2368 := by
      have := (Rect.mem_set_unit.mp hy) 0
      simpa using this.2
    have hm : (148 * ((y 0 : ℕ) / 1184 * 8) + (y 0 : ℕ) % 148) ∈ tileRows := by
      unfold tileRows
      simp only [List.mem_append, List.mem_map, List.mem_reverse, List.mem_range]
      rcases Nat.lt_or_ge (y 0 : ℕ) 1184 with h | h
      · right; omega
      · left; exact ⟨(y 0 : ℕ) % 148, by omega, by omega⟩
    rw [← hrows, List.mem_map] at hm
    obtain ⟨p, hp, ho⟩ := hm
    obtain ⟨a1, a2, a3, a4, a5⟩ := hok' p hp
    refine ⟨p, hp, p.1.toLoadRect.mem_set.mpr fun a => ?_⟩
    match a with
    | ⟨0, _⟩ =>
      refine ⟨((y 0 : ℕ) / 148) % 8, ?_, ?_⟩
      · show _ < p.1.size 0; rw [a1]; omega
      · show (y 0 : ℕ) = p.1.off 0 + p.1.stride 0 * _; rw [a2, ho]; omega
    | ⟨1, _⟩ =>
      refine ⟨(y 1 : ℕ), ?_, ?_⟩
      · show _ < p.1.size 1; rw [a4]; exact (y 1).isLt
      · show (y 1 : ℕ) = p.1.off 1 + p.1.stride 1 * _; rw [a3, a5]; omega
  · intro p hp y hy
    obtain ⟨a1, a2, a3, a4, a5⟩ := hok' p hp
    have ho : p.1.off 0 ∈ tileRows := by rw [← hrows]; exact List.mem_map.mpr ⟨p, hp, rfl⟩
    have ho' : p.1.off 0 < 148 ∨ (1184 ≤ p.1.off 0 ∧ p.1.off 0 < 1332) := by
      unfold tileRows at ho
      simp only [List.mem_append, List.mem_map, List.mem_reverse, List.mem_range] at ho
      rcases ho with ⟨k, hk, h⟩ | h
      · right; omega
      · left; exact h
    obtain ⟨j, hj, he⟩ := (p.1.toLoadRect.mem_set.mp hy) 0
    rw [show p.1.toLoadRect.size 0 = 8 from a1] at hj
    rw [show p.1.toLoadRect.stride 0 = 148 from a2] at he
    refine Rect.mem_set_unit.mpr fun a => ?_
    match a with
    | ⟨0, _⟩ =>
      refine ⟨Nat.zero_le _, ?_⟩
      show (y 0 : ℕ) < 0 + 2368
      omega
    | ⟨1, _⟩ => exact ⟨Nat.zero_le _, by show (y 1 : ℕ) < 0 + 128; have := (y 1).isLt; exact lt_of_lt_of_eq this (by rfl)⟩

end Cert.Rotate.Gen

end
-- ==== Proof.WrdA1.lean ====
/-
  The run of the first stretch, at a first and at a later grid point.
-/
import proofs.«01_k».proof.Proof.WrdCut

set_option maxRecDepth 16384

noncomputable section

namespace Cert.Rotate.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 15240000 in set_option sl_exec.stridedRows true in
/-- The first stretch at a first grid point: it fills the two constant matrices. -/
noncomputable def runA1 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x128 .i32) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i)
    (x0 : Vec F S32x18944 .bf16) (x1 : Vec F S148x148 .f32) :
    Σ' (L8 : List (View.Piece (Elt F) S256x256 .bf16)), { L9 : List (View.Piece (Elt F) S160x512 .bf16) //
      ∀ (E : Set ℕ) (R : Type) (κ : Prog (TpuEff nD τ sig (Elt F) Λ₀ .tc) R) (Q : R → sProp 𝕄),
        iprop(owns (c : Thread nD τ) arg1 fullShare x0 ∗ owns (c : Thread nD τ) arg2 fullShare x1 ∗ (∃ d, owns (c : Thread nD τ) arg8 fullShare d) ∗ (∃ d, owns (c : Thread nD τ) arg9 fullShare d))
          ⊢ iprop(((owns (c : Thread nD τ) arg1 fullShare x0 ∗ owns (c : Thread nD τ) arg2 fullShare x1 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)) -∗ wp frame (wpE (defs₀ (F := F)) Variants.none c none) E (κ) Q)
            -∗ wp frame (wpE (defs₀ (F := F)) Variants.none c none) E (st1 i arg1 harg1 arg2 harg2 arg3 harg3 arg4 harg4 arg5 harg5 arg6 harg6 arg7 harg7 arg8 harg8 arg9 harg9 arg10 harg10 κ) Q) } := by
  refine ⟨?_, ?_, fun E R κ Q => ?run⟩
  case run =>
    unfold st1
    simp only [k0_part1_eq_skeleton]
    unfold owns
    iintro ⟨⟨%f1, %hf1, H1⟩, ⟨%f2, %hf2, H2⟩, ⟨%d8, %f8, -, H8⟩, ⟨%d9, %f9, -, H9⟩⟩ Hk
    obtain rfl := harg1.eq_unread hf1
    obtain rfl := harg2.eq_unread hf2
    sl_exec (disch := first | sl_exact hc0)
    iapply Hk
    isplitl [H1]
    · iexists _; isplitr; · ipureintro; exact harg1.read_unread _
      iexact H1
    isplitl [H2]
    · iexists _; isplitr; · ipureintro; exact harg2.read_unread _
      iexact H2
    isplitl [H8]
    · iexists _; iexact H8
    · iexists _; iexact H9

set_option maxHeartbeats 15240000 in set_option sl_exec.stridedRows true in
/-- The first stretch at a later grid point does nothing. -/
theorem runB1 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x128 .i32) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : ¬cond0_0 i) :
      ∀ (E : Set ℕ) (R : Type) (κ : Prog (TpuEff nD τ sig (Elt F) Λ₀ .tc) R) (Q : R → sProp 𝕄),
        (wp frame (wpE (defs₀ (F := F)) Variants.none c none) E (κ) Q : sProp 𝕄) ⊢ wp frame (wpE (defs₀ (F := F)) Variants.none c none) E (st1 i arg1 harg1 arg2 harg2 arg3 harg3 arg4 harg4 arg5 harg5 arg6 harg6 arg7 harg7 arg8 harg8 arg9 harg9 arg10 harg10 κ) Q := by
    intro E R κ Q
    unfold st1
    iintro Hk
    sl_exec (disch := first | sl_exact hc0)
    iexact Hk

end Cert.Rotate.Gen

end
-- ==== Proof.WrdA2.lean ====
/-
  The run of the second stretch.
-/
import proofs.«01_k».proof.Proof.WrdCut

set_option maxRecDepth 16384

noncomputable section

namespace Cert.Rotate.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 15240000 in set_option sl_exec.stridedRows true in
/-- The second stretch: the tiles of the transposed scratch, as pieces. -/
noncomputable def runA2 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x128 .i32) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole)
    (x0 : Vec F S32x18944 .bf16) :
    { L5 : List (View.Piece (Elt F) S2376x128 .i32) //
      ∀ (E : Set ℕ) (R : Type) (κ : Prog (TpuEff nD τ sig (Elt F) Λ₀ .tc) R) (Q : R → sProp 𝕄) (f5 : arg5.view.ty.Contents (Elt F)),
        iprop(owns (c : Thread nD τ) arg1 fullShare x0 ∗ arg5.view.loc (c : Thread nD τ) ↦[arg5.view.set]{fullShare} f5)
          ⊢ iprop(((owns (c : Thread nD τ) arg1 fullShare x0 ∗ arg5.view.loc (c : Thread nD τ) ↦[arg5.view.set]{fullShare} arg5.view.writes (Elt F) f5 L5) -∗ wp frame (wpE (defs₀ (F := F)) Variants.none c none) E (κ) Q)
            -∗ wp frame (wpE (defs₀ (F := F)) Variants.none c none) E (st2 i arg1 harg1 arg2 harg2 arg3 harg3 arg4 harg4 arg5 harg5 arg6 harg6 arg7 harg7 arg8 harg8 arg9 harg9 arg10 harg10 κ) Q) } := by
  refine ⟨?_, fun E R κ Q f5 => ?run⟩
  case run =>
    unfold st2
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton]
    unfold owns
    iintro ⟨⟨%f1, %hf1, H1⟩, H5⟩ Hk
    obtain rfl := harg1.eq_unread hf1
    sl_exec
    iapply Hk
    isplitl [H1]
    · iexists _; isplitr; · ipureintro; exact harg1.read_unread _
      iexact H1
    · iexact H5

end Cert.Rotate.Gen

end
-- ==== Proof.WrdB.lean ====
/-
  The run of the third stretch.
-/
import proofs.«01_k».proof.Proof.WrdCut

set_option maxRecDepth 16384

noncomputable section

namespace Cert.Rotate.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 15240000 in set_option sl_exec.stridedRows true in
/-- The third stretch: from the transposed tiles, the zero rows behind them, the eight rotations into the scratch of rotated values
    (pieces `L7`), the row maxima, and the scale stored (piece `L4`) and its reciprocal handed on. -/
noncomputable def runB (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x128 .i32) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole)
    (X : (Rect.unit (s := S2376x128) ![0, 0] (![2368, 128] : Fin 2 → ℕ) inb_big).shape.Idx → Elt F .i32) (hb : Vec F S256x256 .bf16) (he : Vec F S160x512 .bf16) :
    Σ' (L7 : List (View.Piece (Elt F) S4736x128 .f32)) (L4 : List (View.Piece (Elt F) S32x128 .f32)), { a : FVec F S32x128 .f32 //
      ∀ (E : Set ℕ) (R : Type) (κ : FVec F S32x128 .f32 → Prog (TpuEff nD τ sig (Elt F) Λ₀ .tc) R) (Q : R → sProp 𝕄),
        iprop((∃ f, arg5.view.loc (c : Thread nD τ) ↦[arg5.view.set]{fullShare} arg5.view.writes (Elt F) f [⟨(Rect.unit (s := S2376x128) ![0, 0] (![2368, 128] : Fin 2 → ℕ) inb_big), X⟩]) ∗ owns (c : Thread nD τ) arg8 fullShare hb ∗ owns (c : Thread nD τ) arg9 fullShare he ∗ (∃ d, owns (c : Thread nD τ) arg4 fullShare d) ∗ (∃ d, owns (c : Thread nD τ) arg6 fullShare d) ∗ (∃ d, owns (c : Thread nD τ) arg7 fullShare d) ∗ (∃ d, owns (c : Thread nD τ) arg10 fullShare d))
          ⊢ iprop((((∃ d, owns (c : Thread nD τ) arg5 fullShare d) ∗ owns (c : Thread nD τ) arg8 fullShare hb ∗ owns (c : Thread nD τ) arg9 fullShare he ∗ (∃ f, arg4.view.loc (c : Thread nD τ) ↦[arg4.view.set]{fullShare} arg4.view.writes (Elt F) f L4) ∗ (∃ d, owns (c : Thread nD τ) arg6 fullShare d) ∗ (∃ f, arg7.view.loc (c : Thread nD τ) ↦[arg7.view.set]{fullShare} arg7.view.writes (Elt F) f L7) ∗ (∃ d, owns (c : Thread nD τ) arg10 fullShare d)) -∗ wp frame (wpE (defs₀ (F := F)) Variants.none c none) E (κ a) Q)
            -∗ wp frame (wpE (defs₀ (F := F)) Variants.none c none) E (st3 i arg1 harg1 arg2 harg2 arg3 harg3 arg4 harg4 arg5 harg5 arg6 harg6 arg7 harg7 arg8 harg8 arg9 harg9 arg10 harg10 κ) Q) } := by
  refine ⟨?_, ?_, ?_, fun E R κ Q => ?run⟩
  case run =>
    unfold st3
    simp only [k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton]
    unfold owns
    iintro ⟨⟨%f5, H5⟩, ⟨%f8, %hf8, H8⟩, ⟨%f9, %hf9, H9⟩, ⟨%d4, %f4, -, H4⟩, ⟨%d6, %f6, -, H6⟩, ⟨%d7, %f7, -, H7⟩, ⟨%d10, %f10, -, H10⟩⟩ Hk
    obtain rfl := harg8.eq_unread hf8
    obtain rfl := harg9.eq_unread hf9
    sl_exec
    iapply Hk
    isplitl [H5]
    · iexists _, _; isplitr; swap; · iexact H5
      ipureintro; rfl
    isplitl [H8]
    · iexists _; isplitr; · ipureintro; exact harg8.read_unread _
      iexact H8
    isplitl [H9]
    · iexists _; isplitr; · ipureintro; exact harg9.read_unread _
      iexact H9
    isplitl [H4]
    · iexists _; iexact H4
    isplitl [H6]
    · iexists _, _; isplitr; swap; · iexact H6
      ipureintro; rfl
    isplitl [H7]
    · iexists _; iexact H7
    · iexists _, _; isplitr; swap; · iexact H10
      ipureintro; rfl

end Cert.Rotate.Gen

end
-- ==== Proof.WrdC.lean ====
/-
  The run of the fourth stretch.
-/
import proofs.«01_k».proof.Proof.WrdCut

set_option maxRecDepth 16384

noncomputable section

namespace Cert.Rotate.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 15240000 in set_option sl_exec.stridedRows true in
/-- The fourth stretch: the scratch of rotated values is read and the codes are stored, 148 column tiles as pieces. -/
noncomputable def runC (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x128 .i32) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole)
    (Y : Vec F S4736x128 .f32) (a : FVec F S32x128 .f32) :
    { L : List (View.Piece (Elt F) S32x18944 .fp8e4m3) //
      ∀ (E : Set ℕ) (R : Type) (κ : Prog (TpuEff nD τ sig (Elt F) Λ₀ .tc) R) (Q : R → sProp 𝕄),
        iprop(owns (c : Thread nD τ) arg7 fullShare Y ∗ (∃ d, owns (c : Thread nD τ) arg3 fullShare d))
          ⊢ iprop(((owns (c : Thread nD τ) arg7 fullShare Y ∗ (∃ f, arg3.view.loc (c : Thread nD τ) ↦[arg3.view.set]{fullShare} arg3.view.writes (Elt F) f L)) -∗ wp frame (wpE (defs₀ (F := F)) Variants.none c none) E (κ) Q)
            -∗ wp frame (wpE (defs₀ (F := F)) Variants.none c none) E (st4 i arg1 harg1 arg2 harg2 arg3 harg3 arg4 harg4 arg5 harg5 arg6 harg6 arg7 harg7 arg8 harg8 arg9 harg9 arg10 harg10 a κ) Q) } := by
  refine ⟨?_, fun E R κ Q => ?run⟩
  case run =>
    unfold st4
    simp only [k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton]
    unfold owns
    iintro ⟨⟨%f7, %hf7, H7⟩, ⟨%d3, %f3, -, H3⟩⟩ Hk
    obtain rfl := harg7.eq_unread hf7
    sl_exec
    iapply Hk
    isplitl [H7]
    · iexists _; isplitr; · ipureintro; exact harg7.read_unread _
      iexact H7
    · iexists _; iexact H3

end Cert.Rotate.Gen

end
-- ==== Proof.WrdRun.lean ====
/-
  The run of the whole body at a first and at a later grid point, from the runs of its four stretches.
-/
import proofs.«01_k».proof.Proof.WrdFold
import proofs.«01_k».proof.Proof.WrdA1
import proofs.«01_k».proof.Proof.WrdA2
import proofs.«01_k».proof.Proof.WrdB
import proofs.«01_k».proof.Proof.WrdC

set_option maxRecDepth 16384

noncomputable section

namespace Cert.Rotate.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- A whole buffer that holds the canonical contents of covering writes holds those writes over what it held. -/
theorem writes_of_owns {sp : Space} {s : Shape} {e : EltTy} [∀ e, Nonempty (Elt F e)] (c : Dev nD) (M : Memref sig .tc sp s e) (hM : M.IsWhole)
    (L : List (View.Piece (Elt F) s e)) (h : ∀ y, ∃ p ∈ L, y ∈ p.1.set) :
    (owns (c : Thread nD τ) M fullShare (View.canon L) : sProp 𝕄) ⊢ ∃ f, M.view.loc (c : Thread nD τ) ↦[M.view.set]{fullShare} M.view.writes (Elt F) f L := by
  unfold owns
  iintro ⟨%f, %hf, H⟩
  iexists f
  have e : M.view.writes (Elt F) f L = f := by
    rw [hM.eq_unread hf]
    exact hM.eq_unread (View.read_writes_eq_canon _ _ _ h)
  rw [e]
  iexact H

/-- A buffer at any contents is one with no writes over some contents. -/
theorem writes_of_any {sp : Space} {s : Shape} {e : EltTy} (c : Dev nD) (M : Memref sig .tc sp s e) :
    ((∃ d, owns (c : Thread nD τ) M fullShare d) : sProp 𝕄) ⊢ ∃ f, M.view.loc (c : Thread nD τ) ↦[M.view.set]{fullShare} M.view.writes (Elt F) f [] := by
  unfold owns
  iintro ⟨%d, %f, -, H⟩
  iexists f
  iexact H

/-- A buffer at any contents, its points-to opened. -/
theorem owns_at {sp : Space} {s : Shape} {e : EltTy} (c : Dev nD) (M : Memref sig .tc sp s e) :
    ((∃ d, owns (c : Thread nD τ) M fullShare d) : sProp 𝕄) ⊢ ∃ f, M.view.loc (c : Thread nD τ) ↦[M.view.set]{fullShare} f := by
  unfold owns
  iintro ⟨%d, %f, -, H⟩
  iexists f
  iexact H

theorem coverA8 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x128 .i32) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i) (x0 : Vec F S32x18944 .bf16) (x1 : Vec F S148x148 .f32) :
    ∀ y, ∃ p ∈ (runA1 c i arg1 harg1 arg2 harg2 arg3 harg3 arg4 harg4 arg5 harg5 arg6 harg6 arg7 harg7 arg8 harg8 arg9 harg9 arg10 harg10 hc0 x0 x1).1, y ∈ p.1.set :=
  View.cover_of_tiledL (runA1 c i arg1 harg1 arg2 harg2 arg3 harg3 arg4 harg4 arg5 harg5 arg6 harg6 arg7 harg7 arg8 harg8 arg9 harg9 arg10 harg10 hc0 x0 x1).1 S256x256.size (by sl_kernel_rfl)

theorem coverA9 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x128 .i32) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i) (x0 : Vec F S32x18944 .bf16) (x1 : Vec F S148x148 .f32) :
    ∀ y, ∃ p ∈ (runA1 c i arg1 harg1 arg2 harg2 arg3 harg3 arg4 harg4 arg5 harg5 arg6 harg6 arg7 harg7 arg8 harg8 arg9 harg9 arg10 harg10 hc0 x0 x1).2.1, y ∈ p.1.set :=
  View.cover_of_tiledL (runA1 c i arg1 harg1 arg2 harg2 arg3 harg3 arg4 harg4 arg5 harg5 arg6 harg6 arg7 harg7 arg8 harg8 arg9 harg9 arg10 harg10 hc0 x0 x1).2.1 S160x512.size (by sl_kernel_rfl)

theorem cover7 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x128 .i32) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (X : (Rect.unit (s := S2376x128) ![0, 0] (![2368, 128] : Fin 2 → ℕ) inb_big).shape.Idx → Elt F .i32) (hb : Vec F S256x256 .bf16) (he : Vec F S160x512 .bf16) :
    ∀ y, ∃ p ∈ (runB c i arg1 harg1 arg2 harg2 arg3 harg3 arg4 harg4 arg5 harg5 arg6 harg6 arg7 harg7 arg8 harg8 arg9 harg9 arg10 harg10 X hb he).1, y ∈ p.1.set :=
  View.cover_of_tiledL (runB c i arg1 harg1 arg2 harg2 arg3 harg3 arg4 harg4 arg5 harg5 arg6 harg6 arg7 harg7 arg8 harg8 arg9 harg9 arg10 harg10 X hb he).1 S148x128.size (by sl_kernel_rfl)

/-- The triple of the whole body at a first grid point from the triples of its four stretches, whatever pieces these leave. -/
theorem wholeA (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x128 .i32) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (x0 : Vec F S32x18944 .bf16) (x1 : Vec F S148x148 .f32) (L52 : List (View.Piece (Elt F) S2376x128 .i32))
    (L8 : List (View.Piece (Elt F) S256x256 .bf16)) (L9 : List (View.Piece (Elt F) S160x512 .bf16)) (hL8 : ∀ y, ∃ p ∈ L8, y ∈ p.1.set) (hL9 : ∀ y, ∃ p ∈ L9, y ∈ p.1.set)
    (hX : (∀ y ∈ (Rect.unit (s := S2376x128) ![0, 0] (![2368, 128] : Fin 2 → ℕ) inb_big).set, ∃ p ∈ L52, y ∈ p.1.set) ∧ (∀ p ∈ L52, ∀ y ∈ p.1.set, y ∈ (Rect.unit (s := S2376x128) ![0, 0] (![2368, 128] : Fin 2 → ℕ) inb_big).set))
    (L7 : List (View.Piece (Elt F) S4736x128 .f32)) (hL7 : ∀ y, ∃ p ∈ L7, y ∈ p.1.set) (L4 : List (View.Piece (Elt F) S32x128 .f32)) (a : FVec F S32x128 .f32)
    (L3o : List (View.Piece (Elt F) S32x18944 .fp8e4m3))
    (h1 : ∀ (E : Set ℕ) (R : Type) (κ : Prog (TpuEff nD τ sig (Elt F) Λ₀ .tc) R) (Q : R → sProp 𝕄),
        iprop(owns (c : Thread nD τ) arg1 fullShare x0 ∗ owns (c : Thread nD τ) arg2 fullShare x1 ∗ (∃ d, owns (c : Thread nD τ) arg8 fullShare d) ∗ (∃ d, owns (c : Thread nD τ) arg9 fullShare d))
          ⊢ iprop(((owns (c : Thread nD τ) arg1 fullShare x0 ∗ owns (c : Thread nD τ) arg2 fullShare x1 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)) -∗ wp frame (wpE (defs₀ (F := F)) Variants.none c none) E (κ) Q)
            -∗ wp frame (wpE (defs₀ (F := F)) Variants.none c none) E (st1 i arg1 harg1 arg2 harg2 arg3 harg3 arg4 harg4 arg5 harg5 arg6 harg6 arg7 harg7 arg8 harg8 arg9 harg9 arg10 harg10 κ) Q))
    (h2 : ∀ (E : Set ℕ) (R : Type) (κ : Prog (TpuEff nD τ sig (Elt F) Λ₀ .tc) R) (Q : R → sProp 𝕄) (f5 : arg5.view.ty.Contents (Elt F)),
        iprop(owns (c : Thread nD τ) arg1 fullShare x0 ∗ arg5.view.loc (c : Thread nD τ) ↦[arg5.view.set]{fullShare} f5)
          ⊢ iprop(((owns (c : Thread nD τ) arg1 fullShare x0 ∗ arg5.view.loc (c : Thread nD τ) ↦[arg5.view.set]{fullShare} arg5.view.writes (Elt F) f5 L52) -∗ wp frame (wpE (defs₀ (F := F)) Variants.none c none) E (κ) Q)
            -∗ wp frame (wpE (defs₀ (F := F)) Variants.none c none) E (st2 i arg1 harg1 arg2 harg2 arg3 harg3 arg4 harg4 arg5 harg5 arg6 harg6 arg7 harg7 arg8 harg8 arg9 harg9 arg10 harg10 κ) Q))
    (h3 : ∀ (E : Set ℕ) (R : Type) (κ : FVec F S32x128 .f32 → Prog (TpuEff nD τ sig (Elt F) Λ₀ .tc) R) (Q : R → sProp 𝕄),
        iprop((∃ f, arg5.view.loc (c : Thread nD τ) ↦[arg5.view.set]{fullShare} arg5.view.writes (Elt F) f [⟨(Rect.unit (s := S2376x128) ![0, 0] (![2368, 128] : Fin 2 → ℕ) inb_big), (fun e => View.canon (L52) ((Rect.unit (s := S2376x128) ![0, 0] (![2368, 128] : Fin 2 → ℕ) inb_big).emb e))⟩]) ∗ owns (c : Thread nD τ) arg8 fullShare (View.canon L8) ∗ owns (c : Thread nD τ) arg9 fullShare (View.canon L9) ∗ (∃ d, owns (c : Thread nD τ) arg4 fullShare d) ∗ (∃ d, owns (c : Thread nD τ) arg6 fullShare d) ∗ (∃ d, owns (c : Thread nD τ) arg7 fullShare d) ∗ (∃ d, owns (c : Thread nD τ) arg10 fullShare d))
          ⊢ iprop((((∃ d, owns (c : Thread nD τ) arg5 fullShare d) ∗ owns (c : Thread nD τ) arg8 fullShare (View.canon L8) ∗ owns (c : Thread nD τ) arg9 fullShare (View.canon L9) ∗ (∃ f, arg4.view.loc (c : Thread nD τ) ↦[arg4.view.set]{fullShare} arg4.view.writes (Elt F) f L4) ∗ (∃ d, owns (c : Thread nD τ) arg6 fullShare d) ∗ (∃ f, arg7.view.loc (c : Thread nD τ) ↦[arg7.view.set]{fullShare} arg7.view.writes (Elt F) f L7) ∗ (∃ d, owns (c : Thread nD τ) arg10 fullShare d)) -∗ wp frame (wpE (defs₀ (F := F)) Variants.none c none) E (κ a) Q)
            -∗ wp frame (wpE (defs₀ (F := F)) Variants.none c none) E (st3 i arg1 harg1 arg2 harg2 arg3 harg3 arg4 harg4 arg5 harg5 arg6 harg6 arg7 harg7 arg8 harg8 arg9 harg9 arg10 harg10 κ) Q))
    (h4 : ∀ (E : Set ℕ) (R : Type) (κ : Prog (TpuEff nD τ sig (Elt F) Λ₀ .tc) R) (Q : R → sProp 𝕄),
        iprop(owns (c : Thread nD τ) arg7 fullShare (View.canon L7) ∗ (∃ d, owns (c : Thread nD τ) arg3 fullShare d))
          ⊢ iprop(((owns (c : Thread nD τ) arg7 fullShare (View.canon L7) ∗ (∃ f, arg3.view.loc (c : Thread nD τ) ↦[arg3.view.set]{fullShare} arg3.view.writes (Elt F) f L3o)) -∗ wp frame (wpE (defs₀ (F := F)) Variants.none c none) E (κ) Q)
            -∗ wp frame (wpE (defs₀ (F := F)) Variants.none c none) E (st4 i arg1 harg1 arg2 harg2 arg3 harg3 arg4 harg4 arg5 harg5 arg6 harg6 arg7 harg7 arg8 harg8 arg9 harg9 arg10 harg10 a κ) Q)) :
    ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L3o) ∗ (∃ f, arg4.view.loc (c : Thread nD τ) ↦[arg4.view.set]{fullShare} arg4.view.writes (Elt F) f L4) ∗ (∃ d, owns (c : Thread nD τ) arg5 fullShare d) ∗ (∃ f, arg6.view.loc (c : Thread nD τ) ↦[arg6.view.set]{fullShare} arg6.view.writes (Elt F) f []) ∗ (∃ f, arg7.view.loc (c : Thread nD τ) ↦[arg7.view.set]{fullShare} arg7.view.writes (Elt F) f []) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f [])) -∗ K ⟨⟩))
          ⊢ wp frame (wpE (defs₀ (F := F)) Variants.none c none) E (cc0_rotate_quant i arg1 harg1 arg2 harg2 arg3 harg3 arg4 harg4 arg5 harg5 arg6 harg6 arg7 harg7 arg8 harg8 arg9 harg9 arg10 harg10) K  := by
  intro E K
  rw [rot.eq, st1.eq]
  iintro ⟨H1, H2, H3, H4, H5, H6, H7, H8, H9, H10, Hk⟩
  iapply (h1 _ _ _ _) $$ [H1 H2 H8 H9]
  · iframe
  iintro ⟨H1, H2, ⟨%f8, H8⟩, ⟨%f9, H9⟩⟩
  rw [st2.eq]
  icases owns_at c arg5 $$ H5 with ⟨%f5, H5⟩
  iapply (h2 _ _ _ _ _) $$ [H1 H5]
  · iframe
  iintro ⟨H1, H5⟩
  rw [writes_eq_one arg5 harg5 f5 _ (Rect.unit (s := S2376x128) ![0, 0] (![2368, 128] : Fin 2 → ℕ) inb_big) hX.1 hX.2, st3.eq]
  iapply (h3 _ _ _ _) $$ [H5 H8 H9 H4 H6 H7 H10]
  · isplitl [H5]
    · iexists _; iexact H5
    isplitl [H8]
    · iapply (owns_of_writes c arg8 f8 _ hL8); iexact H8
    isplitl [H9]
    · iapply (owns_of_writes c arg9 f9 _ hL9); iexact H9
    iframe
  iintro ⟨H5, H8, H9, H4, H6, ⟨%f7, H7⟩, H10⟩
  rw [st4.eq]
  iapply (h4 _ _ _ _) $$ [H7 H3]
  · isplitl [H7]
    · iapply (owns_of_writes c arg7 f7 _ hL7); iexact H7
    iexact H3
  iintro ⟨H7, H3⟩
  unfold st4.tail
  sl_step
  iapply Hk
  isplitl [H1]
  · iexact H1
  isplitl [H2]
  · iexact H2
  isplitl [H3]
  · iexact H3
  isplitl [H4]
  · iexact H4
  isplitl [H5]
  · iexact H5
  isplitl [H6]
  · iapply (writes_of_any c arg6); iexact H6
  isplitl [H7]
  · iapply (writes_of_any c arg7); iexists _; iexact H7
  isplitl [H8]
  · iapply (writes_of_owns c arg8 harg8 _ hL8); iexact H8
  isplitl [H9]
  · iapply (writes_of_owns c arg9 harg9 _ hL9); iexact H9
  iapply (writes_of_any c arg10); iexact H10

/-- The contents the transposed scratch's first 2368 rows end with. -/
def xtA (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x128 .i32) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i) (x0 : Vec F S32x18944 .bf16) (x1 : Vec F S148x148 .f32) : (Rect.unit (s := S2376x128) ![0, 0] (![2368, 128] : Fin 2 → ℕ) inb_big).shape.Idx → Elt F .i32 := fun e => View.canon ((runA2 c i arg1 harg1 arg2 harg2 arg3 harg3 arg4 harg4 arg5 harg5 arg6 harg6 arg7 harg7 arg8 harg8 arg9 harg9 arg10 harg10 x0).1) ((Rect.unit (s := S2376x128) ![0, 0] (![2368, 128] : Fin 2 → ℕ) inb_big).emb e)

theorem xtA_cover (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x128 .i32) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i) (x0 : Vec F S32x18944 .bf16) (x1 : Vec F S148x148 .f32) :
    (∀ y ∈ (Rect.unit (s := S2376x128) ![0, 0] (![2368, 128] : Fin 2 → ℕ) inb_big).set, ∃ p ∈ ((runA2 c i arg1 harg1 arg2 harg2 arg3 harg3 arg4 harg4 arg5 harg5 arg6 harg6 arg7 harg7 arg8 harg8 arg9 harg9 arg10 harg10 x0).1), y ∈ p.1.set) ∧ (∀ p ∈ ((runA2 c i arg1 harg1 arg2 harg2 arg3 harg3 arg4 harg4 arg5 harg5 arg6 harg6 arg7 harg7 arg8 harg8 arg9 harg9 arg10 harg10 x0).1), ∀ y ∈ p.1.set, y ∈ (Rect.unit (s := S2376x128) ![0, 0] (![2368, 128] : Fin 2 → ℕ) inb_big).set) :=
  tiles_cover _ (by sl_kernel_rfl) (by sl_kernel_rfl)

/-- What the body's stores leave in each output's buffer (`L2` the codes, `L3` the scale), as pieces, WITH the triple of the whole body
    at a first grid point: its four stretches run one after the other. -/
noncomputable def kernelRun0_A (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x128 .i32) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i)
    (x0 : Vec F S32x18944 .bf16) (x1 : Vec F S148x148 .f32) :
    Σ' (L2 : List (View.Piece (Elt F) S32x18944 .fp8e4m3)), Σ' (L3 : List (View.Piece (Elt F) S32x128 .f32)), Σ' (LS3 : List (View.Piece (Elt F) S256x256 .bf16)), Σ' (LS4 : List (View.Piece (Elt F) S160x512 .bf16)), Σ' (LT1 : List (View.Piece (Elt F) S608x128 .f32)), Σ' (LT2 : List (View.Piece (Elt F) S4736x128 .f32)), { LT5 : List (View.Piece (Elt F) S32x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ d, owns (c : Thread nD τ) arg5 fullShare d) ∗ (∃ f, arg6.view.loc (c : Thread nD τ) ↦[arg6.view.set]{fullShare} arg6.view.writes (Elt F) f LT1) ∗ (∃ f, arg7.view.loc (c : Thread nD τ) ↦[arg7.view.set]{fullShare} arg7.view.writes (Elt F) f LT2) ∗ (∃ f, arg8.view.loc (c : Thread nD τ) ↦[arg8.view.set]{fullShare} arg8.view.writes (Elt F) f LS3) ∗ (∃ f, arg9.view.loc (c : Thread nD τ) ↦[arg9.view.set]{fullShare} arg9.view.writes (Elt F) f LS4) ∗ (∃ f, arg10.view.loc (c : Thread nD τ) ↦[arg10.view.set]{fullShare} arg10.view.writes (Elt F) f LT5)) -∗ K ⟨⟩))
          ⊢ wp frame (wpE (defs₀ (F := F)) Variants.none c none) E (cc0_rotate_quant i arg1 harg1 arg2 harg2 arg3 harg3 arg4 harg4 arg5 harg5 arg6 harg6 arg7 harg7 arg8 harg8 arg9 harg9 arg10 harg10) K } :=
  ⟨(runC c i arg1 harg1 arg2 harg2 arg3 harg3 arg4 harg4 arg5 harg5 arg6 harg6 arg7 harg7 arg8 harg8 arg9 harg9 arg10 harg10 (View.canon (runB c i arg1 harg1 arg2 harg2 arg3 harg3 arg4 harg4 arg5 harg5 arg6 harg6 arg7 harg7 arg8 harg8 arg9 harg9 arg10 harg10 (xtA c i arg1 harg1 arg2 harg2 arg3 harg3 arg4 harg4 arg5 harg5 arg6 harg6 arg7 harg7 arg8 harg8 arg9 harg9 arg10 harg10 hc0 x0 x1) (View.canon (runA1 c i arg1 harg1 arg2 harg2 arg3 harg3 arg4 harg4 arg5 harg5 arg6 harg6 arg7 harg7 arg8 harg8 arg9 harg9 arg10 harg10 hc0 x0 x1).1) (View.canon (runA1 c i arg1 harg1 arg2 harg2 arg3 harg3 arg4 harg4 arg5 harg5 arg6 harg6 arg7 harg7 arg8 harg8 arg9 harg9 arg10 harg10 hc0 x0 x1).2.1)).1) (runB c i arg1 harg1 arg2 harg2 arg3 harg3 arg4 harg4 arg5 harg5 arg6 harg6 arg7 harg7 arg8 harg8 arg9 harg9 arg10 harg10 (xtA c i arg1 harg1 arg2 harg2 arg3 harg3 arg4 harg4 arg5 harg5 arg6 harg6 arg7 harg7 arg8 harg8 arg9 harg9 arg10 harg10 hc0 x0 x1) (View.canon (runA1 c i arg1 harg1 arg2 harg2 arg3 harg3 arg4 harg4 arg5 harg5 arg6 harg6 arg7 harg7 arg8 harg8 arg9 harg9 arg10 harg10 hc0 x0 x1).1) (View.canon (runA1 c i arg1 harg1 arg2 harg2 arg3 harg3 arg4 harg4 arg5 harg5 arg6 harg6 arg7 harg7 arg8 harg8 arg9 harg9 arg10 harg10 hc0 x0 x1).2.1)).2.2.1).1, (runB c i arg1 harg1 arg2 harg2 arg3 harg3 arg4 harg4 arg5 harg5 arg6 harg6 arg7 harg7 arg8 harg8 arg9 harg9 arg10 harg10 (xtA c i arg1 harg1 arg2 harg2 arg3 harg3 arg4 harg4 arg5 harg5 arg6 harg6 arg7 harg7 arg8 harg8 arg9 harg9 arg10 harg10 hc0 x0 x1) (View.canon (runA1 c i arg1 harg1 arg2 harg2 arg3 harg3 arg4 harg4 arg5 harg5 arg6 harg6 arg7 harg7 arg8 harg8 arg9 harg9 arg10 harg10 hc0 x0 x1).1) (View.canon (runA1 c i arg1 harg1 arg2 harg2 arg3 harg3 arg4 harg4 arg5 harg5 arg6 harg6 arg7 harg7 arg8 harg8 arg9 harg9 arg10 harg10 hc0 x0 x1).2.1)).2.1, (runA1 c i arg1 harg1 arg2 harg2 arg3 harg3 arg4 harg4 arg5 harg5 arg6 harg6 arg7 harg7 arg8 harg8 arg9 harg9 arg10 harg10 hc0 x0 x1).1, (runA1 c i arg1 harg1 arg2 harg2 arg3 harg3 arg4 harg4 arg5 harg5 arg6 harg6 arg7 harg7 arg8 harg8 arg9 harg9 arg10 harg10 hc0 x0 x1).2.1, [], [], [],
    wholeA c i arg1 harg1 arg2 harg2 arg3 harg3 arg4 harg4 arg5 harg5 arg6 harg6 arg7 harg7 arg8 harg8 arg9 harg9 arg10 harg10 x0 x1 (runA2 c i arg1 harg1 arg2 harg2 arg3 harg3 arg4 harg4 arg5 harg5 arg6 harg6 arg7 harg7 arg8 harg8 arg9 harg9 arg10 harg10 x0).1 _ _ (coverA8 c i arg1 harg1 arg2 harg2 arg3 harg3 arg4 harg4 arg5 harg5 arg6 harg6 arg7 harg7 arg8 harg8 arg9 harg9 arg10 harg10 hc0 x0 x1) (coverA9 c i arg1 harg1 arg2 harg2 arg3 harg3 arg4 harg4 arg5 harg5 arg6 harg6 arg7 harg7 arg8 harg8 arg9 harg9 arg10 harg10 hc0 x0 x1) (xtA_cover c i arg1 harg1 arg2 harg2 arg3 harg3 arg4 harg4 arg5 harg5 arg6 harg6 arg7 harg7 arg8 harg8 arg9 harg9 arg10 harg10 hc0 x0 x1) (runB c i arg1 harg1 arg2 harg2 arg3 harg3 arg4 harg4 arg5 harg5 arg6 harg6 arg7 harg7 arg8 harg8 arg9 harg9 arg10 harg10 (xtA c i arg1 harg1 arg2 harg2 arg3 harg3 arg4 harg4 arg5 harg5 arg6 harg6 arg7 harg7 arg8 harg8 arg9 harg9 arg10 harg10 hc0 x0 x1) (View.canon (runA1 c i arg1 harg1 arg2 harg2 arg3 harg3 arg4 harg4 arg5 harg5 arg6 harg6 arg7 harg7 arg8 harg8 arg9 harg9 arg10 harg10 hc0 x0 x1).1) (View.canon (runA1 c i arg1 harg1 arg2 harg2 arg3 harg3 arg4 harg4 arg5 harg5 arg6 harg6 arg7 harg7 arg8 harg8 arg9 harg9 arg10 harg10 hc0 x0 x1).2.1)).1 (cover7 c i arg1 harg1 arg2 harg2 arg3 harg3 arg4 harg4 arg5 harg5 arg6 harg6 arg7 harg7 arg8 harg8 arg9 harg9 arg10 harg10 _ _ _) (runB c i arg1 harg1 arg2 harg2 arg3 harg3 arg4 harg4 arg5 harg5 arg6 harg6 arg7 harg7 arg8 harg8 arg9 harg9 arg10 harg10 (xtA c i arg1 harg1 arg2 harg2 arg3 harg3 arg4 harg4 arg5 harg5 arg6 harg6 arg7 harg7 arg8 harg8 arg9 harg9 arg10 harg10 hc0 x0 x1) (View.canon (runA1 c i arg1 harg1 arg2 harg2 arg3 harg3 arg4 harg4 arg5 harg5 arg6 harg6 arg7 harg7 arg8 harg8 arg9 harg9 arg10 harg10 hc0 x0 x1).1) (View.canon (runA1 c i arg1 harg1 arg2 harg2 arg3 harg3 arg4 harg4 arg5 harg5 arg6 harg6 arg7 harg7 arg8 harg8 arg9 harg9 arg10 harg10 hc0 x0 x1).2.1)).2.1 (runB c i arg1 harg1 arg2 harg2 arg3 harg3 arg4 harg4 arg5 harg5 arg6 harg6 arg7 harg7 arg8 harg8 arg9 harg9 arg10 harg10 (xtA c i arg1 harg1 arg2 harg2 arg3 harg3 arg4 harg4 arg5 harg5 arg6 harg6 arg7 harg7 arg8 harg8 arg9 harg9 arg10 harg10 hc0 x0 x1) (View.canon (runA1 c i arg1 harg1 arg2 harg2 arg3 harg3 arg4 harg4 arg5 harg5 arg6 harg6 arg7 harg7 arg8 harg8 arg9 harg9 arg10 harg10 hc0 x0 x1).1) (View.canon (runA1 c i arg1 harg1 arg2 harg2 arg3 harg3 arg4 harg4 arg5 harg5 arg6 harg6 arg7 harg7 arg8 harg8 arg9 harg9 arg10 harg10 hc0 x0 x1).2.1)).2.2.1 (runC c i arg1 harg1 arg2 harg2 arg3 harg3 arg4 harg4 arg5 harg5 arg6 harg6 arg7 harg7 arg8 harg8 arg9 harg9 arg10 harg10 (View.canon (runB c i arg1 harg1 arg2 harg2 arg3 harg3 arg4 harg4 arg5 harg5 arg6 harg6 arg7 harg7 arg8 harg8 arg9 harg9 arg10 harg10 (xtA c i arg1 harg1 arg2 harg2 arg3 harg3 arg4 harg4 arg5 harg5 arg6 harg6 arg7 harg7 arg8 harg8 arg9 harg9 arg10 harg10 hc0 x0 x1) (View.canon (runA1 c i arg1 harg1 arg2 harg2 arg3 harg3 arg4 harg4 arg5 harg5 arg6 harg6 arg7 harg7 arg8 harg8 arg9 harg9 arg10 harg10 hc0 x0 x1).1) (View.canon (runA1 c i arg1 harg1 arg2 harg2 arg3 harg3 arg4 harg4 arg5 harg5 arg6 harg6 arg7 harg7 arg8 harg8 arg9 harg9 arg10 harg10 hc0 x0 x1).2.1)).1) (runB c i arg1 harg1 arg2 harg2 arg3 harg3 arg4 harg4 arg5 harg5 arg6 harg6 arg7 harg7 arg8 harg8 arg9 harg9 arg10 harg10 (xtA c i arg1 harg1 arg2 harg2 arg3 harg3 arg4 harg4 arg5 harg5 arg6 harg6 arg7 harg7 arg8 harg8 arg9 harg9 arg10 harg10 hc0 x0 x1) (View.canon (runA1 c i arg1 harg1 arg2 harg2 arg3 harg3 arg4 harg4 arg5 harg5 arg6 harg6 arg7 harg7 arg8 harg8 arg9 harg9 arg10 harg10 hc0 x0 x1).1) (View.canon (runA1 c i arg1 harg1 arg2 harg2 arg3 harg3 arg4 harg4 arg5 harg5 arg6 harg6 arg7 harg7 arg8 harg8 arg9 harg9 arg10 harg10 hc0 x0 x1).2.1)).2.2.1).1
      (runA1 c i arg1 harg1 arg2 harg2 arg3 harg3 arg4 harg4 arg5 harg5 arg6 harg6 arg7 harg7 arg8 harg8 arg9 harg9 arg10 harg10 hc0 x0 x1).2.2 (runA2 c i arg1 harg1 arg2 harg2 arg3 harg3 arg4 harg4 arg5 harg5 arg6 harg6 arg7 harg7 arg8 harg8 arg9 harg9 arg10 harg10 x0).2 (runB c i arg1 harg1 arg2 harg2 arg3 harg3 arg4 harg4 arg5 harg5 arg6 harg6 arg7 harg7 arg8 harg8 arg9 harg9 arg10 harg10 (xtA c i arg1 harg1 arg2 harg2 arg3 harg3 arg4 harg4 arg5 harg5 arg6 harg6 arg7 harg7 arg8 harg8 arg9 harg9 arg10 harg10 hc0 x0 x1) (View.canon (runA1 c i arg1 harg1 arg2 harg2 arg3 harg3 arg4 harg4 arg5 harg5 arg6 harg6 arg7 harg7 arg8 harg8 arg9 harg9 arg10 harg10 hc0 x0 x1).1) (View.canon (runA1 c i arg1 harg1 arg2 harg2 arg3 harg3 arg4 harg4 arg5 harg5 arg6 harg6 arg7 harg7 arg8 harg8 arg9 harg9 arg10 harg10 hc0 x0 x1).2.1)).2.2.2 (runC c i arg1 harg1 arg2 harg2 arg3 harg3 arg4 harg4 arg5 harg5 arg6 harg6 arg7 harg7 arg8 harg8 arg9 harg9 arg10 harg10 (View.canon (runB c i arg1 harg1 arg2 harg2 arg3 harg3 arg4 harg4 arg5 harg5 arg6 harg6 arg7 harg7 arg8 harg8 arg9 harg9 arg10 harg10 (xtA c i arg1 harg1 arg2 harg2 arg3 harg3 arg4 harg4 arg5 harg5 arg6 harg6 arg7 harg7 arg8 harg8 arg9 harg9 arg10 harg10 hc0 x0 x1) (View.canon (runA1 c i arg1 harg1 arg2 harg2 arg3 harg3 arg4 harg4 arg5 harg5 arg6 harg6 arg7 harg7 arg8 harg8 arg9 harg9 arg10 harg10 hc0 x0 x1).1) (View.canon (runA1 c i arg1 harg1 arg2 harg2 arg3 harg3 arg4 harg4 arg5 harg5 arg6 harg6 arg7 harg7 arg8 harg8 arg9 harg9 arg10 harg10 hc0 x0 x1).2.1)).1) (runB c i arg1 harg1 arg2 harg2 arg3 harg3 arg4 harg4 arg5 harg5 arg6 harg6 arg7 harg7 arg8 harg8 arg9 harg9 arg10 harg10 (xtA c i arg1 harg1 arg2 harg2 arg3 harg3 arg4 harg4 arg5 harg5 arg6 harg6 arg7 harg7 arg8 harg8 arg9 harg9 arg10 harg10 hc0 x0 x1) (View.canon (runA1 c i arg1 harg1 arg2 harg2 arg3 harg3 arg4 harg4 arg5 harg5 arg6 harg6 arg7 harg7 arg8 harg8 arg9 harg9 arg10 harg10 hc0 x0 x1).1) (View.canon (runA1 c i arg1 harg1 arg2 harg2 arg3 harg3 arg4 harg4 arg5 harg5 arg6 harg6 arg7 harg7 arg8 harg8 arg9 harg9 arg10 harg10 hc0 x0 x1).2.1)).2.2.1).2⟩

/-- The triple of the whole body at a later grid point from the triples of its four stretches, whatever pieces these leave. -/
theorem wholeB (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x128 .i32) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (x0 : Vec F S32x18944 .bf16) (x1 : Vec F S148x148 .f32) (L52 : List (View.Piece (Elt F) S2376x128 .i32))
    (xs3 : Vec F S256x256 .bf16) (xs4 : Vec F S160x512 .bf16)
    (hX : (∀ y ∈ (Rect.unit (s := S2376x128) ![0, 0] (![2368, 128] : Fin 2 → ℕ) inb_big).set, ∃ p ∈ L52, y ∈ p.1.set) ∧ (∀ p ∈ L52, ∀ y ∈ p.1.set, y ∈ (Rect.unit (s := S2376x128) ![0, 0] (![2368, 128] : Fin 2 → ℕ) inb_big).set))
    (L7 : List (View.Piece (Elt F) S4736x128 .f32)) (hL7 : ∀ y, ∃ p ∈ L7, y ∈ p.1.set) (L4 : List (View.Piece (Elt F) S32x128 .f32)) (a : FVec F S32x128 .f32)
    (L3o : List (View.Piece (Elt F) S32x18944 .fp8e4m3))
    (h1 : ∀ (E : Set ℕ) (R : Type) (κ : Prog (TpuEff nD τ sig (Elt F) Λ₀ .tc) R) (Q : R → sProp 𝕄),
        (wp frame (wpE (defs₀ (F := F)) Variants.none c none) E (κ) Q : sProp 𝕄) ⊢ wp frame (wpE (defs₀ (F := F)) Variants.none c none) E (st1 i arg1 harg1 arg2 harg2 arg3 harg3 arg4 harg4 arg5 harg5 arg6 harg6 arg7 harg7 arg8 harg8 arg9 harg9 arg10 harg10 κ) Q)
    (h2 : ∀ (E : Set ℕ) (R : Type) (κ : Prog (TpuEff nD τ sig (Elt F) Λ₀ .tc) R) (Q : R → sProp 𝕄) (f5 : arg5.view.ty.Contents (Elt F)),
        iprop(owns (c : Thread nD τ) arg1 fullShare x0 ∗ arg5.view.loc (c : Thread nD τ) ↦[arg5.view.set]{fullShare} f5)
          ⊢ iprop(((owns (c : Thread nD τ) arg1 fullShare x0 ∗ arg5.view.loc (c : Thread nD τ) ↦[arg5.view.set]{fullShare} arg5.view.writes (Elt F) f5 L52) -∗ wp frame (wpE (defs₀ (F := F)) Variants.none c none) E (κ) Q)
            -∗ wp frame (wpE (defs₀ (F := F)) Variants.none c none) E (st2 i arg1 harg1 arg2 harg2 arg3 harg3 arg4 harg4 arg5 harg5 arg6 harg6 arg7 harg7 arg8 harg8 arg9 harg9 arg10 harg10 κ) Q))
    (h3 : ∀ (E : Set ℕ) (R : Type) (κ : FVec F S32x128 .f32 → Prog (TpuEff nD τ sig (Elt F) Λ₀ .tc) R) (Q : R → sProp 𝕄),
        iprop((∃ f, arg5.view.loc (c : Thread nD τ) ↦[arg5.view.set]{fullShare} arg5.view.writes (Elt F) f [⟨(Rect.unit (s := S2376x128) ![0, 0] (![2368, 128] : Fin 2 → ℕ) inb_big), (fun e => View.canon (L52) ((Rect.unit (s := S2376x128) ![0, 0] (![2368, 128] : Fin 2 → ℕ) inb_big).emb e))⟩]) ∗ owns (c : Thread nD τ) arg8 fullShare xs3 ∗ owns (c : Thread nD τ) arg9 fullShare xs4 ∗ (∃ d, owns (c : Thread nD τ) arg4 fullShare d) ∗ (∃ d, owns (c : Thread nD τ) arg6 fullShare d) ∗ (∃ d, owns (c : Thread nD τ) arg7 fullShare d) ∗ (∃ d, owns (c : Thread nD τ) arg10 fullShare d))
          ⊢ iprop((((∃ d, owns (c : Thread nD τ) arg5 fullShare d) ∗ owns (c : Thread nD τ) arg8 fullShare xs3 ∗ owns (c : Thread nD τ) arg9 fullShare xs4 ∗ (∃ f, arg4.view.loc (c : Thread nD τ) ↦[arg4.view.set]{fullShare} arg4.view.writes (Elt F) f L4) ∗ (∃ d, owns (c : Thread nD τ) arg6 fullShare d) ∗ (∃ f, arg7.view.loc (c : Thread nD τ) ↦[arg7.view.set]{fullShare} arg7.view.writes (Elt F) f L7) ∗ (∃ d, owns (c : Thread nD τ) arg10 fullShare d)) -∗ wp frame (wpE (defs₀ (F := F)) Variants.none c none) E (κ a) Q)
            -∗ wp frame (wpE (defs₀ (F := F)) Variants.none c none) E (st3 i arg1 harg1 arg2 harg2 arg3 harg3 arg4 harg4 arg5 harg5 arg6 harg6 arg7 harg7 arg8 harg8 arg9 harg9 arg10 harg10 κ) Q))
    (h4 : ∀ (E : Set ℕ) (R : Type) (κ : Prog (TpuEff nD τ sig (Elt F) Λ₀ .tc) R) (Q : R → sProp 𝕄),
        iprop(owns (c : Thread nD τ) arg7 fullShare (View.canon L7) ∗ (∃ d, owns (c : Thread nD τ) arg3 fullShare d))
          ⊢ iprop(((owns (c : Thread nD τ) arg7 fullShare (View.canon L7) ∗ (∃ f, arg3.view.loc (c : Thread nD τ) ↦[arg3.view.set]{fullShare} arg3.view.writes (Elt F) f L3o)) -∗ wp frame (wpE (defs₀ (F := F)) Variants.none c none) E (κ) Q)
            -∗ wp frame (wpE (defs₀ (F := F)) Variants.none c none) E (st4 i arg1 harg1 arg2 harg2 arg3 harg3 arg4 harg4 arg5 harg5 arg6 harg6 arg7 harg7 arg8 harg8 arg9 harg9 arg10 harg10 a κ) Q)) :
    ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs3 ∗ owns (c : Thread nD τ) arg9 fullShare xs4 ∗ (∃ d, owns (c : Thread nD τ) arg10 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L3o) ∗ (∃ f, arg4.view.loc (c : Thread nD τ) ↦[arg4.view.set]{fullShare} arg4.view.writes (Elt F) f L4) ∗ (∃ d, owns (c : Thread nD τ) arg5 fullShare d) ∗ (∃ f, arg6.view.loc (c : Thread nD τ) ↦[arg6.view.set]{fullShare} arg6.view.writes (Elt F) f []) ∗ (∃ f, arg7.view.loc (c : Thread nD τ) ↦[arg7.view.set]{fullShare} arg7.view.writes (Elt F) f []) ∗ owns (c : Thread nD τ) arg8 fullShare xs3 ∗ owns (c : Thread nD τ) arg9 fullShare xs4 ∗ (∃ f, arg10.view.loc (c : Thread nD τ) ↦[arg10.view.set]{fullShare} arg10.view.writes (Elt F) f [])) -∗ K ⟨⟩))
          ⊢ wp frame (wpE (defs₀ (F := F)) Variants.none c none) E (cc0_rotate_quant i arg1 harg1 arg2 harg2 arg3 harg3 arg4 harg4 arg5 harg5 arg6 harg6 arg7 harg7 arg8 harg8 arg9 harg9 arg10 harg10) K  := by
  intro E K
  rw [rot.eq, st1.eq]
  iintro ⟨H1, H2, H3, H4, H5, H6, H7, H8, H9, H10, Hk⟩
  iapply (h1 _ _ _ _)
  rw [st2.eq]
  icases owns_at c arg5 $$ H5 with ⟨%f5, H5⟩
  iapply (h2 _ _ _ _ _) $$ [H1 H5]
  · iframe
  iintro ⟨H1, H5⟩
  rw [writes_eq_one arg5 harg5 f5 _ (Rect.unit (s := S2376x128) ![0, 0] (![2368, 128] : Fin 2 → ℕ) inb_big) hX.1 hX.2, st3.eq]
  iapply (h3 _ _ _ _) $$ [H5 H8 H9 H4 H6 H7 H10]
  · isplitl [H5]
    · iexists _; iexact H5
    iframe
  iintro ⟨H5, H8, H9, H4, H6, ⟨%f7, H7⟩, H10⟩
  rw [st4.eq]
  iapply (h4 _ _ _ _) $$ [H7 H3]
  · isplitl [H7]
    · iapply (owns_of_writes c arg7 f7 _ hL7); iexact H7
    iexact H3
  iintro ⟨H7, H3⟩
  unfold st4.tail
  sl_step
  iapply Hk
  isplitl [H1]
  · iexact H1
  isplitl [H2]
  · iexact H2
  isplitl [H3]
  · iexact H3
  isplitl [H4]
  · iexact H4
  isplitl [H5]
  · iexact H5
  isplitl [H6]
  · iapply (writes_of_any c arg6); iexact H6
  isplitl [H7]
  · iapply (writes_of_any c arg7); iexists _; iexact H7
  isplitl [H8]
  · iexact H8
  isplitl [H9]
  · iexact H9
  iapply (writes_of_any c arg10); iexact H10

/-- The contents the transposed scratch's first 2368 rows end with. -/
def xtB (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x128 .i32) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : ¬cond0_0 i) (x0 : Vec F S32x18944 .bf16) : (Rect.unit (s := S2376x128) ![0, 0] (![2368, 128] : Fin 2 → ℕ) inb_big).shape.Idx → Elt F .i32 := fun e => View.canon ((runA2 c i arg1 harg1 arg2 harg2 arg3 harg3 arg4 harg4 arg5 harg5 arg6 harg6 arg7 harg7 arg8 harg8 arg9 harg9 arg10 harg10 x0).1) ((Rect.unit (s := S2376x128) ![0, 0] (![2368, 128] : Fin 2 → ℕ) inb_big).emb e)

theorem xtB_cover (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x128 .i32) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : ¬cond0_0 i) (x0 : Vec F S32x18944 .bf16) :
    (∀ y ∈ (Rect.unit (s := S2376x128) ![0, 0] (![2368, 128] : Fin 2 → ℕ) inb_big).set, ∃ p ∈ ((runA2 c i arg1 harg1 arg2 harg2 arg3 harg3 arg4 harg4 arg5 harg5 arg6 harg6 arg7 harg7 arg8 harg8 arg9 harg9 arg10 harg10 x0).1), y ∈ p.1.set) ∧ (∀ p ∈ ((runA2 c i arg1 harg1 arg2 harg2 arg3 harg3 arg4 harg4 arg5 harg5 arg6 harg6 arg7 harg7 arg8 harg8 arg9 harg9 arg10 harg10 x0).1), ∀ y ∈ p.1.set, y ∈ (Rect.unit (s := S2376x128) ![0, 0] (![2368, 128] : Fin 2 → ℕ) inb_big).set) :=
  tiles_cover _ (by sl_kernel_rfl) (by sl_kernel_rfl)

/-- What the body's stores leave in each output's buffer (`L2` the codes, `L3` the scale), as pieces, WITH the triple of the whole body
    at a later grid point: its four stretches run one after the other. -/
noncomputable def kernelRun0_B (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x128 .i32) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : ¬cond0_0 i)
    (x0 : Vec F S32x18944 .bf16) (x1 : Vec F S148x148 .f32) (xs3 : Vec F S256x256 .bf16) (xs4 : Vec F S160x512 .bf16) :
    Σ' (L2 : List (View.Piece (Elt F) S32x18944 .fp8e4m3)), Σ' (L3 : List (View.Piece (Elt F) S32x128 .f32)), Σ' (LS3 : List (View.Piece (Elt F) S256x256 .bf16)), Σ' (LS4 : List (View.Piece (Elt F) S160x512 .bf16)), Σ' (LT1 : List (View.Piece (Elt F) S608x128 .f32)), Σ' (LT2 : List (View.Piece (Elt F) S4736x128 .f32)), { LT5 : List (View.Piece (Elt F) S32x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs3 ∗ owns (c : Thread nD τ) arg9 fullShare xs4 ∗ (∃ d, owns (c : Thread nD τ) arg10 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ d, owns (c : Thread nD τ) arg5 fullShare d) ∗ (∃ f, arg6.view.loc (c : Thread nD τ) ↦[arg6.view.set]{fullShare} arg6.view.writes (Elt F) f LT1) ∗ (∃ f, arg7.view.loc (c : Thread nD τ) ↦[arg7.view.set]{fullShare} arg7.view.writes (Elt F) f LT2) ∗ owns (c : Thread nD τ) arg8 fullShare xs3 ∗ owns (c : Thread nD τ) arg9 fullShare xs4 ∗ (∃ f, arg10.view.loc (c : Thread nD τ) ↦[arg10.view.set]{fullShare} arg10.view.writes (Elt F) f LT5)) -∗ K ⟨⟩))
          ⊢ wp frame (wpE (defs₀ (F := F)) Variants.none c none) E (cc0_rotate_quant i arg1 harg1 arg2 harg2 arg3 harg3 arg4 harg4 arg5 harg5 arg6 harg6 arg7 harg7 arg8 harg8 arg9 harg9 arg10 harg10) K } :=
  ⟨(runC c i arg1 harg1 arg2 harg2 arg3 harg3 arg4 harg4 arg5 harg5 arg6 harg6 arg7 harg7 arg8 harg8 arg9 harg9 arg10 harg10 (View.canon (runB c i arg1 harg1 arg2 harg2 arg3 harg3 arg4 harg4 arg5 harg5 arg6 harg6 arg7 harg7 arg8 harg8 arg9 harg9 arg10 harg10 (xtB c i arg1 harg1 arg2 harg2 arg3 harg3 arg4 harg4 arg5 harg5 arg6 harg6 arg7 harg7 arg8 harg8 arg9 harg9 arg10 harg10 hc0 x0) xs3 xs4).1) (runB c i arg1 harg1 arg2 harg2 arg3 harg3 arg4 harg4 arg5 harg5 arg6 harg6 arg7 harg7 arg8 harg8 arg9 harg9 arg10 harg10 (xtB c i arg1 harg1 arg2 harg2 arg3 harg3 arg4 harg4 arg5 harg5 arg6 harg6 arg7 harg7 arg8 harg8 arg9 harg9 arg10 harg10 hc0 x0) xs3 xs4).2.2.1).1, (runB c i arg1 harg1 arg2 harg2 arg3 harg3 arg4 harg4 arg5 harg5 arg6 harg6 arg7 harg7 arg8 harg8 arg9 harg9 arg10 harg10 (xtB c i arg1 harg1 arg2 harg2 arg3 harg3 arg4 harg4 arg5 harg5 arg6 harg6 arg7 harg7 arg8 harg8 arg9 harg9 arg10 harg10 hc0 x0) xs3 xs4).2.1, [], [], [], [], [],
    wholeB c i arg1 harg1 arg2 harg2 arg3 harg3 arg4 harg4 arg5 harg5 arg6 harg6 arg7 harg7 arg8 harg8 arg9 harg9 arg10 harg10 x0 x1 (runA2 c i arg1 harg1 arg2 harg2 arg3 harg3 arg4 harg4 arg5 harg5 arg6 harg6 arg7 harg7 arg8 harg8 arg9 harg9 arg10 harg10 x0).1 xs3 xs4 (xtB_cover c i arg1 harg1 arg2 harg2 arg3 harg3 arg4 harg4 arg5 harg5 arg6 harg6 arg7 harg7 arg8 harg8 arg9 harg9 arg10 harg10 hc0 x0) (runB c i arg1 harg1 arg2 harg2 arg3 harg3 arg4 harg4 arg5 harg5 arg6 harg6 arg7 harg7 arg8 harg8 arg9 harg9 arg10 harg10 (xtB c i arg1 harg1 arg2 harg2 arg3 harg3 arg4 harg4 arg5 harg5 arg6 harg6 arg7 harg7 arg8 harg8 arg9 harg9 arg10 harg10 hc0 x0) xs3 xs4).1 (cover7 c i arg1 harg1 arg2 harg2 arg3 harg3 arg4 harg4 arg5 harg5 arg6 harg6 arg7 harg7 arg8 harg8 arg9 harg9 arg10 harg10 _ _ _) (runB c i arg1 harg1 arg2 harg2 arg3 harg3 arg4 harg4 arg5 harg5 arg6 harg6 arg7 harg7 arg8 harg8 arg9 harg9 arg10 harg10 (xtB c i arg1 harg1 arg2 harg2 arg3 harg3 arg4 harg4 arg5 harg5 arg6 harg6 arg7 harg7 arg8 harg8 arg9 harg9 arg10 harg10 hc0 x0) xs3 xs4).2.1 (runB c i arg1 harg1 arg2 harg2 arg3 harg3 arg4 harg4 arg5 harg5 arg6 harg6 arg7 harg7 arg8 harg8 arg9 harg9 arg10 harg10 (xtB c i arg1 harg1 arg2 harg2 arg3 harg3 arg4 harg4 arg5 harg5 arg6 harg6 arg7 harg7 arg8 harg8 arg9 harg9 arg10 harg10 hc0 x0) xs3 xs4).2.2.1 (runC c i arg1 harg1 arg2 harg2 arg3 harg3 arg4 harg4 arg5 harg5 arg6 harg6 arg7 harg7 arg8 harg8 arg9 harg9 arg10 harg10 (View.canon (runB c i arg1 harg1 arg2 harg2 arg3 harg3 arg4 harg4 arg5 harg5 arg6 harg6 arg7 harg7 arg8 harg8 arg9 harg9 arg10 harg10 (xtB c i arg1 harg1 arg2 harg2 arg3 harg3 arg4 harg4 arg5 harg5 arg6 harg6 arg7 harg7 arg8 harg8 arg9 harg9 arg10 harg10 hc0 x0) xs3 xs4).1) (runB c i arg1 harg1 arg2 harg2 arg3 harg3 arg4 harg4 arg5 harg5 arg6 harg6 arg7 harg7 arg8 harg8 arg9 harg9 arg10 harg10 (xtB c i arg1 harg1 arg2 harg2 arg3 harg3 arg4 harg4 arg5 harg5 arg6 harg6 arg7 harg7 arg8 harg8 arg9 harg9 arg10 harg10 hc0 x0) xs3 xs4).2.2.1).1
      (runB1 c i arg1 harg1 arg2 harg2 arg3 harg3 arg4 harg4 arg5 harg5 arg6 harg6 arg7 harg7 arg8 harg8 arg9 harg9 arg10 harg10 hc0) (runA2 c i arg1 harg1 arg2 harg2 arg3 harg3 arg4 harg4 arg5 harg5 arg6 harg6 arg7 harg7 arg8 harg8 arg9 harg9 arg10 harg10 x0).2 (runB c i arg1 harg1 arg2 harg2 arg3 harg3 arg4 harg4 arg5 harg5 arg6 harg6 arg7 harg7 arg8 harg8 arg9 harg9 arg10 harg10 (xtB c i arg1 harg1 arg2 harg2 arg3 harg3 arg4 harg4 arg5 harg5 arg6 harg6 arg7 harg7 arg8 harg8 arg9 harg9 arg10 harg10 hc0 x0) xs3 xs4).2.2.2 (runC c i arg1 harg1 arg2 harg2 arg3 harg3 arg4 harg4 arg5 harg5 arg6 harg6 arg7 harg7 arg8 harg8 arg9 harg9 arg10 harg10 (View.canon (runB c i arg1 harg1 arg2 harg2 arg3 harg3 arg4 harg4 arg5 harg5 arg6 harg6 arg7 harg7 arg8 harg8 arg9 harg9 arg10 harg10 (xtB c i arg1 harg1 arg2 harg2 arg3 harg3 arg4 harg4 arg5 harg5 arg6 harg6 arg7 harg7 arg8 harg8 arg9 harg9 arg10 harg10 hc0 x0) xs3 xs4).1) (runB c i arg1 harg1 arg2 harg2 arg3 harg3 arg4 harg4 arg5 harg5 arg6 harg6 arg7 harg7 arg8 harg8 arg9 harg9 arg10 harg10 (xtB c i arg1 harg1 arg2 harg2 arg3 harg3 arg4 harg4 arg5 harg5 arg6 harg6 arg7 harg7 arg8 harg8 arg9 harg9 arg10 harg10 hc0 x0) xs3 xs4).2.2.1).2⟩

end Cert.Rotate.Gen

end
-- ==== Proof.WrdFrame.lean ====
/-
  The frame of the rotate-and-quantise call: every run ends, faults nowhere and leaves its arguments as they were.
-/
import proofs.«01_k».proof.Proof.WrdRun
import Idealize.ShloMosaic.Lib.Claim

-- membership in a rectangle of production extents (`View.cover_of_tiled`): the elaborator's structural look
-- recurses once per coordinate of the long axes
set_option maxRecDepth 16384

noncomputable section

namespace Cert.Rotate.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-- Case A's pieces for output 2 tile its block (148 stores of `S32x128`, checked by the kernel's evaluation: Lib/Ring.lean `Piece.tiledL`, linear in the pieces, through a loop's `@[irreducible]` trip theorem too), so they cover it. -/
theorem cover0_A_2 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x128 .i32) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i)
    (x0 : Vec F S32x18944 .bf16) (x1 : Vec F S148x148 .f32) (y : S32x18944.Idx) :
    ∃ pc ∈ (kernelRun0_A c i arg1 harg1 arg2 harg2 arg3 harg3 arg4 harg4 arg5 harg5 arg6 harg6 arg7 harg7 arg8 harg8 arg9 harg9 arg10 harg10 hc0 x0 x1).1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1).1 S32x128.size (by sl_kernel_rfl) y

/-- What case A leaves in output 2's staging buffer: its pieces read back over junk. -/
def out0_A_2 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x128 .i32) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i)
    (x0 : Vec F S32x18944 .bf16) (x1 : Vec F S148x148 .f32) : Vec F S32x18944 .fp8e4m3 :=
  VO0_2.read (Elt F) (VO0_2.writes (Elt F) VO0_2.junk (kernelRun0_A c i arg1 harg1 arg2 harg2 arg3 harg3 arg4 harg4 arg5 harg5 arg6 harg6 arg7 harg7 arg8 harg8 arg9 harg9 arg10 harg10 hc0 x0 x1).1)

/-- Case A's pieces for output 3 tile its block (1 store of `S32x128`, checked by the kernel's evaluation: Lib/Ring.lean `Piece.tiledL`, linear in the pieces, through a loop's `@[irreducible]` trip theorem too), so they cover it. -/
theorem cover0_A_3 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x128 .i32) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i)
    (x0 : Vec F S32x18944 .bf16) (x1 : Vec F S148x148 .f32) (y : S32x128.Idx) :
    ∃ pc ∈ (kernelRun0_A c i arg1 harg1 arg2 harg2 arg3 harg3 arg4 harg4 arg5 harg5 arg6 harg6 arg7 harg7 arg8 harg8 arg9 harg9 arg10 harg10 hc0 x0 x1).2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1).2.1 S32x128.size (by sl_kernel_rfl) y

/-- What case A leaves in output 3's staging buffer: its pieces read back over junk. -/
def out0_A_3 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x128 .i32) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i)
    (x0 : Vec F S32x18944 .bf16) (x1 : Vec F S148x148 .f32) : Vec F S32x128 .f32 :=
  VO0_3.read (Elt F) (VO0_3.writes (Elt F) VO0_3.junk (kernelRun0_A c i arg1 harg1 arg2 harg2 arg3 harg3 arg4 harg4 arg5 harg5 arg6 harg6 arg7 harg7 arg8 harg8 arg9 harg9 arg10 harg10 hc0 x0 x1).2.1)

/-- Case A's pieces for scratch `arg8`, which the kernel carries between points, cover it: 1 piece of `S256x256` tiling it (Lib/Ring.lean `Piece.tiledL`). -/
theorem scover0_A_3 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x128 .i32) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i)
    (x0 : Vec F S32x18944 .bf16) (x1 : Vec F S148x148 .f32) (y : S256x256.Idx) :
    ∃ pc ∈ (kernelRun0_A c i arg1 harg1 arg2 harg2 arg3 harg3 arg4 harg4 arg5 harg5 arg6 harg6 arg7 harg7 arg8 harg8 arg9 harg9 arg10 harg10 hc0 x0 x1).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1).2.2.1 S256x256.size (by sl_kernel_rfl) y

/-- What case A leaves in scratch `arg8`: its pieces read back over junk. -/
def sout0_A_3 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x128 .i32) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i)
    (x0 : Vec F S32x18944 .bf16) (x1 : Vec F S148x148 .f32) : Vec F S256x256 .bf16 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 hc0 x0 x1).2.2.1)

/-- Case A's pieces for scratch `arg9`, which the kernel carries between points, cover it: 1 piece of `S160x512` tiling it (Lib/Ring.lean `Piece.tiledL`). -/
theorem scover0_A_4 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x128 .i32) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i)
    (x0 : Vec F S32x18944 .bf16) (x1 : Vec F S148x148 .f32) (y : S160x512.Idx) :
    ∃ pc ∈ (kernelRun0_A c i arg1 harg1 arg2 harg2 arg3 harg3 arg4 harg4 arg5 harg5 arg6 harg6 arg7 harg7 arg8 harg8 arg9 harg9 arg10 harg10 hc0 x0 x1).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1).2.2.2.1 S160x512.size (by sl_kernel_rfl) y

/-- What case A leaves in scratch `arg9`: its pieces read back over junk. -/
def sout0_A_4 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x128 .i32) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i)
    (x0 : Vec F S32x18944 .bf16) (x1 : Vec F S148x148 .f32) : Vec F S160x512 .bf16 :=
  VS0_4.read (Elt F) (VS0_4.writes (Elt F) VS0_4.junk (kernelRun0_A c i arg1 harg1 arg2 harg2 arg3 harg3 arg4 harg4 arg5 harg5 arg6 harg6 arg7 harg7 arg8 harg8 arg9 harg9 arg10 harg10 hc0 x0 x1).2.2.2.1)

/-- Case B's pieces for output 2 tile its block (148 stores of `S32x128`, checked by the kernel's evaluation: Lib/Ring.lean `Piece.tiledL`, linear in the pieces, through a loop's `@[irreducible]` trip theorem too), so they cover it. -/
theorem cover0_B_2 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x128 .i32) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : ¬cond0_0 i)
    (x0 : Vec F S32x18944 .bf16) (x1 : Vec F S148x148 .f32) (xs3 : Vec F S256x256 .bf16) (xs4 : Vec F S160x512 .bf16) (y : S32x18944.Idx) :
    ∃ pc ∈ (kernelRun0_B c i arg1 harg1 arg2 harg2 arg3 harg3 arg4 harg4 arg5 harg5 arg6 harg6 arg7 harg7 arg8 harg8 arg9 harg9 arg10 harg10 hc0 x0 x1 xs3 xs4).1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 xs3 xs4).1 S32x128.size (by sl_kernel_rfl) y

/-- What case B leaves in output 2's staging buffer: its pieces read back over junk. -/
def out0_B_2 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x128 .i32) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : ¬cond0_0 i)
    (x0 : Vec F S32x18944 .bf16) (x1 : Vec F S148x148 .f32) (xs3 : Vec F S256x256 .bf16) (xs4 : Vec F S160x512 .bf16) : Vec F S32x18944 .fp8e4m3 :=
  VO0_2.read (Elt F) (VO0_2.writes (Elt F) VO0_2.junk (kernelRun0_B c i arg1 harg1 arg2 harg2 arg3 harg3 arg4 harg4 arg5 harg5 arg6 harg6 arg7 harg7 arg8 harg8 arg9 harg9 arg10 harg10 hc0 x0 x1 xs3 xs4).1)

/-- Case B's pieces for output 3 tile its block (1 store of `S32x128`, checked by the kernel's evaluation: Lib/Ring.lean `Piece.tiledL`, linear in the pieces, through a loop's `@[irreducible]` trip theorem too), so they cover it. -/
theorem cover0_B_3 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x128 .i32) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : ¬cond0_0 i)
    (x0 : Vec F S32x18944 .bf16) (x1 : Vec F S148x148 .f32) (xs3 : Vec F S256x256 .bf16) (xs4 : Vec F S160x512 .bf16) (y : S32x128.Idx) :
    ∃ pc ∈ (kernelRun0_B c i arg1 harg1 arg2 harg2 arg3 harg3 arg4 harg4 arg5 harg5 arg6 harg6 arg7 harg7 arg8 harg8 arg9 harg9 arg10 harg10 hc0 x0 x1 xs3 xs4).2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 xs3 xs4).2.1 S32x128.size (by sl_kernel_rfl) y

/-- What case B leaves in output 3's staging buffer: its pieces read back over junk. -/
def out0_B_3 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x128 .i32) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : ¬cond0_0 i)
    (x0 : Vec F S32x18944 .bf16) (x1 : Vec F S148x148 .f32) (xs3 : Vec F S256x256 .bf16) (xs4 : Vec F S160x512 .bf16) : Vec F S32x128 .f32 :=
  VO0_3.read (Elt F) (VO0_3.writes (Elt F) VO0_3.junk (kernelRun0_B c i arg1 harg1 arg2 harg2 arg3 harg3 arg4 harg4 arg5 harg5 arg6 harg6 arg7 harg7 arg8 harg8 arg9 harg9 arg10 harg10 hc0 x0 x1 xs3 xs4).2.1)

/-- Case B stores nothing into scratch `arg8`: it holds what the point before left. -/
def sout0_B_3 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x128 .i32) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : ¬cond0_0 i)
    (x0 : Vec F S32x18944 .bf16) (x1 : Vec F S148x148 .f32) (xs3 : Vec F S256x256 .bf16) (xs4 : Vec F S160x512 .bf16) : Vec F S256x256 .bf16 := xs3

/-- Case B stores nothing into scratch `arg9`: it holds what the point before left. -/
def sout0_B_4 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x128 .i32) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : ¬cond0_0 i)
    (x0 : Vec F S32x18944 .bf16) (x1 : Vec F S148x148 .f32) (xs3 : Vec F S256x256 .bf16) (xs4 : Vec F S160x512 .bf16) : Vec F S160x512 .bf16 := xs4

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S32x18944 .fp8e4m3 × Vec F S32x128 .f32 × Vec F S256x256 .bf16 × Vec F S160x512 .bf16
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m c 0 ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m c 0 ⟨0, hn⟩) (iblk m c 1 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m c 0 ⟨0, hn⟩) (iblk m c 1 ⟨0, hn⟩), sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m c 0 ⟨0, hn⟩) (iblk m c 1 ⟨0, hn⟩))
  | n + 1, hn =>
    if h0 : (n + 1) % 8 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m c 0 ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m c 0 ⟨n + 1, hn⟩) (iblk m c 1 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m c 0 ⟨n + 1, hn⟩) (iblk m c 1 ⟨n + 1, hn⟩), sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.1 (outsAt0 c n (Nat.lt_of_succ_lt hn)).2.2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.1 (outsAt0 c n (Nat.lt_of_succ_lt hn)).2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.1 (outsAt0 c n (Nat.lt_of_succ_lt hn)).2.2.2, sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 8 = 0) :
    outsAt0 m c t.val t.isLt = (out0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t), out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t), sout0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t), sout0_A_4 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 m c t.val t.isLt = (out0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_4 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c n hn).2.2.1) ∗ owns (c : Thread nD τ) scM0_4 fullShare ((outsAt0 m c n hn).2.2.2) ∗ (∃ d, owns (c : Thread nD τ) scM0_5 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c n hn).2.2.1) ∗ owns (c : Thread nD τ) scM0_4 fullShare ((outsAt0 m c n hn).2.2.2) ∗ (∃ d, owns (c : Thread nD τ) scM0_5 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c (n - 1) (by omega)).2.2.1) ∗ owns (c : Thread nD τ) scM0_4 fullShare ((outsAt0 m c (n - 1) (by omega)).2.2.2) ∗ (∃ d, owns (c : Thread nD τ) scM0_5 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 8000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl,
    after0_0, after0_1, after0_2, after0_3]
  rw [show (dats m 0 c).Φ t.succ = PhiS m c (t.val + 1) t.isLt from rfl, PhiS_succ]
  have hN : t.val < 8 := lt_of_lt_of_eq t.isLt (show cfg0.N = 8 from N_0)
  by_cases h0 : t.val % 8 = 0
  · by_cases hz : t.val = 0
    · rw [PhiS_castSucc m c t, PhiS_zero m c _ _ hz, PhiA0_eq]
      rw [outsAt0_A m c t h0]
      unfold out0_A_2 out0_A_3 sout0_A_3 sout0_A_4; (try dsimp only)
      iintro ⟨⟨⟨HS0, HS1, HS2, HS3, HS4, HS5⟩, Hg⟩, Ho, ⟨%d0, H0⟩, ⟨%d1, H1⟩, ⟨%d2, H2⟩, ⟨%d3, H3⟩⟩
      iapply ((kernelRun0_A c (grid0.coords t) _ _ _ _ _ _ _ _ _ _ _ _ _ _ _ _ _ _ _ _ ((hcond0_0 t).mpr h0) (iblk m c 0 t) (iblk m c 1 t)).2.2.2.2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, ⟨%e2, H2⟩, ⟨%e3, H3⟩, HS0, ⟨%fT1, HS1⟩, ⟨%fT2, HS2⟩, ⟨%es3, HS3⟩, ⟨%es4, HS4⟩, ⟨%fT5, HS5⟩⟩
      isplitl [HS0 HS1 HS2 HS3 HS4 HS5 Hg]
      · isplitl [HS0 HS1 HS2 HS3 HS4 HS5]
        · isplitl [HS0]
          · iexact HS0
          isplitl [HS1]
          · iexists _; unfold owns; iexists _; isplitr
            swap; · iexact HS1
            ipureintro; rfl
          isplitl [HS2]
          · iexists _; unfold owns; iexists _; isplitr
            swap; · iexact HS2
            ipureintro; rfl
          isplitl [HS3]
          · unfold owns; iexists _; isplitr
            swap; · iexact HS3
            ipureintro; exact View.read_writes_of_cover _ _ _ _ _ (scover0_A_3 c _ _ _ _ _ _ _ _ _ _ _ _ _ _ _ _ _ _ _ _ _ _ _ _)
          isplitl [HS4]
          · unfold owns; iexists _; isplitr
            swap; · iexact HS4
            ipureintro; exact View.read_writes_of_cover _ _ _ _ _ (scover0_A_4 c _ _ _ _ _ _ _ _ _ _ _ _ _ _ _ _ _ _ _ _ _ _ _ _)
          iexists _; unfold owns; iexists _; isplitr
          swap; · iexact HS5
          ipureintro; rfl
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _ _ _ _ _ _ _ _ _ _)
      unfold owns; iexists _; isplitr
      swap; · iexact H3
      ipureintro; exact View.read_writes_of_cover _ _ _ _ _ (cover0_A_3 c _ _ _ _ _ _ _ _ _ _ _ _ _ _ _ _ _ _ _ _ _ _ _ _)
    · exfalso; have hN : t.val < 8 := lt_of_lt_of_eq t.isLt (show cfg0.N = 8 from N_0); omega
  · by_cases hz : t.val = 0
    · exfalso; have hN : t.val < 8 := lt_of_lt_of_eq t.isLt (show cfg0.N = 8 from N_0); omega
    · rw [PhiS_castSucc m c t, PhiS_pos m c _ _ hz]
      rw [outsAt0_B m c t h0]
      unfold out0_B_2 out0_B_3 sout0_B_3 sout0_B_4; (try dsimp only)
      iintro ⟨⟨⟨HS0, HS1, HS2, HS3, HS4, HS5⟩, Hg⟩, Ho, ⟨%d0, H0⟩, ⟨%d1, H1⟩, ⟨%d2, H2⟩, ⟨%d3, H3⟩⟩
      iapply ((kernelRun0_B c (grid0.coords t) _ _ _ _ _ _ _ _ _ _ _ _ _ _ _ _ _ _ _ _ (fun h => h0 ((hcond0_0 t).mp h)) (iblk m c 0 t) (iblk m c 1 t) _ _).2.2.2.2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, ⟨%e2, H2⟩, ⟨%e3, H3⟩, HS0, ⟨%fT1, HS1⟩, ⟨%fT2, HS2⟩, HS3, HS4, ⟨%fT5, HS5⟩⟩
      isplitl [HS0 HS1 HS2 HS3 HS4 HS5 Hg]
      · isplitl [HS0 HS1 HS2 HS3 HS4 HS5]
        · isplitl [HS0]
          · iexact HS0
          isplitl [HS1]
          · iexists _; unfold owns; iexists _; isplitr
            swap; · iexact HS1
            ipureintro; rfl
          isplitl [HS2]
          · iexists _; unfold owns; iexists _; isplitr
            swap; · iexact HS2
            ipureintro; rfl
          isplitl [HS3]
          · iexact HS3
          isplitl [HS4]
          · iexact HS4
          iexists _; unfold owns; iexists _; isplitr
          swap; · iexact HS5
          ipureintro; rfl
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _ _ _ _ _ _ _ _ _ _ _ _)
      unfold owns; iexists _; isplitr
      swap; · iexact H3
      ipureintro; exact View.read_writes_of_cover _ _ _ _ _ (cover0_B_3 c _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]
    · iexact HS0
    isplitl [HS1]
    · iexact HS1
    isplitl [HS2]
    · iexact HS2
    isplitl [HS3]
    · iexists _; iexact HS3
    isplitl [HS4]
    · iexists _; iexact HS4
    iexact HS5
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: `Cert.quiescent_Rotate`'s statement (Defs.lean) at any `F` — Proof.lean cites it at `Bits`:
    `theorem Cert.Proof.claim : Cert.Claim := ⟨Cert.Rotate.Gen.facts, fun m ρ _ => Cert.Rotate.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Rotate.Gen

end
-- ==== Proof.RotCut.lean ====
/-
  The rotate-and-quantise body cut into four stretches: the first tiles and the two constant matrices, the rest of the transposition,
  the eight rotations with the row maxima and the scale, and the codes.
-/
import proofs.«01_k».proof.Proof.Gen.RotateIdeal.Frame.Runs
import Idealize.ShloMosaic.Lib.Tactic.Stretches
import Idealize.ShloMosaic.Lib.Tactic.OpenCalls

set_option maxRecDepth 16384

noncomputable section

namespace Cert.RotateIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open_calls rot := cc0_rotate_quant [k0_part176, k0_part177, k0_part178, k0_part86]

cut_chain st := rot at 2, 85, 123

/-- The rows of the transposed scratch that the stores of the first two stretches fill lie in it. -/
theorem inb_big : ∀ a : Fin S2376x2x128.rank, (![0, 0, 0] : Fin 3 → ℕ) a + (![2368, 2, 128] : Fin 3 → ℕ) a ≤ S2376x2x128.size a := by
  decide

end Cert.RotateIdeal.Gen

end
-- ==== Proof.RotFold.lean ====
/-
  Folding the transposed scratch: the tiles the first two stretches store fill its first 2368 rows.
-/
import proofs.«01_k».proof.Proof.RotCut

set_option maxRecDepth 16384

noncomputable section

namespace Cert.RotateIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a whole buffer holds after writes that cover it: their canonical contents. -/
theorem owns_of_writes {sp : Space} {s : Shape} {e : EltTy} [∀ e, Nonempty (Elt F e)] (c : Dev nD) (M : Memref sig .tc sp s e)
    (f : M.view.ty.Contents (Elt F)) (L : List (View.Piece (Elt F) s e)) (h : ∀ y, ∃ p ∈ L, y ∈ p.1.set) :
    (M.view.loc (c : Thread nD τ) ↦[M.view.set]{fullShare} M.view.writes (Elt F) f L : sProp 𝕄) ⊢ owns (c : Thread nD τ) M fullShare (View.canon L) := by
  unfold owns
  iintro H
  iexists _; isplitr; swap; · iexact H
  ipureintro; exact View.read_writes_eq_canon _ _ _ h

/-- Writes that cover exactly the indices of the rectangle `R` are one write of `R`. -/
theorem writes_eq_one {sp : Space} {s : Shape} {e : EltTy} [∀ e, Nonempty (Elt F e)] (M : Memref sig .tc sp s e) (hM : M.IsWhole)
    (f : M.view.ty.Contents (Elt F)) (L : List (View.Piece (Elt F) s e)) (R : Rect s) (hcov : ∀ y ∈ R.set, ∃ p ∈ L, y ∈ p.1.set)
    (hin : ∀ p ∈ L, ∀ y ∈ p.1.set, y ∈ R.set) :
    M.view.writes (Elt F) f L = M.view.writes (Elt F) f [⟨R, fun x => View.canon L (R.emb x)⟩] := by
  rw [hM.eq_unread (f := M.view.writes (Elt F) f L) rfl]
  refine (hM.eq_unread ?_).symm
  funext y
  by_cases hy : y ∈ R.set
  · rw [View.read_writes_apply_eq_canon _ _ _ _ (hcov y hy), View.read_writes_apply_eq_canon _ _ _ _ ⟨_, List.mem_singleton.mpr rfl, hy⟩]
    obtain ⟨x, rfl⟩ := R.exists_idx_of_mem hy
    exact View.canon_cons_emb R (fun x => View.canon L (R.emb x)) [] x
  · rw [View.read_writes_apply_of_forall_not_mem _ _ _ _ fun p hp h => hy (hin p hp y h),
      View.read_writes_apply_of_forall_not_mem _ _ _ _ fun p hp h => hy (by rw [List.mem_singleton.mp hp] at h; exact h)]

/-- A tile's place in the transposed scratch: every 148th row of eight from row `o` on, both halves, every lane. -/
def tileOK (p : View.Piece (Elt F) S2376x2x128 .bf16) : Bool :=
  p.1.size 0 == 8 && p.1.stride 0 == 148 && p.1.off 1 == 0 && p.1.size 1 == 2 && p.1.stride 1 == 1
    && p.1.off 2 == 0 && p.1.size 2 == 128 && p.1.stride 2 == 1

/-- The first rows of the 296 tiles, last stored first. -/
def tileRows : List ℕ := (List.range 148).reverse.map (fun k => 1184 + k) ++ (List.range 148).reverse

/-- Pieces that stand at those places cover exactly the first 2368 rows. -/
theorem tiles_cover (L : List (View.Piece (Elt F) S2376x2x128 .bf16)) (hok : L.all tileOK = true) (hrows : L.map (fun p => p.1.off 0) = tileRows) :
    (∀ y ∈ (Rect.unit (s := S2376x2x128) ![0, 0, 0] (![2368, 2, 128] : Fin 3 → ℕ) inb_big).set, ∃ p ∈ L, y ∈ p.1.set) ∧ (∀ p ∈ L, ∀ y ∈ p.1.set, y ∈ (Rect.unit (s := S2376x2x128) ![0, 0, 0] (![2368, 2, 128] : Fin 3 → ℕ) inb_big).set) := by
  have hok' : ∀ p ∈ L, p.1.size 0 = 8 ∧ p.1.stride 0 = 148 ∧ p.1.off 1 = 0 ∧ p.1.size 1 = 2 ∧ p.1.stride 1 = 1
      ∧ p.1.off 2 = 0 ∧ p.1.size 2 = 128 ∧ p.1.stride 2 = 1 := by
    intro p hp
    have := List.all_eq_true.mp hok p hp
    simpa [tileOK, and_assoc] using this
  constructor
  · intro y hy
    have h0 : (y 0 : ℕ) < 2368 := by
      have := (Rect.mem_set_unit.mp hy) 0
      simpa using this.2
    have hm : (148 * ((y 0 : ℕ) / 1184 * 8) + (y 0 : ℕ) % 148) ∈ tileRows := by
      unfold tileRows
      simp only [List.mem_append, List.mem_map, List.mem_reverse, List.mem_range]
      rcases Nat.lt_or_ge (y 0 : ℕ) 1184 with h | h
      · right; omega
      · left; exact ⟨(y 0 : ℕ) % 148, by omega, by omega⟩
    rw [← hrows, List.mem_map] at hm
    obtain ⟨p, hp, ho⟩ := hm
    obtain ⟨a1, a2, a3, a4, a5, a6, a7, a8⟩ := hok' p hp
    refine ⟨p, hp, p.1.toLoadRect.mem_set.mpr fun a => ?_⟩
    match a with
    | ⟨0, _⟩ =>
      refine ⟨((y 0 : ℕ) / 148) % 8, ?_, ?_⟩
      · show _ < p.1.size 0; rw [a1]; omega
      · show (y 0 : ℕ) = p.1.off 0 + p.1.stride 0 * _; rw [a2, ho]; omega
    | ⟨1, _⟩ =>
      refine ⟨(y 1 : ℕ), ?_, ?_⟩
      · show _ < p.1.size 1; rw [a4]; exact (y 1).isLt
      · show (y 1 : ℕ) = p.1.off 1 + p.1.stride 1 * _; rw [a3, a5]; omega
    | ⟨2, _⟩ =>
      refine ⟨(y 2 : ℕ), ?_, ?_⟩
      · show _ < p.1.size 2; rw [a7]; exact (y 2).isLt
      · show (y 2 : ℕ) = p.1.off 2 + p.1.stride 2 * _; rw [a6, a8]; omega
  · intro p hp y hy
    obtain ⟨a1, a2, a3, a4, a5, a6, a7, a8⟩ := hok' p hp
    have ho : p.1.off 0 ∈ tileRows := by rw [← hrows]; exact List.mem_map.mpr ⟨p, hp, rfl⟩
    have ho' : p.1.off 0 < 148 ∨ (1184 ≤ p.1.off 0 ∧ p.1.off 0 < 1332) := by
      unfold tileRows at ho
      simp only [List.mem_append, List.mem_map, List.mem_reverse, List.mem_range] at ho
      rcases ho with ⟨k, hk, h⟩ | h
      · right; omega
      · left; exact h
    obtain ⟨j, hj, he⟩ := (p.1.toLoadRect.mem_set.mp hy) 0
    rw [show p.1.toLoadRect.size 0 = 8 from a1] at hj
    rw [show p.1.toLoadRect.stride 0 = 148 from a2] at he
    refine Rect.mem_set_unit.mpr fun a => ?_
    match a with
    | ⟨0, _⟩ =>
      refine ⟨Nat.zero_le _, ?_⟩
      show (y 0 : ℕ) < 0 + 2368
      omega
    | ⟨1, _⟩ => exact ⟨Nat.zero_le _, by show (y 1 : ℕ) < 0 + 2; have := (y 1).isLt; exact lt_of_lt_of_eq this (by rfl)⟩
    | ⟨2, _⟩ => exact ⟨Nat.zero_le _, by show (y 2 : ℕ) < 0 + 128; have := (y 2).isLt; exact lt_of_lt_of_eq this (by rfl)⟩

end Cert.RotateIdeal.Gen

end
-- ==== Proof.RotA1.lean ====
/-
  The run of the first stretch, at a first and at a later grid point.
-/
import proofs.«01_k».proof.Proof.RotCut

set_option maxRecDepth 16384

noncomputable section

namespace Cert.RotateIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 15240000 in set_option sl_exec.stridedRows true in
/-- The first stretch at a first grid point: it fills the two constant matrices and stores the first tiles of the transposed scratch. -/
noncomputable def runA1 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i)
    (x0 : Vec F S32x18944 .bf16) (x1 : Vec F S148x148 .f32) :
    Σ' (L5 : List (View.Piece (Elt F) S2376x2x128 .bf16)) (L8 : List (View.Piece (Elt F) S256x256 .bf16)), { L9 : List (View.Piece (Elt F) S160x512 .bf16) //
      ∀ (E : Set ℕ) (R : Type) (κ : Prog (TpuEff nD τ sig (Elt F) Λ₀ .tc) R) (Q : R → sProp 𝕄),
        iprop(owns (c : Thread nD τ) arg1 fullShare x0 ∗ owns (c : Thread nD τ) arg2 fullShare x1 ∗ (∃ d, owns (c : Thread nD τ) arg5 fullShare d) ∗ (∃ d, owns (c : Thread nD τ) arg8 fullShare d) ∗ (∃ d, owns (c : Thread nD τ) arg9 fullShare d))
          ⊢ iprop(((owns (c : Thread nD τ) arg1 fullShare x0 ∗ owns (c : Thread nD τ) arg2 fullShare x1 ∗ (∃ f, arg5.view.loc (c : Thread nD τ) ↦[arg5.view.set]{fullShare} arg5.view.writes (Elt F) f L5) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)) -∗ wp frame (wpE (defs₀ (F := F)) Variants.none c none) E (κ) Q)
            -∗ wp frame (wpE (defs₀ (F := F)) Variants.none c none) E (st1 i arg1 harg1 arg2 harg2 arg3 harg3 arg4 harg4 arg5 harg5 arg6 harg6 arg7 harg7 arg8 harg8 arg9 harg9 arg10 harg10 κ) Q) } := by
  refine ⟨?_, ?_, ?_, fun E R κ Q => ?run⟩
  case run =>
    unfold st1
    simp only [k0_part2_eq_skeleton, k0_part1_eq_skeleton]
    unfold owns
    iintro ⟨⟨%f1, %hf1, H1⟩, ⟨%f2, %hf2, H2⟩, ⟨%d5, %f5, -, H5⟩, ⟨%d8, %f8, -, H8⟩, ⟨%d9, %f9, -, H9⟩⟩ Hk
    obtain rfl := harg1.eq_unread hf1
    obtain rfl := harg2.eq_unread hf2
    sl_exec (disch := first | sl_exact hc0)
    iapply Hk
    isplitl [H1]
    · iexists _; isplitr; · ipureintro; exact harg1.read_unread _
      iexact H1
    isplitl [H2]
    · iexists _; isplitr; · ipureintro; exact harg2.read_unread _
      iexact H2
    isplitl [H5]
    · iexists _; iexact H5
    isplitl [H8]
    · iexists _; iexact H8
    · iexists _; iexact H9

set_option maxHeartbeats 15240000 in set_option sl_exec.stridedRows true in
/-- The first stretch at a later grid point: it stores the first tiles of the transposed scratch. -/
noncomputable def runB1 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : ¬cond0_0 i)
    (x0 : Vec F S32x18944 .bf16) :
    { L5 : List (View.Piece (Elt F) S2376x2x128 .bf16) //
      ∀ (E : Set ℕ) (R : Type) (κ : Prog (TpuEff nD τ sig (Elt F) Λ₀ .tc) R) (Q : R → sProp 𝕄),
        iprop(owns (c : Thread nD τ) arg1 fullShare x0 ∗ (∃ d, owns (c : Thread nD τ) arg5 fullShare d))
          ⊢ iprop(((owns (c : Thread nD τ) arg1 fullShare x0 ∗ (∃ f, arg5.view.loc (c : Thread nD τ) ↦[arg5.view.set]{fullShare} arg5.view.writes (Elt F) f L5)) -∗ wp frame (wpE (defs₀ (F := F)) Variants.none c none) E (κ) Q)
            -∗ wp frame (wpE (defs₀ (F := F)) Variants.none c none) E (st1 i arg1 harg1 arg2 harg2 arg3 harg3 arg4 harg4 arg5 harg5 arg6 harg6 arg7 harg7 arg8 harg8 arg9 harg9 arg10 harg10 κ) Q) } := by
  refine ⟨?_, fun E R κ Q => ?run⟩
  case run =>
    unfold st1
    simp only [k0_part2_eq_skeleton, k0_part1_eq_skeleton]
    unfold owns
    iintro ⟨⟨%f1, %hf1, H1⟩, ⟨%d5, %f5, -, H5⟩⟩ Hk
    obtain rfl := harg1.eq_unread hf1
    sl_exec (disch := first | sl_exact hc0)
    iapply Hk
    isplitl [H1]
    · iexists _; isplitr; · ipureintro; exact harg1.read_unread _
      iexact H1
    · iexists _; iexact H5

end Cert.RotateIdeal.Gen

end
-- ==== Proof.RotA2.lean ====
/-
  The run of the second stretch.
-/
import proofs.«01_k».proof.Proof.RotCut

set_option maxRecDepth 16384

noncomputable section

namespace Cert.RotateIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 15240000 in set_option sl_exec.stridedRows true in
/-- The second stretch: the remaining tiles of the transposed scratch, as pieces. -/
noncomputable def runA2 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole)
    (x0 : Vec F S32x18944 .bf16) :
    { L5 : List (View.Piece (Elt F) S2376x2x128 .bf16) //
      ∀ (E : Set ℕ) (R : Type) (κ : Prog (TpuEff nD τ sig (Elt F) Λ₀ .tc) R) (Q : R → sProp 𝕄) (f5 : arg5.view.ty.Contents (Elt F)),
        iprop(owns (c : Thread nD τ) arg1 fullShare x0 ∗ arg5.view.loc (c : Thread nD τ) ↦[arg5.view.set]{fullShare} f5)
          ⊢ iprop(((owns (c : Thread nD τ) arg1 fullShare x0 ∗ arg5.view.loc (c : Thread nD τ) ↦[arg5.view.set]{fullShare} arg5.view.writes (Elt F) f5 L5) -∗ wp frame (wpE (defs₀ (F := F)) Variants.none c none) E (κ) Q)
            -∗ wp frame (wpE (defs₀ (F := F)) Variants.none c none) E (st2 i arg1 harg1 arg2 harg2 arg3 harg3 arg4 harg4 arg5 harg5 arg6 harg6 arg7 harg7 arg8 harg8 arg9 harg9 arg10 harg10 κ) Q) } := by
  refine ⟨?_, fun E R κ Q f5 => ?run⟩
  case run =>
    unfold st2
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton]
    unfold owns
    iintro ⟨⟨%f1, %hf1, H1⟩, H5⟩ Hk
    obtain rfl := harg1.eq_unread hf1
    sl_exec
    iapply Hk
    isplitl [H1]
    · iexists _; isplitr; · ipureintro; exact harg1.read_unread _
      iexact H1
    · iexact H5

end Cert.RotateIdeal.Gen

end
-- ==== Proof.RotB.lean ====
/-
  The run of the third stretch.
-/
import proofs.«01_k».proof.Proof.RotCut

set_option maxRecDepth 16384

noncomputable section

namespace Cert.RotateIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 15240000 in set_option sl_exec.stridedRows true in
/-- The third stretch: from the transposed tiles, the zero rows behind them, the eight rotations into the scratch of rotated values
    (pieces `L7`), the row maxima, and the scale stored (piece `L4`) and handed on with its partner. -/
noncomputable def runB (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole)
    (X : (Rect.unit (s := S2376x2x128) ![0, 0, 0] (![2368, 2, 128] : Fin 3 → ℕ) inb_big).shape.Idx → Elt F .bf16) (hb : Vec F S256x256 .bf16) (he : Vec F S160x512 .bf16) :
    Σ' (L7 : List (View.Piece (Elt F) S4736x128 .f32)) (L4 : List (View.Piece (Elt F) S32x128 .f32)) (a : FVec F S32x1 .f32), { b : FVec F S32x1 .f32 //
      ∀ (E : Set ℕ) (R : Type) (κ : FVec F S32x1 .f32 → FVec F S32x1 .f32 → Prog (TpuEff nD τ sig (Elt F) Λ₀ .tc) R) (Q : R → sProp 𝕄),
        iprop((∃ f, arg5.view.loc (c : Thread nD τ) ↦[arg5.view.set]{fullShare} arg5.view.writes (Elt F) f [⟨(Rect.unit (s := S2376x2x128) ![0, 0, 0] (![2368, 2, 128] : Fin 3 → ℕ) inb_big), X⟩]) ∗ owns (c : Thread nD τ) arg8 fullShare hb ∗ owns (c : Thread nD τ) arg9 fullShare he ∗ (∃ d, owns (c : Thread nD τ) arg4 fullShare d) ∗ (∃ d, owns (c : Thread nD τ) arg6 fullShare d) ∗ (∃ d, owns (c : Thread nD τ) arg7 fullShare d) ∗ (∃ d, owns (c : Thread nD τ) arg10 fullShare d))
          ⊢ iprop((((∃ d, owns (c : Thread nD τ) arg5 fullShare d) ∗ owns (c : Thread nD τ) arg8 fullShare hb ∗ owns (c : Thread nD τ) arg9 fullShare he ∗ (∃ f, arg4.view.loc (c : Thread nD τ) ↦[arg4.view.set]{fullShare} arg4.view.writes (Elt F) f L4) ∗ (∃ d, owns (c : Thread nD τ) arg6 fullShare d) ∗ (∃ f, arg7.view.loc (c : Thread nD τ) ↦[arg7.view.set]{fullShare} arg7.view.writes (Elt F) f L7) ∗ (∃ d, owns (c : Thread nD τ) arg10 fullShare d)) -∗ wp frame (wpE (defs₀ (F := F)) Variants.none c none) E (κ a b) Q)
            -∗ wp frame (wpE (defs₀ (F := F)) Variants.none c none) E (st3 i arg1 harg1 arg2 harg2 arg3 harg3 arg4 harg4 arg5 harg5 arg6 harg6 arg7 harg7 arg8 harg8 arg9 harg9 arg10 harg10 κ) Q) } := by
  refine ⟨?_, ?_, ?_, ?_, fun E R κ Q => ?run⟩
  case run =>
    unfold st3
    simp only [k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton]
    unfold owns
    iintro ⟨⟨%f5, H5⟩, ⟨%f8, %hf8, H8⟩, ⟨%f9, %hf9, H9⟩, ⟨%d4, %f4, -, H4⟩, ⟨%d6, %f6, -, H6⟩, ⟨%d7, %f7, -, H7⟩, ⟨%d10, %f10, -, H10⟩⟩ Hk
    obtain rfl := harg8.eq_unread hf8
    obtain rfl := harg9.eq_unread hf9
    sl_exec
    iapply Hk
    isplitl [H5]
    · iexists _, _; isplitr; swap; · iexact H5
      ipureintro; rfl
    isplitl [H8]
    · iexists _; isplitr; · ipureintro; exact harg8.read_unread _
      iexact H8
    isplitl [H9]
    · iexists _; isplitr; · ipureintro; exact harg9.read_unread _
      iexact H9
    isplitl [H4]
    · iexists _; iexact H4
    isplitl [H6]
    · iexists _, _; isplitr; swap; · iexact H6
      ipureintro; rfl
    isplitl [H7]
    · iexists _; iexact H7
    · iexists _, _; isplitr; swap; · iexact H10
      ipureintro; rfl

end Cert.RotateIdeal.Gen

end
-- ==== Proof.RotC.lean ====
/-
  The run of the fourth stretch.
-/
import proofs.«01_k».proof.Proof.RotCut

set_option maxRecDepth 16384

noncomputable section

namespace Cert.RotateIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 15240000 in set_option sl_exec.stridedRows true in
/-- The fourth stretch: the scratch of rotated values is read and the codes are stored, 148 column tiles as pieces. -/
noncomputable def runC (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole)
    (Y : Vec F S4736x128 .f32) (a b : FVec F S32x1 .f32) :
    { L : List (View.Piece (Elt F) S32x18944 .fp8e4m3) //
      ∀ (E : Set ℕ) (R : Type) (κ : Prog (TpuEff nD τ sig (Elt F) Λ₀ .tc) R) (Q : R → sProp 𝕄),
        iprop(owns (c : Thread nD τ) arg7 fullShare Y ∗ (∃ d, owns (c : Thread nD τ) arg3 fullShare d))
          ⊢ iprop(((owns (c : Thread nD τ) arg7 fullShare Y ∗ (∃ f, arg3.view.loc (c : Thread nD τ) ↦[arg3.view.set]{fullShare} arg3.view.writes (Elt F) f L)) -∗ wp frame (wpE (defs₀ (F := F)) Variants.none c none) E (κ) Q)
            -∗ wp frame (wpE (defs₀ (F := F)) Variants.none c none) E (st4 i arg1 harg1 arg2 harg2 arg3 harg3 arg4 harg4 arg5 harg5 arg6 harg6 arg7 harg7 arg8 harg8 arg9 harg9 arg10 harg10 a b κ) Q) } := by
  refine ⟨?_, fun E R κ Q => ?run⟩
  case run =>
    unfold st4
    simp only [k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton]
    unfold owns
    iintro ⟨⟨%f7, %hf7, H7⟩, ⟨%d3, %f3, -, H3⟩⟩ Hk
    obtain rfl := harg7.eq_unread hf7
    sl_exec
    iapply Hk
    isplitl [H7]
    · iexists _; isplitr; · ipureintro; exact harg7.read_unread _
      iexact H7
    · iexists _; iexact H3

end Cert.RotateIdeal.Gen

end
-- ==== Proof.RotRun.lean ====
/-
  The run of the whole body at a first and at a later grid point, from the runs of its four stretches.
-/
import proofs.«01_k».proof.Proof.RotFold
import proofs.«01_k».proof.Proof.RotA1
import proofs.«01_k».proof.Proof.RotA2
import proofs.«01_k».proof.Proof.RotB
import proofs.«01_k».proof.Proof.RotC

set_option maxRecDepth 16384

noncomputable section

namespace Cert.RotateIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole buffer that holds the canonical contents of covering writes holds those writes over what it held. -/
theorem writes_of_owns {sp : Space} {s : Shape} {e : EltTy} [∀ e, Nonempty (Elt F e)] (c : Dev nD) (M : Memref sig .tc sp s e) (hM : M.IsWhole)
    (L : List (View.Piece (Elt F) s e)) (h : ∀ y, ∃ p ∈ L, y ∈ p.1.set) :
    (owns (c : Thread nD τ) M fullShare (View.canon L) : sProp 𝕄) ⊢ ∃ f, M.view.loc (c : Thread nD τ) ↦[M.view.set]{fullShare} M.view.writes (Elt F) f L := by
  unfold owns
  iintro ⟨%f, %hf, H⟩
  iexists f
  have e : M.view.writes (Elt F) f L = f := by
    rw [hM.eq_unread hf]
    exact hM.eq_unread (View.read_writes_eq_canon _ _ _ h)
  rw [e]
  iexact H

/-- A buffer at any contents is one with no writes over some contents. -/
theorem writes_of_any {sp : Space} {s : Shape} {e : EltTy} (c : Dev nD) (M : Memref sig .tc sp s e) :
    ((∃ d, owns (c : Thread nD τ) M fullShare d) : sProp 𝕄) ⊢ ∃ f, M.view.loc (c : Thread nD τ) ↦[M.view.set]{fullShare} M.view.writes (Elt F) f [] := by
  unfold owns
  iintro ⟨%d, %f, -, H⟩
  iexists f
  iexact H

theorem coverA8 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i) (x0 : Vec F S32x18944 .bf16) (x1 : Vec F S148x148 .f32) :
    ∀ y, ∃ p ∈ (runA1 c i arg1 harg1 arg2 harg2 arg3 harg3 arg4 harg4 arg5 harg5 arg6 harg6 arg7 harg7 arg8 harg8 arg9 harg9 arg10 harg10 hc0 x0 x1).2.1, y ∈ p.1.set :=
  View.cover_of_tiledL (runA1 c i arg1 harg1 arg2 harg2 arg3 harg3 arg4 harg4 arg5 harg5 arg6 harg6 arg7 harg7 arg8 harg8 arg9 harg9 arg10 harg10 hc0 x0 x1).2.1 S256x256.size (by sl_kernel_rfl)

theorem coverA9 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i) (x0 : Vec F S32x18944 .bf16) (x1 : Vec F S148x148 .f32) :
    ∀ y, ∃ p ∈ (runA1 c i arg1 harg1 arg2 harg2 arg3 harg3 arg4 harg4 arg5 harg5 arg6 harg6 arg7 harg7 arg8 harg8 arg9 harg9 arg10 harg10 hc0 x0 x1).2.2.1, y ∈ p.1.set :=
  View.cover_of_tiledL (runA1 c i arg1 harg1 arg2 harg2 arg3 harg3 arg4 harg4 arg5 harg5 arg6 harg6 arg7 harg7 arg8 harg8 arg9 harg9 arg10 harg10 hc0 x0 x1).2.2.1 S160x512.size (by sl_kernel_rfl)

theorem cover7 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (X : (Rect.unit (s := S2376x2x128) ![0, 0, 0] (![2368, 2, 128] : Fin 3 → ℕ) inb_big).shape.Idx → Elt F .bf16) (hb : Vec F S256x256 .bf16) (he : Vec F S160x512 .bf16) :
    ∀ y, ∃ p ∈ (runB c i arg1 harg1 arg2 harg2 arg3 harg3 arg4 harg4 arg5 harg5 arg6 harg6 arg7 harg7 arg8 harg8 arg9 harg9 arg10 harg10 X hb he).1, y ∈ p.1.set :=
  View.cover_of_tiledL (runB c i arg1 harg1 arg2 harg2 arg3 harg3 arg4 harg4 arg5 harg5 arg6 harg6 arg7 harg7 arg8 harg8 arg9 harg9 arg10 harg10 X hb he).1 S148x128.size (by sl_kernel_rfl)

/-- The triple of the whole body at a first grid point from the triples of its four stretches, whatever pieces these leave. -/
theorem wholeA (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (x0 : Vec F S32x18944 .bf16) (x1 : Vec F S148x148 .f32) (L51 L52 : List (View.Piece (Elt F) S2376x2x128 .bf16))
    (L8 : List (View.Piece (Elt F) S256x256 .bf16)) (L9 : List (View.Piece (Elt F) S160x512 .bf16)) (hL8 : ∀ y, ∃ p ∈ L8, y ∈ p.1.set) (hL9 : ∀ y, ∃ p ∈ L9, y ∈ p.1.set)
    (hX : (∀ y ∈ (Rect.unit (s := S2376x2x128) ![0, 0, 0] (![2368, 2, 128] : Fin 3 → ℕ) inb_big).set, ∃ p ∈ L52 ++ L51, y ∈ p.1.set) ∧ (∀ p ∈ L52 ++ L51, ∀ y ∈ p.1.set, y ∈ (Rect.unit (s := S2376x2x128) ![0, 0, 0] (![2368, 2, 128] : Fin 3 → ℕ) inb_big).set))
    (L7 : List (View.Piece (Elt F) S4736x128 .f32)) (hL7 : ∀ y, ∃ p ∈ L7, y ∈ p.1.set) (L4 : List (View.Piece (Elt F) S32x128 .f32)) (a b : FVec F S32x1 .f32)
    (L3o : List (View.Piece (Elt F) S32x18944 .fp8e4m3))
    (h1 : ∀ (E : Set ℕ) (R : Type) (κ : Prog (TpuEff nD τ sig (Elt F) Λ₀ .tc) R) (Q : R → sProp 𝕄),
        iprop(owns (c : Thread nD τ) arg1 fullShare x0 ∗ owns (c : Thread nD τ) arg2 fullShare x1 ∗ (∃ d, owns (c : Thread nD τ) arg5 fullShare d) ∗ (∃ d, owns (c : Thread nD τ) arg8 fullShare d) ∗ (∃ d, owns (c : Thread nD τ) arg9 fullShare d))
          ⊢ iprop(((owns (c : Thread nD τ) arg1 fullShare x0 ∗ owns (c : Thread nD τ) arg2 fullShare x1 ∗ (∃ f, arg5.view.loc (c : Thread nD τ) ↦[arg5.view.set]{fullShare} arg5.view.writes (Elt F) f L51) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)) -∗ wp frame (wpE (defs₀ (F := F)) Variants.none c none) E (κ) Q)
            -∗ wp frame (wpE (defs₀ (F := F)) Variants.none c none) E (st1 i arg1 harg1 arg2 harg2 arg3 harg3 arg4 harg4 arg5 harg5 arg6 harg6 arg7 harg7 arg8 harg8 arg9 harg9 arg10 harg10 κ) Q))
    (h2 : ∀ (E : Set ℕ) (R : Type) (κ : Prog (TpuEff nD τ sig (Elt F) Λ₀ .tc) R) (Q : R → sProp 𝕄) (f5 : arg5.view.ty.Contents (Elt F)),
        iprop(owns (c : Thread nD τ) arg1 fullShare x0 ∗ arg5.view.loc (c : Thread nD τ) ↦[arg5.view.set]{fullShare} f5)
          ⊢ iprop(((owns (c : Thread nD τ) arg1 fullShare x0 ∗ arg5.view.loc (c : Thread nD τ) ↦[arg5.view.set]{fullShare} arg5.view.writes (Elt F) f5 L52) -∗ wp frame (wpE (defs₀ (F := F)) Variants.none c none) E (κ) Q)
            -∗ wp frame (wpE (defs₀ (F := F)) Variants.none c none) E (st2 i arg1 harg1 arg2 harg2 arg3 harg3 arg4 harg4 arg5 harg5 arg6 harg6 arg7 harg7 arg8 harg8 arg9 harg9 arg10 harg10 κ) Q))
    (h3 : ∀ (E : Set ℕ) (R : Type) (κ : FVec F S32x1 .f32 → FVec F S32x1 .f32 → Prog (TpuEff nD τ sig (Elt F) Λ₀ .tc) R) (Q : R → sProp 𝕄),
        iprop((∃ f, arg5.view.loc (c : Thread nD τ) ↦[arg5.view.set]{fullShare} arg5.view.writes (Elt F) f [⟨(Rect.unit (s := S2376x2x128) ![0, 0, 0] (![2368, 2, 128] : Fin 3 → ℕ) inb_big), (fun e => View.canon (L52 ++ L51) ((Rect.unit (s := S2376x2x128) ![0, 0, 0] (![2368, 2, 128] : Fin 3 → ℕ) inb_big).emb e))⟩]) ∗ owns (c : Thread nD τ) arg8 fullShare (View.canon L8) ∗ owns (c : Thread nD τ) arg9 fullShare (View.canon L9) ∗ (∃ d, owns (c : Thread nD τ) arg4 fullShare d) ∗ (∃ d, owns (c : Thread nD τ) arg6 fullShare d) ∗ (∃ d, owns (c : Thread nD τ) arg7 fullShare d) ∗ (∃ d, owns (c : Thread nD τ) arg10 fullShare d))
          ⊢ iprop((((∃ d, owns (c : Thread nD τ) arg5 fullShare d) ∗ owns (c : Thread nD τ) arg8 fullShare (View.canon L8) ∗ owns (c : Thread nD τ) arg9 fullShare (View.canon L9) ∗ (∃ f, arg4.view.loc (c : Thread nD τ) ↦[arg4.view.set]{fullShare} arg4.view.writes (Elt F) f L4) ∗ (∃ d, owns (c : Thread nD τ) arg6 fullShare d) ∗ (∃ f, arg7.view.loc (c : Thread nD τ) ↦[arg7.view.set]{fullShare} arg7.view.writes (Elt F) f L7) ∗ (∃ d, owns (c : Thread nD τ) arg10 fullShare d)) -∗ wp frame (wpE (defs₀ (F := F)) Variants.none c none) E (κ a b) Q)
            -∗ wp frame (wpE (defs₀ (F := F)) Variants.none c none) E (st3 i arg1 harg1 arg2 harg2 arg3 harg3 arg4 harg4 arg5 harg5 arg6 harg6 arg7 harg7 arg8 harg8 arg9 harg9 arg10 harg10 κ) Q))
    (h4 : ∀ (E : Set ℕ) (R : Type) (κ : Prog (TpuEff nD τ sig (Elt F) Λ₀ .tc) R) (Q : R → sProp 𝕄),
        iprop(owns (c : Thread nD τ) arg7 fullShare (View.canon L7) ∗ (∃ d, owns (c : Thread nD τ) arg3 fullShare d))
          ⊢ iprop(((owns (c : Thread nD τ) arg7 fullShare (View.canon L7) ∗ (∃ f, arg3.view.loc (c : Thread nD τ) ↦[arg3.view.set]{fullShare} arg3.view.writes (Elt F) f L3o)) -∗ wp frame (wpE (defs₀ (F := F)) Variants.none c none) E (κ) Q)
            -∗ wp frame (wpE (defs₀ (F := F)) Variants.none c none) E (st4 i arg1 harg1 arg2 harg2 arg3 harg3 arg4 harg4 arg5 harg5 arg6 harg6 arg7 harg7 arg8 harg8 arg9 harg9 arg10 harg10 a b κ) Q)) :
    ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L3o) ∗ (∃ f, arg4.view.loc (c : Thread nD τ) ↦[arg4.view.set]{fullShare} arg4.view.writes (Elt F) f L4) ∗ (∃ d, owns (c : Thread nD τ) arg5 fullShare d) ∗ (∃ f, arg6.view.loc (c : Thread nD τ) ↦[arg6.view.set]{fullShare} arg6.view.writes (Elt F) f []) ∗ (∃ f, arg7.view.loc (c : Thread nD τ) ↦[arg7.view.set]{fullShare} arg7.view.writes (Elt F) f []) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f [])) -∗ K ⟨⟩))
          ⊢ wp frame (wpE (defs₀ (F := F)) Variants.none c none) E (cc0_rotate_quant i arg1 harg1 arg2 harg2 arg3 harg3 arg4 harg4 arg5 harg5 arg6 harg6 arg7 harg7 arg8 harg8 arg9 harg9 arg10 harg10) K  := by
  intro E K
  rw [rot.eq, st1.eq]
  iintro ⟨H1, H2, H3, H4, H5, H6, H7, H8, H9, H10, Hk⟩
  iapply (h1 _ _ _ _) $$ [H1 H2 H5 H8 H9]
  · iframe
  iintro ⟨H1, H2, ⟨%f5, H5⟩, ⟨%f8, H8⟩, ⟨%f9, H9⟩⟩
  rw [st2.eq]
  iapply (h2 _ _ _ _ _) $$ [H1 H5]
  · iframe
  iintro ⟨H1, H5⟩
  rw [← View.writes_append, writes_eq_one arg5 harg5 f5 _ (Rect.unit (s := S2376x2x128) ![0, 0, 0] (![2368, 2, 128] : Fin 3 → ℕ) inb_big) hX.1 hX.2, st3.eq]
  iapply (h3 _ _ _ _) $$ [H5 H8 H9 H4 H6 H7 H10]
  · isplitl [H5]
    · iexists _; iexact H5
    isplitl [H8]
    · iapply (owns_of_writes c arg8 f8 _ hL8); iexact H8
    isplitl [H9]
    · iapply (owns_of_writes c arg9 f9 _ hL9); iexact H9
    iframe
  iintro ⟨H5, H8, H9, H4, H6, ⟨%f7, H7⟩, H10⟩
  rw [st4.eq]
  iapply (h4 _ _ _ _) $$ [H7 H3]
  · isplitl [H7]
    · iapply (owns_of_writes c arg7 f7 _ hL7); iexact H7
    iexact H3
  iintro ⟨H7, H3⟩
  unfold st4.tail
  sl_step
  iapply Hk
  isplitl [H1]
  · iexact H1
  isplitl [H2]
  · iexact H2
  isplitl [H3]
  · iexact H3
  isplitl [H4]
  · iexact H4
  isplitl [H5]
  · iexact H5
  isplitl [H6]
  · iapply (writes_of_any c arg6); iexact H6
  isplitl [H7]
  · iapply (writes_of_any c arg7); iexists _; iexact H7
  isplitl [H8]
  · iapply (writes_of_owns c arg8 harg8 _ hL8); iexact H8
  isplitl [H9]
  · iapply (writes_of_owns c arg9 harg9 _ hL9); iexact H9
  iapply (writes_of_any c arg10); iexact H10

/-- The contents the transposed scratch's first 2368 rows end with. -/
def xtA (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i) (x0 : Vec F S32x18944 .bf16) (x1 : Vec F S148x148 .f32) : (Rect.unit (s := S2376x2x128) ![0, 0, 0] (![2368, 2, 128] : Fin 3 → ℕ) inb_big).shape.Idx → Elt F .bf16 := fun e => View.canon ((runA2 c i arg1 harg1 arg2 harg2 arg3 harg3 arg4 harg4 arg5 harg5 arg6 harg6 arg7 harg7 arg8 harg8 arg9 harg9 arg10 harg10 x0).1 ++ (runA1 c i arg1 harg1 arg2 harg2 arg3 harg3 arg4 harg4 arg5 harg5 arg6 harg6 arg7 harg7 arg8 harg8 arg9 harg9 arg10 harg10 hc0 x0 x1).1) ((Rect.unit (s := S2376x2x128) ![0, 0, 0] (![2368, 2, 128] : Fin 3 → ℕ) inb_big).emb e)

theorem xtA_cover (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i) (x0 : Vec F S32x18944 .bf16) (x1 : Vec F S148x148 .f32) :
    (∀ y ∈ (Rect.unit (s := S2376x2x128) ![0, 0, 0] (![2368, 2, 128] : Fin 3 → ℕ) inb_big).set, ∃ p ∈ ((runA2 c i arg1 harg1 arg2 harg2 arg3 harg3 arg4 harg4 arg5 harg5 arg6 harg6 arg7 harg7 arg8 harg8 arg9 harg9 arg10 harg10 x0).1 ++ (runA1 c i arg1 harg1 arg2 harg2 arg3 harg3 arg4 harg4 arg5 harg5 arg6 harg6 arg7 harg7 arg8 harg8 arg9 harg9 arg10 harg10 hc0 x0 x1).1), y ∈ p.1.set) ∧ (∀ p ∈ ((runA2 c i arg1 harg1 arg2 harg2 arg3 harg3 arg4 harg4 arg5 harg5 arg6 harg6 arg7 harg7 arg8 harg8 arg9 harg9 arg10 harg10 x0).1 ++ (runA1 c i arg1 harg1 arg2 harg2 arg3 harg3 arg4 harg4 arg5 harg5 arg6 harg6 arg7 harg7 arg8 harg8 arg9 harg9 arg10 harg10 hc0 x0 x1).1), ∀ y ∈ p.1.set, y ∈ (Rect.unit (s := S2376x2x128) ![0, 0, 0] (![2368, 2, 128] : Fin 3 → ℕ) inb_big).set) :=
  tiles_cover _ (by sl_kernel_rfl) (by sl_kernel_rfl)

/-- What the body's stores leave in each output's buffer (`L2` the codes, `L3` the scale), as pieces, WITH the triple of the whole body
    at a first grid point: its four stretches run one after the other. -/
noncomputable def kernelRun0_A (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i)
    (x0 : Vec F S32x18944 .bf16) (x1 : Vec F S148x148 .f32) :
    Σ' (L2 : List (View.Piece (Elt F) S32x18944 .fp8e4m3)), Σ' (L3 : List (View.Piece (Elt F) S32x128 .f32)), Σ' (LS3 : List (View.Piece (Elt F) S256x256 .bf16)), Σ' (LS4 : List (View.Piece (Elt F) S160x512 .bf16)), Σ' (LT1 : List (View.Piece (Elt F) S608x128 .f32)), Σ' (LT2 : List (View.Piece (Elt F) S4736x128 .f32)), { LT5 : List (View.Piece (Elt F) S32x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ d, owns (c : Thread nD τ) arg5 fullShare d) ∗ (∃ f, arg6.view.loc (c : Thread nD τ) ↦[arg6.view.set]{fullShare} arg6.view.writes (Elt F) f LT1) ∗ (∃ f, arg7.view.loc (c : Thread nD τ) ↦[arg7.view.set]{fullShare} arg7.view.writes (Elt F) f LT2) ∗ (∃ f, arg8.view.loc (c : Thread nD τ) ↦[arg8.view.set]{fullShare} arg8.view.writes (Elt F) f LS3) ∗ (∃ f, arg9.view.loc (c : Thread nD τ) ↦[arg9.view.set]{fullShare} arg9.view.writes (Elt F) f LS4) ∗ (∃ f, arg10.view.loc (c : Thread nD τ) ↦[arg10.view.set]{fullShare} arg10.view.writes (Elt F) f LT5)) -∗ K ⟨⟩))
          ⊢ wp frame (wpE (defs₀ (F := F)) Variants.none c none) E (cc0_rotate_quant i arg1 harg1 arg2 harg2 arg3 harg3 arg4 harg4 arg5 harg5 arg6 harg6 arg7 harg7 arg8 harg8 arg9 harg9 arg10 harg10) K } :=
  ⟨(runC c i arg1 harg1 arg2 harg2 arg3 harg3 arg4 harg4 arg5 harg5 arg6 harg6 arg7 harg7 arg8 harg8 arg9 harg9 arg10 harg10 (View.canon (runB c i arg1 harg1 arg2 harg2 arg3 harg3 arg4 harg4 arg5 harg5 arg6 harg6 arg7 harg7 arg8 harg8 arg9 harg9 arg10 harg10 (xtA c i arg1 harg1 arg2 harg2 arg3 harg3 arg4 harg4 arg5 harg5 arg6 harg6 arg7 harg7 arg8 harg8 arg9 harg9 arg10 harg10 hc0 x0 x1) (View.canon (runA1 c i arg1 harg1 arg2 harg2 arg3 harg3 arg4 harg4 arg5 harg5 arg6 harg6 arg7 harg7 arg8 harg8 arg9 harg9 arg10 harg10 hc0 x0 x1).2.1) (View.canon (runA1 c i arg1 harg1 arg2 harg2 arg3 harg3 arg4 harg4 arg5 harg5 arg6 harg6 arg7 harg7 arg8 harg8 arg9 harg9 arg10 harg10 hc0 x0 x1).2.2.1)).1) (runB c i arg1 harg1 arg2 harg2 arg3 harg3 arg4 harg4 arg5 harg5 arg6 harg6 arg7 harg7 arg8 harg8 arg9 harg9 arg10 harg10 (xtA c i arg1 harg1 arg2 harg2 arg3 harg3 arg4 harg4 arg5 harg5 arg6 harg6 arg7 harg7 arg8 harg8 arg9 harg9 arg10 harg10 hc0 x0 x1) (View.canon (runA1 c i arg1 harg1 arg2 harg2 arg3 harg3 arg4 harg4 arg5 harg5 arg6 harg6 arg7 harg7 arg8 harg8 arg9 harg9 arg10 harg10 hc0 x0 x1).2.1) (View.canon (runA1 c i arg1 harg1 arg2 harg2 arg3 harg3 arg4 harg4 arg5 harg5 arg6 harg6 arg7 harg7 arg8 harg8 arg9 harg9 arg10 harg10 hc0 x0 x1).2.2.1)).2.2.1 (runB c i arg1 harg1 arg2 harg2 arg3 harg3 arg4 harg4 arg5 harg5 arg6 harg6 arg7 harg7 arg8 harg8 arg9 harg9 arg10 harg10 (xtA c i arg1 harg1 arg2 harg2 arg3 harg3 arg4 harg4 arg5 harg5 arg6 harg6 arg7 harg7 arg8 harg8 arg9 harg9 arg10 harg10 hc0 x0 x1) (View.canon (runA1 c i arg1 harg1 arg2 harg2 arg3 harg3 arg4 harg4 arg5 harg5 arg6 harg6 arg7 harg7 arg8 harg8 arg9 harg9 arg10 harg10 hc0 x0 x1).2.1) (View.canon (runA1 c i arg1 harg1 arg2 harg2 arg3 harg3 arg4 harg4 arg5 harg5 arg6 harg6 arg7 harg7 arg8 harg8 arg9 harg9 arg10 harg10 hc0 x0 x1).2.2.1)).2.2.2.1).1, (runB c i arg1 harg1 arg2 harg2 arg3 harg3 arg4 harg4 arg5 harg5 arg6 harg6 arg7 harg7 arg8 harg8 arg9 harg9 arg10 harg10 (xtA c i arg1 harg1 arg2 harg2 arg3 harg3 arg4 harg4 arg5 harg5 arg6 harg6 arg7 harg7 arg8 harg8 arg9 harg9 arg10 harg10 hc0 x0 x1) (View.canon (runA1 c i arg1 harg1 arg2 harg2 arg3 harg3 arg4 harg4 arg5 harg5 arg6 harg6 arg7 harg7 arg8 harg8 arg9 harg9 arg10 harg10 hc0 x0 x1).2.1) (View.canon (runA1 c i arg1 harg1 arg2 harg2 arg3 harg3 arg4 harg4 arg5 harg5 arg6 harg6 arg7 harg7 arg8 harg8 arg9 harg9 arg10 harg10 hc0 x0 x1).2.2.1)).2.1, (runA1 c i arg1 harg1 arg2 harg2 arg3 harg3 arg4 harg4 arg5 harg5 arg6 harg6 arg7 harg7 arg8 harg8 arg9 harg9 arg10 harg10 hc0 x0 x1).2.1, (runA1 c i arg1 harg1 arg2 harg2 arg3 harg3 arg4 harg4 arg5 harg5 arg6 harg6 arg7 harg7 arg8 harg8 arg9 harg9 arg10 harg10 hc0 x0 x1).2.2.1, [], [], [],
    wholeA c i arg1 harg1 arg2 harg2 arg3 harg3 arg4 harg4 arg5 harg5 arg6 harg6 arg7 harg7 arg8 harg8 arg9 harg9 arg10 harg10 x0 x1 (runA1 c i arg1 harg1 arg2 harg2 arg3 harg3 arg4 harg4 arg5 harg5 arg6 harg6 arg7 harg7 arg8 harg8 arg9 harg9 arg10 harg10 hc0 x0 x1).1 (runA2 c i arg1 harg1 arg2 harg2 arg3 harg3 arg4 harg4 arg5 harg5 arg6 harg6 arg7 harg7 arg8 harg8 arg9 harg9 arg10 harg10 x0).1 _ _ (coverA8 c i arg1 harg1 arg2 harg2 arg3 harg3 arg4 harg4 arg5 harg5 arg6 harg6 arg7 harg7 arg8 harg8 arg9 harg9 arg10 harg10 hc0 x0 x1) (coverA9 c i arg1 harg1 arg2 harg2 arg3 harg3 arg4 harg4 arg5 harg5 arg6 harg6 arg7 harg7 arg8 harg8 arg9 harg9 arg10 harg10 hc0 x0 x1) (xtA_cover c i arg1 harg1 arg2 harg2 arg3 harg3 arg4 harg4 arg5 harg5 arg6 harg6 arg7 harg7 arg8 harg8 arg9 harg9 arg10 harg10 hc0 x0 x1) (runB c i arg1 harg1 arg2 harg2 arg3 harg3 arg4 harg4 arg5 harg5 arg6 harg6 arg7 harg7 arg8 harg8 arg9 harg9 arg10 harg10 (xtA c i arg1 harg1 arg2 harg2 arg3 harg3 arg4 harg4 arg5 harg5 arg6 harg6 arg7 harg7 arg8 harg8 arg9 harg9 arg10 harg10 hc0 x0 x1) (View.canon (runA1 c i arg1 harg1 arg2 harg2 arg3 harg3 arg4 harg4 arg5 harg5 arg6 harg6 arg7 harg7 arg8 harg8 arg9 harg9 arg10 harg10 hc0 x0 x1).2.1) (View.canon (runA1 c i arg1 harg1 arg2 harg2 arg3 harg3 arg4 harg4 arg5 harg5 arg6 harg6 arg7 harg7 arg8 harg8 arg9 harg9 arg10 harg10 hc0 x0 x1).2.2.1)).1 (cover7 c i arg1 harg1 arg2 harg2 arg3 harg3 arg4 harg4 arg5 harg5 arg6 harg6 arg7 harg7 arg8 harg8 arg9 harg9 arg10 harg10 _ _ _) (runB c i arg1 harg1 arg2 harg2 arg3 harg3 arg4 harg4 arg5 harg5 arg6 harg6 arg7 harg7 arg8 harg8 arg9 harg9 arg10 harg10 (xtA c i arg1 harg1 arg2 harg2 arg3 harg3 arg4 harg4 arg5 harg5 arg6 harg6 arg7 harg7 arg8 harg8 arg9 harg9 arg10 harg10 hc0 x0 x1) (View.canon (runA1 c i arg1 harg1 arg2 harg2 arg3 harg3 arg4 harg4 arg5 harg5 arg6 harg6 arg7 harg7 arg8 harg8 arg9 harg9 arg10 harg10 hc0 x0 x1).2.1) (View.canon (runA1 c i arg1 harg1 arg2 harg2 arg3 harg3 arg4 harg4 arg5 harg5 arg6 harg6 arg7 harg7 arg8 harg8 arg9 harg9 arg10 harg10 hc0 x0 x1).2.2.1)).2.1 (runB c i arg1 harg1 arg2 harg2 arg3 harg3 arg4 harg4 arg5 harg5 arg6 harg6 arg7 harg7 arg8 harg8 arg9 harg9 arg10 harg10 (xtA c i arg1 harg1 arg2 harg2 arg3 harg3 arg4 harg4 arg5 harg5 arg6 harg6 arg7 harg7 arg8 harg8 arg9 harg9 arg10 harg10 hc0 x0 x1) (View.canon (runA1 c i arg1 harg1 arg2 harg2 arg3 harg3 arg4 harg4 arg5 harg5 arg6 harg6 arg7 harg7 arg8 harg8 arg9 harg9 arg10 harg10 hc0 x0 x1).2.1) (View.canon (runA1 c i arg1 harg1 arg2 harg2 arg3 harg3 arg4 harg4 arg5 harg5 arg6 harg6 arg7 harg7 arg8 harg8 arg9 harg9 arg10 harg10 hc0 x0 x1).2.2.1)).2.2.1 (runB c i arg1 harg1 arg2 harg2 arg3 harg3 arg4 harg4 arg5 harg5 arg6 harg6 arg7 harg7 arg8 harg8 arg9 harg9 arg10 harg10 (xtA c i arg1 harg1 arg2 harg2 arg3 harg3 arg4 harg4 arg5 harg5 arg6 harg6 arg7 harg7 arg8 harg8 arg9 harg9 arg10 harg10 hc0 x0 x1) (View.canon (runA1 c i arg1 harg1 arg2 harg2 arg3 harg3 arg4 harg4 arg5 harg5 arg6 harg6 arg7 harg7 arg8 harg8 arg9 harg9 arg10 harg10 hc0 x0 x1).2.1) (View.canon (runA1 c i arg1 harg1 arg2 harg2 arg3 harg3 arg4 harg4 arg5 harg5 arg6 harg6 arg7 harg7 arg8 harg8 arg9 harg9 arg10 harg10 hc0 x0 x1).2.2.1)).2.2.2.1 (runC c i arg1 harg1 arg2 harg2 arg3 harg3 arg4 harg4 arg5 harg5 arg6 harg6 arg7 harg7 arg8 harg8 arg9 harg9 arg10 harg10 (View.canon (runB c i arg1 harg1 arg2 harg2 arg3 harg3 arg4 harg4 arg5 harg5 arg6 harg6 arg7 harg7 arg8 harg8 arg9 harg9 arg10 harg10 (xtA c i arg1 harg1 arg2 harg2 arg3 harg3 arg4 harg4 arg5 harg5 arg6 harg6 arg7 harg7 arg8 harg8 arg9 harg9 arg10 harg10 hc0 x0 x1) (View.canon (runA1 c i arg1 harg1 arg2 harg2 arg3 harg3 arg4 harg4 arg5 harg5 arg6 harg6 arg7 harg7 arg8 harg8 arg9 harg9 arg10 harg10 hc0 x0 x1).2.1) (View.canon (runA1 c i arg1 harg1 arg2 harg2 arg3 harg3 arg4 harg4 arg5 harg5 arg6 harg6 arg7 harg7 arg8 harg8 arg9 harg9 arg10 harg10 hc0 x0 x1).2.2.1)).1) (runB c i arg1 harg1 arg2 harg2 arg3 harg3 arg4 harg4 arg5 harg5 arg6 harg6 arg7 harg7 arg8 harg8 arg9 harg9 arg10 harg10 (xtA c i arg1 harg1 arg2 harg2 arg3 harg3 arg4 harg4 arg5 harg5 arg6 harg6 arg7 harg7 arg8 harg8 arg9 harg9 arg10 harg10 hc0 x0 x1) (View.canon (runA1 c i arg1 harg1 arg2 harg2 arg3 harg3 arg4 harg4 arg5 harg5 arg6 harg6 arg7 harg7 arg8 harg8 arg9 harg9 arg10 harg10 hc0 x0 x1).2.1) (View.canon (runA1 c i arg1 harg1 arg2 harg2 arg3 harg3 arg4 harg4 arg5 harg5 arg6 harg6 arg7 harg7 arg8 harg8 arg9 harg9 arg10 harg10 hc0 x0 x1).2.2.1)).2.2.1 (runB c i arg1 harg1 arg2 harg2 arg3 harg3 arg4 harg4 arg5 harg5 arg6 harg6 arg7 harg7 arg8 harg8 arg9 harg9 arg10 harg10 (xtA c i arg1 harg1 arg2 harg2 arg3 harg3 arg4 harg4 arg5 harg5 arg6 harg6 arg7 harg7 arg8 harg8 arg9 harg9 arg10 harg10 hc0 x0 x1) (View.canon (runA1 c i arg1 harg1 arg2 harg2 arg3 harg3 arg4 harg4 arg5 harg5 arg6 harg6 arg7 harg7 arg8 harg8 arg9 harg9 arg10 harg10 hc0 x0 x1).2.1) (View.canon (runA1 c i arg1 harg1 arg2 harg2 arg3 harg3 arg4 harg4 arg5 harg5 arg6 harg6 arg7 harg7 arg8 harg8 arg9 harg9 arg10 harg10 hc0 x0 x1).2.2.1)).2.2.2.1).1
      (runA1 c i arg1 harg1 arg2 harg2 arg3 harg3 arg4 harg4 arg5 harg5 arg6 harg6 arg7 harg7 arg8 harg8 arg9 harg9 arg10 harg10 hc0 x0 x1).2.2.2 (runA2 c i arg1 harg1 arg2 harg2 arg3 harg3 arg4 harg4 arg5 harg5 arg6 harg6 arg7 harg7 arg8 harg8 arg9 harg9 arg10 harg10 x0).2 (runB c i arg1 harg1 arg2 harg2 arg3 harg3 arg4 harg4 arg5 harg5 arg6 harg6 arg7 harg7 arg8 harg8 arg9 harg9 arg10 harg10 (xtA c i arg1 harg1 arg2 harg2 arg3 harg3 arg4 harg4 arg5 harg5 arg6 harg6 arg7 harg7 arg8 harg8 arg9 harg9 arg10 harg10 hc0 x0 x1) (View.canon (runA1 c i arg1 harg1 arg2 harg2 arg3 harg3 arg4 harg4 arg5 harg5 arg6 harg6 arg7 harg7 arg8 harg8 arg9 harg9 arg10 harg10 hc0 x0 x1).2.1) (View.canon (runA1 c i arg1 harg1 arg2 harg2 arg3 harg3 arg4 harg4 arg5 harg5 arg6 harg6 arg7 harg7 arg8 harg8 arg9 harg9 arg10 harg10 hc0 x0 x1).2.2.1)).2.2.2.2 (runC c i arg1 harg1 arg2 harg2 arg3 harg3 arg4 harg4 arg5 harg5 arg6 harg6 arg7 harg7 arg8 harg8 arg9 harg9 arg10 harg10 (View.canon (runB c i arg1 harg1 arg2 harg2 arg3 harg3 arg4 harg4 arg5 harg5 arg6 harg6 arg7 harg7 arg8 harg8 arg9 harg9 arg10 harg10 (xtA c i arg1 harg1 arg2 harg2 arg3 harg3 arg4 harg4 arg5 harg5 arg6 harg6 arg7 harg7 arg8 harg8 arg9 harg9 arg10 harg10 hc0 x0 x1) (View.canon (runA1 c i arg1 harg1 arg2 harg2 arg3 harg3 arg4 harg4 arg5 harg5 arg6 harg6 arg7 harg7 arg8 harg8 arg9 harg9 arg10 harg10 hc0 x0 x1).2.1) (View.canon (runA1 c i arg1 harg1 arg2 harg2 arg3 harg3 arg4 harg4 arg5 harg5 arg6 harg6 arg7 harg7 arg8 harg8 arg9 harg9 arg10 harg10 hc0 x0 x1).2.2.1)).1) (runB c i arg1 harg1 arg2 harg2 arg3 harg3 arg4 harg4 arg5 harg5 arg6 harg6 arg7 harg7 arg8 harg8 arg9 harg9 arg10 harg10 (xtA c i arg1 harg1 arg2 harg2 arg3 harg3 arg4 harg4 arg5 harg5 arg6 harg6 arg7 harg7 arg8 harg8 arg9 harg9 arg10 harg10 hc0 x0 x1) (View.canon (runA1 c i arg1 harg1 arg2 harg2 arg3 harg3 arg4 harg4 arg5 harg5 arg6 harg6 arg7 harg7 arg8 harg8 arg9 harg9 arg10 harg10 hc0 x0 x1).2.1) (View.canon (runA1 c i arg1 harg1 arg2 harg2 arg3 harg3 arg4 harg4 arg5 harg5 arg6 harg6 arg7 harg7 arg8 harg8 arg9 harg9 arg10 harg10 hc0 x0 x1).2.2.1)).2.2.1 (runB c i arg1 harg1 arg2 harg2 arg3 harg3 arg4 harg4 arg5 harg5 arg6 harg6 arg7 harg7 arg8 harg8 arg9 harg9 arg10 harg10 (xtA c i arg1 harg1 arg2 harg2 arg3 harg3 arg4 harg4 arg5 harg5 arg6 harg6 arg7 harg7 arg8 harg8 arg9 harg9 arg10 harg10 hc0 x0 x1) (View.canon (runA1 c i arg1 harg1 arg2 harg2 arg3 harg3 arg4 harg4 arg5 harg5 arg6 harg6 arg7 harg7 arg8 harg8 arg9 harg9 arg10 harg10 hc0 x0 x1).2.1) (View.canon (runA1 c i arg1 harg1 arg2 harg2 arg3 harg3 arg4 harg4 arg5 harg5 arg6 harg6 arg7 harg7 arg8 harg8 arg9 harg9 arg10 harg10 hc0 x0 x1).2.2.1)).2.2.2.1).2⟩

/-- The triple of the whole body at a later grid point from the triples of its four stretches, whatever pieces these leave. -/
theorem wholeB (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (x0 : Vec F S32x18944 .bf16) (x1 : Vec F S148x148 .f32) (L51 L52 : List (View.Piece (Elt F) S2376x2x128 .bf16))
    (xs3 : Vec F S256x256 .bf16) (xs4 : Vec F S160x512 .bf16)
    (hX : (∀ y ∈ (Rect.unit (s := S2376x2x128) ![0, 0, 0] (![2368, 2, 128] : Fin 3 → ℕ) inb_big).set, ∃ p ∈ L52 ++ L51, y ∈ p.1.set) ∧ (∀ p ∈ L52 ++ L51, ∀ y ∈ p.1.set, y ∈ (Rect.unit (s := S2376x2x128) ![0, 0, 0] (![2368, 2, 128] : Fin 3 → ℕ) inb_big).set))
    (L7 : List (View.Piece (Elt F) S4736x128 .f32)) (hL7 : ∀ y, ∃ p ∈ L7, y ∈ p.1.set) (L4 : List (View.Piece (Elt F) S32x128 .f32)) (a b : FVec F S32x1 .f32)
    (L3o : List (View.Piece (Elt F) S32x18944 .fp8e4m3))
    (h1 : ∀ (E : Set ℕ) (R : Type) (κ : Prog (TpuEff nD τ sig (Elt F) Λ₀ .tc) R) (Q : R → sProp 𝕄),
        iprop(owns (c : Thread nD τ) arg1 fullShare x0 ∗ (∃ d, owns (c : Thread nD τ) arg5 fullShare d))
          ⊢ iprop(((owns (c : Thread nD τ) arg1 fullShare x0 ∗ (∃ f, arg5.view.loc (c : Thread nD τ) ↦[arg5.view.set]{fullShare} arg5.view.writes (Elt F) f L51)) -∗ wp frame (wpE (defs₀ (F := F)) Variants.none c none) E (κ) Q)
            -∗ wp frame (wpE (defs₀ (F := F)) Variants.none c none) E (st1 i arg1 harg1 arg2 harg2 arg3 harg3 arg4 harg4 arg5 harg5 arg6 harg6 arg7 harg7 arg8 harg8 arg9 harg9 arg10 harg10 κ) Q))
    (h2 : ∀ (E : Set ℕ) (R : Type) (κ : Prog (TpuEff nD τ sig (Elt F) Λ₀ .tc) R) (Q : R → sProp 𝕄) (f5 : arg5.view.ty.Contents (Elt F)),
        iprop(owns (c : Thread nD τ) arg1 fullShare x0 ∗ arg5.view.loc (c : Thread nD τ) ↦[arg5.view.set]{fullShare} f5)
          ⊢ iprop(((owns (c : Thread nD τ) arg1 fullShare x0 ∗ arg5.view.loc (c : Thread nD τ) ↦[arg5.view.set]{fullShare} arg5.view.writes (Elt F) f5 L52) -∗ wp frame (wpE (defs₀ (F := F)) Variants.none c none) E (κ) Q)
            -∗ wp frame (wpE (defs₀ (F := F)) Variants.none c none) E (st2 i arg1 harg1 arg2 harg2 arg3 harg3 arg4 harg4 arg5 harg5 arg6 harg6 arg7 harg7 arg8 harg8 arg9 harg9 arg10 harg10 κ) Q))
    (h3 : ∀ (E : Set ℕ) (R : Type) (κ : FVec F S32x1 .f32 → FVec F S32x1 .f32 → Prog (TpuEff nD τ sig (Elt F) Λ₀ .tc) R) (Q : R → sProp 𝕄),
        iprop((∃ f, arg5.view.loc (c : Thread nD τ) ↦[arg5.view.set]{fullShare} arg5.view.writes (Elt F) f [⟨(Rect.unit (s := S2376x2x128) ![0, 0, 0] (![2368, 2, 128] : Fin 3 → ℕ) inb_big), (fun e => View.canon (L52 ++ L51) ((Rect.unit (s := S2376x2x128) ![0, 0, 0] (![2368, 2, 128] : Fin 3 → ℕ) inb_big).emb e))⟩]) ∗ owns (c : Thread nD τ) arg8 fullShare xs3 ∗ owns (c : Thread nD τ) arg9 fullShare xs4 ∗ (∃ d, owns (c : Thread nD τ) arg4 fullShare d) ∗ (∃ d, owns (c : Thread nD τ) arg6 fullShare d) ∗ (∃ d, owns (c : Thread nD τ) arg7 fullShare d) ∗ (∃ d, owns (c : Thread nD τ) arg10 fullShare d))
          ⊢ iprop((((∃ d, owns (c : Thread nD τ) arg5 fullShare d) ∗ owns (c : Thread nD τ) arg8 fullShare xs3 ∗ owns (c : Thread nD τ) arg9 fullShare xs4 ∗ (∃ f, arg4.view.loc (c : Thread nD τ) ↦[arg4.view.set]{fullShare} arg4.view.writes (Elt F) f L4) ∗ (∃ d, owns (c : Thread nD τ) arg6 fullShare d) ∗ (∃ f, arg7.view.loc (c : Thread nD τ) ↦[arg7.view.set]{fullShare} arg7.view.writes (Elt F) f L7) ∗ (∃ d, owns (c : Thread nD τ) arg10 fullShare d)) -∗ wp frame (wpE (defs₀ (F := F)) Variants.none c none) E (κ a b) Q)
            -∗ wp frame (wpE (defs₀ (F := F)) Variants.none c none) E (st3 i arg1 harg1 arg2 harg2 arg3 harg3 arg4 harg4 arg5 harg5 arg6 harg6 arg7 harg7 arg8 harg8 arg9 harg9 arg10 harg10 κ) Q))
    (h4 : ∀ (E : Set ℕ) (R : Type) (κ : Prog (TpuEff nD τ sig (Elt F) Λ₀ .tc) R) (Q : R → sProp 𝕄),
        iprop(owns (c : Thread nD τ) arg7 fullShare (View.canon L7) ∗ (∃ d, owns (c : Thread nD τ) arg3 fullShare d))
          ⊢ iprop(((owns (c : Thread nD τ) arg7 fullShare (View.canon L7) ∗ (∃ f, arg3.view.loc (c : Thread nD τ) ↦[arg3.view.set]{fullShare} arg3.view.writes (Elt F) f L3o)) -∗ wp frame (wpE (defs₀ (F := F)) Variants.none c none) E (κ) Q)
            -∗ wp frame (wpE (defs₀ (F := F)) Variants.none c none) E (st4 i arg1 harg1 arg2 harg2 arg3 harg3 arg4 harg4 arg5 harg5 arg6 harg6 arg7 harg7 arg8 harg8 arg9 harg9 arg10 harg10 a b κ) Q)) :
    ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs3 ∗ owns (c : Thread nD τ) arg9 fullShare xs4 ∗ (∃ d, owns (c : Thread nD τ) arg10 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L3o) ∗ (∃ f, arg4.view.loc (c : Thread nD τ) ↦[arg4.view.set]{fullShare} arg4.view.writes (Elt F) f L4) ∗ (∃ d, owns (c : Thread nD τ) arg5 fullShare d) ∗ (∃ f, arg6.view.loc (c : Thread nD τ) ↦[arg6.view.set]{fullShare} arg6.view.writes (Elt F) f []) ∗ (∃ f, arg7.view.loc (c : Thread nD τ) ↦[arg7.view.set]{fullShare} arg7.view.writes (Elt F) f []) ∗ owns (c : Thread nD τ) arg8 fullShare xs3 ∗ owns (c : Thread nD τ) arg9 fullShare xs4 ∗ (∃ f, arg10.view.loc (c : Thread nD τ) ↦[arg10.view.set]{fullShare} arg10.view.writes (Elt F) f [])) -∗ K ⟨⟩))
          ⊢ wp frame (wpE (defs₀ (F := F)) Variants.none c none) E (cc0_rotate_quant i arg1 harg1 arg2 harg2 arg3 harg3 arg4 harg4 arg5 harg5 arg6 harg6 arg7 harg7 arg8 harg8 arg9 harg9 arg10 harg10) K  := by
  intro E K
  rw [rot.eq, st1.eq]
  iintro ⟨H1, H2, H3, H4, H5, H6, H7, H8, H9, H10, Hk⟩
  iapply (h1 _ _ _ _) $$ [H1 H5]
  · iframe
  iintro ⟨H1, ⟨%f5, H5⟩⟩
  rw [st2.eq]
  iapply (h2 _ _ _ _ _) $$ [H1 H5]
  · iframe
  iintro ⟨H1, H5⟩
  rw [← View.writes_append, writes_eq_one arg5 harg5 f5 _ (Rect.unit (s := S2376x2x128) ![0, 0, 0] (![2368, 2, 128] : Fin 3 → ℕ) inb_big) hX.1 hX.2, st3.eq]
  iapply (h3 _ _ _ _) $$ [H5 H8 H9 H4 H6 H7 H10]
  · isplitl [H5]
    · iexists _; iexact H5
    iframe
  iintro ⟨H5, H8, H9, H4, H6, ⟨%f7, H7⟩, H10⟩
  rw [st4.eq]
  iapply (h4 _ _ _ _) $$ [H7 H3]
  · isplitl [H7]
    · iapply (owns_of_writes c arg7 f7 _ hL7); iexact H7
    iexact H3
  iintro ⟨H7, H3⟩
  unfold st4.tail
  sl_step
  iapply Hk
  isplitl [H1]
  · iexact H1
  isplitl [H2]
  · iexact H2
  isplitl [H3]
  · iexact H3
  isplitl [H4]
  · iexact H4
  isplitl [H5]
  · iexact H5
  isplitl [H6]
  · iapply (writes_of_any c arg6); iexact H6
  isplitl [H7]
  · iapply (writes_of_any c arg7); iexists _; iexact H7
  isplitl [H8]
  · iexact H8
  isplitl [H9]
  · iexact H9
  iapply (writes_of_any c arg10); iexact H10

/-- The contents the transposed scratch's first 2368 rows end with. -/
def xtB (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : ¬cond0_0 i) (x0 : Vec F S32x18944 .bf16) : (Rect.unit (s := S2376x2x128) ![0, 0, 0] (![2368, 2, 128] : Fin 3 → ℕ) inb_big).shape.Idx → Elt F .bf16 := fun e => View.canon ((runA2 c i arg1 harg1 arg2 harg2 arg3 harg3 arg4 harg4 arg5 harg5 arg6 harg6 arg7 harg7 arg8 harg8 arg9 harg9 arg10 harg10 x0).1 ++ (runB1 c i arg1 harg1 arg2 harg2 arg3 harg3 arg4 harg4 arg5 harg5 arg6 harg6 arg7 harg7 arg8 harg8 arg9 harg9 arg10 harg10 hc0 x0).1) ((Rect.unit (s := S2376x2x128) ![0, 0, 0] (![2368, 2, 128] : Fin 3 → ℕ) inb_big).emb e)

theorem xtB_cover (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : ¬cond0_0 i) (x0 : Vec F S32x18944 .bf16) :
    (∀ y ∈ (Rect.unit (s := S2376x2x128) ![0, 0, 0] (![2368, 2, 128] : Fin 3 → ℕ) inb_big).set, ∃ p ∈ ((runA2 c i arg1 harg1 arg2 harg2 arg3 harg3 arg4 harg4 arg5 harg5 arg6 harg6 arg7 harg7 arg8 harg8 arg9 harg9 arg10 harg10 x0).1 ++ (runB1 c i arg1 harg1 arg2 harg2 arg3 harg3 arg4 harg4 arg5 harg5 arg6 harg6 arg7 harg7 arg8 harg8 arg9 harg9 arg10 harg10 hc0 x0).1), y ∈ p.1.set) ∧ (∀ p ∈ ((runA2 c i arg1 harg1 arg2 harg2 arg3 harg3 arg4 harg4 arg5 harg5 arg6 harg6 arg7 harg7 arg8 harg8 arg9 harg9 arg10 harg10 x0).1 ++ (runB1 c i arg1 harg1 arg2 harg2 arg3 harg3 arg4 harg4 arg5 harg5 arg6 harg6 arg7 harg7 arg8 harg8 arg9 harg9 arg10 harg10 hc0 x0).1), ∀ y ∈ p.1.set, y ∈ (Rect.unit (s := S2376x2x128) ![0, 0, 0] (![2368, 2, 128] : Fin 3 → ℕ) inb_big).set) :=
  tiles_cover _ (by sl_kernel_rfl) (by sl_kernel_rfl)

/-- What the body's stores leave in each output's buffer (`L2` the codes, `L3` the scale), as pieces, WITH the triple of the whole body
    at a later grid point: its four stretches run one after the other. -/
noncomputable def kernelRun0_B (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : ¬cond0_0 i)
    (x0 : Vec F S32x18944 .bf16) (x1 : Vec F S148x148 .f32) (xs3 : Vec F S256x256 .bf16) (xs4 : Vec F S160x512 .bf16) :
    Σ' (L2 : List (View.Piece (Elt F) S32x18944 .fp8e4m3)), Σ' (L3 : List (View.Piece (Elt F) S32x128 .f32)), Σ' (LS3 : List (View.Piece (Elt F) S256x256 .bf16)), Σ' (LS4 : List (View.Piece (Elt F) S160x512 .bf16)), Σ' (LT1 : List (View.Piece (Elt F) S608x128 .f32)), Σ' (LT2 : List (View.Piece (Elt F) S4736x128 .f32)), { LT5 : List (View.Piece (Elt F) S32x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs3 ∗ owns (c : Thread nD τ) arg9 fullShare xs4 ∗ (∃ d, owns (c : Thread nD τ) arg10 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ d, owns (c : Thread nD τ) arg5 fullShare d) ∗ (∃ f, arg6.view.loc (c : Thread nD τ) ↦[arg6.view.set]{fullShare} arg6.view.writes (Elt F) f LT1) ∗ (∃ f, arg7.view.loc (c : Thread nD τ) ↦[arg7.view.set]{fullShare} arg7.view.writes (Elt F) f LT2) ∗ owns (c : Thread nD τ) arg8 fullShare xs3 ∗ owns (c : Thread nD τ) arg9 fullShare xs4 ∗ (∃ f, arg10.view.loc (c : Thread nD τ) ↦[arg10.view.set]{fullShare} arg10.view.writes (Elt F) f LT5)) -∗ K ⟨⟩))
          ⊢ wp frame (wpE (defs₀ (F := F)) Variants.none c none) E (cc0_rotate_quant i arg1 harg1 arg2 harg2 arg3 harg3 arg4 harg4 arg5 harg5 arg6 harg6 arg7 harg7 arg8 harg8 arg9 harg9 arg10 harg10) K } :=
  ⟨(runC c i arg1 harg1 arg2 harg2 arg3 harg3 arg4 harg4 arg5 harg5 arg6 harg6 arg7 harg7 arg8 harg8 arg9 harg9 arg10 harg10 (View.canon (runB c i arg1 harg1 arg2 harg2 arg3 harg3 arg4 harg4 arg5 harg5 arg6 harg6 arg7 harg7 arg8 harg8 arg9 harg9 arg10 harg10 (xtB c i arg1 harg1 arg2 harg2 arg3 harg3 arg4 harg4 arg5 harg5 arg6 harg6 arg7 harg7 arg8 harg8 arg9 harg9 arg10 harg10 hc0 x0) xs3 xs4).1) (runB c i arg1 harg1 arg2 harg2 arg3 harg3 arg4 harg4 arg5 harg5 arg6 harg6 arg7 harg7 arg8 harg8 arg9 harg9 arg10 harg10 (xtB c i arg1 harg1 arg2 harg2 arg3 harg3 arg4 harg4 arg5 harg5 arg6 harg6 arg7 harg7 arg8 harg8 arg9 harg9 arg10 harg10 hc0 x0) xs3 xs4).2.2.1 (runB c i arg1 harg1 arg2 harg2 arg3 harg3 arg4 harg4 arg5 harg5 arg6 harg6 arg7 harg7 arg8 harg8 arg9 harg9 arg10 harg10 (xtB c i arg1 harg1 arg2 harg2 arg3 harg3 arg4 harg4 arg5 harg5 arg6 harg6 arg7 harg7 arg8 harg8 arg9 harg9 arg10 harg10 hc0 x0) xs3 xs4).2.2.2.1).1, (runB c i arg1 harg1 arg2 harg2 arg3 harg3 arg4 harg4 arg5 harg5 arg6 harg6 arg7 harg7 arg8 harg8 arg9 harg9 arg10 harg10 (xtB c i arg1 harg1 arg2 harg2 arg3 harg3 arg4 harg4 arg5 harg5 arg6 harg6 arg7 harg7 arg8 harg8 arg9 harg9 arg10 harg10 hc0 x0) xs3 xs4).2.1, [], [], [], [], [],
    wholeB c i arg1 harg1 arg2 harg2 arg3 harg3 arg4 harg4 arg5 harg5 arg6 harg6 arg7 harg7 arg8 harg8 arg9 harg9 arg10 harg10 x0 x1 (runB1 c i arg1 harg1 arg2 harg2 arg3 harg3 arg4 harg4 arg5 harg5 arg6 harg6 arg7 harg7 arg8 harg8 arg9 harg9 arg10 harg10 hc0 x0).1 (runA2 c i arg1 harg1 arg2 harg2 arg3 harg3 arg4 harg4 arg5 harg5 arg6 harg6 arg7 harg7 arg8 harg8 arg9 harg9 arg10 harg10 x0).1 xs3 xs4 (xtB_cover c i arg1 harg1 arg2 harg2 arg3 harg3 arg4 harg4 arg5 harg5 arg6 harg6 arg7 harg7 arg8 harg8 arg9 harg9 arg10 harg10 hc0 x0) (runB c i arg1 harg1 arg2 harg2 arg3 harg3 arg4 harg4 arg5 harg5 arg6 harg6 arg7 harg7 arg8 harg8 arg9 harg9 arg10 harg10 (xtB c i arg1 harg1 arg2 harg2 arg3 harg3 arg4 harg4 arg5 harg5 arg6 harg6 arg7 harg7 arg8 harg8 arg9 harg9 arg10 harg10 hc0 x0) xs3 xs4).1 (cover7 c i arg1 harg1 arg2 harg2 arg3 harg3 arg4 harg4 arg5 harg5 arg6 harg6 arg7 harg7 arg8 harg8 arg9 harg9 arg10 harg10 _ _ _) (runB c i arg1 harg1 arg2 harg2 arg3 harg3 arg4 harg4 arg5 harg5 arg6 harg6 arg7 harg7 arg8 harg8 arg9 harg9 arg10 harg10 (xtB c i arg1 harg1 arg2 harg2 arg3 harg3 arg4 harg4 arg5 harg5 arg6 harg6 arg7 harg7 arg8 harg8 arg9 harg9 arg10 harg10 hc0 x0) xs3 xs4).2.1 (runB c i arg1 harg1 arg2 harg2 arg3 harg3 arg4 harg4 arg5 harg5 arg6 harg6 arg7 harg7 arg8 harg8 arg9 harg9 arg10 harg10 (xtB c i arg1 harg1 arg2 harg2 arg3 harg3 arg4 harg4 arg5 harg5 arg6 harg6 arg7 harg7 arg8 harg8 arg9 harg9 arg10 harg10 hc0 x0) xs3 xs4).2.2.1 (runB c i arg1 harg1 arg2 harg2 arg3 harg3 arg4 harg4 arg5 harg5 arg6 harg6 arg7 harg7 arg8 harg8 arg9 harg9 arg10 harg10 (xtB c i arg1 harg1 arg2 harg2 arg3 harg3 arg4 harg4 arg5 harg5 arg6 harg6 arg7 harg7 arg8 harg8 arg9 harg9 arg10 harg10 hc0 x0) xs3 xs4).2.2.2.1 (runC c i arg1 harg1 arg2 harg2 arg3 harg3 arg4 harg4 arg5 harg5 arg6 harg6 arg7 harg7 arg8 harg8 arg9 harg9 arg10 harg10 (View.canon (runB c i arg1 harg1 arg2 harg2 arg3 harg3 arg4 harg4 arg5 harg5 arg6 harg6 arg7 harg7 arg8 harg8 arg9 harg9 arg10 harg10 (xtB c i arg1 harg1 arg2 harg2 arg3 harg3 arg4 harg4 arg5 harg5 arg6 harg6 arg7 harg7 arg8 harg8 arg9 harg9 arg10 harg10 hc0 x0) xs3 xs4).1) (runB c i arg1 harg1 arg2 harg2 arg3 harg3 arg4 harg4 arg5 harg5 arg6 harg6 arg7 harg7 arg8 harg8 arg9 harg9 arg10 harg10 (xtB c i arg1 harg1 arg2 harg2 arg3 harg3 arg4 harg4 arg5 harg5 arg6 harg6 arg7 harg7 arg8 harg8 arg9 harg9 arg10 harg10 hc0 x0) xs3 xs4).2.2.1 (runB c i arg1 harg1 arg2 harg2 arg3 harg3 arg4 harg4 arg5 harg5 arg6 harg6 arg7 harg7 arg8 harg8 arg9 harg9 arg10 harg10 (xtB c i arg1 harg1 arg2 harg2 arg3 harg3 arg4 harg4 arg5 harg5 arg6 harg6 arg7 harg7 arg8 harg8 arg9 harg9 arg10 harg10 hc0 x0) xs3 xs4).2.2.2.1).1
      (runB1 c i arg1 harg1 arg2 harg2 arg3 harg3 arg4 harg4 arg5 harg5 arg6 harg6 arg7 harg7 arg8 harg8 arg9 harg9 arg10 harg10 hc0 x0).2 (runA2 c i arg1 harg1 arg2 harg2 arg3 harg3 arg4 harg4 arg5 harg5 arg6 harg6 arg7 harg7 arg8 harg8 arg9 harg9 arg10 harg10 x0).2 (runB c i arg1 harg1 arg2 harg2 arg3 harg3 arg4 harg4 arg5 harg5 arg6 harg6 arg7 harg7 arg8 harg8 arg9 harg9 arg10 harg10 (xtB c i arg1 harg1 arg2 harg2 arg3 harg3 arg4 harg4 arg5 harg5 arg6 harg6 arg7 harg7 arg8 harg8 arg9 harg9 arg10 harg10 hc0 x0) xs3 xs4).2.2.2.2 (runC c i arg1 harg1 arg2 harg2 arg3 harg3 arg4 harg4 arg5 harg5 arg6 harg6 arg7 harg7 arg8 harg8 arg9 harg9 arg10 harg10 (View.canon (runB c i arg1 harg1 arg2 harg2 arg3 harg3 arg4 harg4 arg5 harg5 arg6 harg6 arg7 harg7 arg8 harg8 arg9 harg9 arg10 harg10 (xtB c i arg1 harg1 arg2 harg2 arg3 harg3 arg4 harg4 arg5 harg5 arg6 harg6 arg7 harg7 arg8 harg8 arg9 harg9 arg10 harg10 hc0 x0) xs3 xs4).1) (runB c i arg1 harg1 arg2 harg2 arg3 harg3 arg4 harg4 arg5 harg5 arg6 harg6 arg7 harg7 arg8 harg8 arg9 harg9 arg10 harg10 (xtB c i arg1 harg1 arg2 harg2 arg3 harg3 arg4 harg4 arg5 harg5 arg6 harg6 arg7 harg7 arg8 harg8 arg9 harg9 arg10 harg10 hc0 x0) xs3 xs4).2.2.1 (runB c i arg1 harg1 arg2 harg2 arg3 harg3 arg4 harg4 arg5 harg5 arg6 harg6 arg7 harg7 arg8 harg8 arg9 harg9 arg10 harg10 (xtB c i arg1 harg1 arg2 harg2 arg3 harg3 arg4 harg4 arg5 harg5 arg6 harg6 arg7 harg7 arg8 harg8 arg9 harg9 arg10 harg10 hc0 x0) xs3 xs4).2.2.2.1).2⟩

end Cert.RotateIdeal.Gen

end
-- ==== Proof.RotFrame.lean ====
/-
  The frame of the rotate-and-quantise call: every run ends, faults nowhere and leaves its arguments as they were.
-/
import proofs.«01_k».proof.Proof.RotRun
import Idealize.ShloMosaic.Lib.Claim

-- membership in a rectangle of production extents (`View.cover_of_tiled`): the elaborator's structural look
-- recurses once per coordinate of the long axes
set_option maxRecDepth 16384

noncomputable section

namespace Cert.RotateIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 2 tile its block (148 stores of `S32x128`, checked by the kernel's evaluation: Lib/Ring.lean `Piece.tiledL`, linear in the pieces, through a loop's `@[irreducible]` trip theorem too), so they cover it. -/
theorem cover0_A_2 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i)
    (x0 : Vec F S32x18944 .bf16) (x1 : Vec F S148x148 .f32) (y : S32x18944.Idx) :
    ∃ pc ∈ (kernelRun0_A c i arg1 harg1 arg2 harg2 arg3 harg3 arg4 harg4 arg5 harg5 arg6 harg6 arg7 harg7 arg8 harg8 arg9 harg9 arg10 harg10 hc0 x0 x1).1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1).1 S32x128.size (by sl_kernel_rfl) y

/-- What case A leaves in output 2's staging buffer: its pieces read back over junk. -/
def out0_A_2 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i)
    (x0 : Vec F S32x18944 .bf16) (x1 : Vec F S148x148 .f32) : Vec F S32x18944 .fp8e4m3 :=
  VO0_2.read (Elt F) (VO0_2.writes (Elt F) VO0_2.junk (kernelRun0_A c i arg1 harg1 arg2 harg2 arg3 harg3 arg4 harg4 arg5 harg5 arg6 harg6 arg7 harg7 arg8 harg8 arg9 harg9 arg10 harg10 hc0 x0 x1).1)

/-- Case A's pieces for output 3 tile its block (1 store of `S32x128`, checked by the kernel's evaluation: Lib/Ring.lean `Piece.tiledL`, linear in the pieces, through a loop's `@[irreducible]` trip theorem too), so they cover it. -/
theorem cover0_A_3 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i)
    (x0 : Vec F S32x18944 .bf16) (x1 : Vec F S148x148 .f32) (y : S32x128.Idx) :
    ∃ pc ∈ (kernelRun0_A c i arg1 harg1 arg2 harg2 arg3 harg3 arg4 harg4 arg5 harg5 arg6 harg6 arg7 harg7 arg8 harg8 arg9 harg9 arg10 harg10 hc0 x0 x1).2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1).2.1 S32x128.size (by sl_kernel_rfl) y

/-- What case A leaves in output 3's staging buffer: its pieces read back over junk. -/
def out0_A_3 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i)
    (x0 : Vec F S32x18944 .bf16) (x1 : Vec F S148x148 .f32) : Vec F S32x128 .f32 :=
  VO0_3.read (Elt F) (VO0_3.writes (Elt F) VO0_3.junk (kernelRun0_A c i arg1 harg1 arg2 harg2 arg3 harg3 arg4 harg4 arg5 harg5 arg6 harg6 arg7 harg7 arg8 harg8 arg9 harg9 arg10 harg10 hc0 x0 x1).2.1)

/-- Case A's pieces for scratch `arg8`, which the kernel carries between points, cover it: 1 piece of `S256x256` tiling it (Lib/Ring.lean `Piece.tiledL`). -/
theorem scover0_A_3 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i)
    (x0 : Vec F S32x18944 .bf16) (x1 : Vec F S148x148 .f32) (y : S256x256.Idx) :
    ∃ pc ∈ (kernelRun0_A c i arg1 harg1 arg2 harg2 arg3 harg3 arg4 harg4 arg5 harg5 arg6 harg6 arg7 harg7 arg8 harg8 arg9 harg9 arg10 harg10 hc0 x0 x1).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1).2.2.1 S256x256.size (by sl_kernel_rfl) y

/-- What case A leaves in scratch `arg8`: its pieces read back over junk. -/
def sout0_A_3 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i)
    (x0 : Vec F S32x18944 .bf16) (x1 : Vec F S148x148 .f32) : Vec F S256x256 .bf16 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 hc0 x0 x1).2.2.1)

/-- Case A's pieces for scratch `arg9`, which the kernel carries between points, cover it: 1 piece of `S160x512` tiling it (Lib/Ring.lean `Piece.tiledL`). -/
theorem scover0_A_4 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i)
    (x0 : Vec F S32x18944 .bf16) (x1 : Vec F S148x148 .f32) (y : S160x512.Idx) :
    ∃ pc ∈ (kernelRun0_A c i arg1 harg1 arg2 harg2 arg3 harg3 arg4 harg4 arg5 harg5 arg6 harg6 arg7 harg7 arg8 harg8 arg9 harg9 arg10 harg10 hc0 x0 x1).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1).2.2.2.1 S160x512.size (by sl_kernel_rfl) y

/-- What case A leaves in scratch `arg9`: its pieces read back over junk. -/
def sout0_A_4 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i)
    (x0 : Vec F S32x18944 .bf16) (x1 : Vec F S148x148 .f32) : Vec F S160x512 .bf16 :=
  VS0_4.read (Elt F) (VS0_4.writes (Elt F) VS0_4.junk (kernelRun0_A c i arg1 harg1 arg2 harg2 arg3 harg3 arg4 harg4 arg5 harg5 arg6 harg6 arg7 harg7 arg8 harg8 arg9 harg9 arg10 harg10 hc0 x0 x1).2.2.2.1)

/-- Case B's pieces for output 2 tile its block (148 stores of `S32x128`, checked by the kernel's evaluation: Lib/Ring.lean `Piece.tiledL`, linear in the pieces, through a loop's `@[irreducible]` trip theorem too), so they cover it. -/
theorem cover0_B_2 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : ¬cond0_0 i)
    (x0 : Vec F S32x18944 .bf16) (x1 : Vec F S148x148 .f32) (xs3 : Vec F S256x256 .bf16) (xs4 : Vec F S160x512 .bf16) (y : S32x18944.Idx) :
    ∃ pc ∈ (kernelRun0_B c i arg1 harg1 arg2 harg2 arg3 harg3 arg4 harg4 arg5 harg5 arg6 harg6 arg7 harg7 arg8 harg8 arg9 harg9 arg10 harg10 hc0 x0 x1 xs3 xs4).1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 xs3 xs4).1 S32x128.size (by sl_kernel_rfl) y

/-- What case B leaves in output 2's staging buffer: its pieces read back over junk. -/
def out0_B_2 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : ¬cond0_0 i)
    (x0 : Vec F S32x18944 .bf16) (x1 : Vec F S148x148 .f32) (xs3 : Vec F S256x256 .bf16) (xs4 : Vec F S160x512 .bf16) : Vec F S32x18944 .fp8e4m3 :=
  VO0_2.read (Elt F) (VO0_2.writes (Elt F) VO0_2.junk (kernelRun0_B c i arg1 harg1 arg2 harg2 arg3 harg3 arg4 harg4 arg5 harg5 arg6 harg6 arg7 harg7 arg8 harg8 arg9 harg9 arg10 harg10 hc0 x0 x1 xs3 xs4).1)

/-- Case B's pieces for output 3 tile its block (1 store of `S32x128`, checked by the kernel's evaluation: Lib/Ring.lean `Piece.tiledL`, linear in the pieces, through a loop's `@[irreducible]` trip theorem too), so they cover it. -/
theorem cover0_B_3 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : ¬cond0_0 i)
    (x0 : Vec F S32x18944 .bf16) (x1 : Vec F S148x148 .f32) (xs3 : Vec F S256x256 .bf16) (xs4 : Vec F S160x512 .bf16) (y : S32x128.Idx) :
    ∃ pc ∈ (kernelRun0_B c i arg1 harg1 arg2 harg2 arg3 harg3 arg4 harg4 arg5 harg5 arg6 harg6 arg7 harg7 arg8 harg8 arg9 harg9 arg10 harg10 hc0 x0 x1 xs3 xs4).2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 xs3 xs4).2.1 S32x128.size (by sl_kernel_rfl) y

/-- What case B leaves in output 3's staging buffer: its pieces read back over junk. -/
def out0_B_3 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : ¬cond0_0 i)
    (x0 : Vec F S32x18944 .bf16) (x1 : Vec F S148x148 .f32) (xs3 : Vec F S256x256 .bf16) (xs4 : Vec F S160x512 .bf16) : Vec F S32x128 .f32 :=
  VO0_3.read (Elt F) (VO0_3.writes (Elt F) VO0_3.junk (kernelRun0_B c i arg1 harg1 arg2 harg2 arg3 harg3 arg4 harg4 arg5 harg5 arg6 harg6 arg7 harg7 arg8 harg8 arg9 harg9 arg10 harg10 hc0 x0 x1 xs3 xs4).2.1)

/-- Case B stores nothing into scratch `arg8`: it holds what the point before left. -/
def sout0_B_3 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : ¬cond0_0 i)
    (x0 : Vec F S32x18944 .bf16) (x1 : Vec F S148x148 .f32) (xs3 : Vec F S256x256 .bf16) (xs4 : Vec F S160x512 .bf16) : Vec F S256x256 .bf16 := xs3

/-- Case B stores nothing into scratch `arg9`: it holds what the point before left. -/
def sout0_B_4 (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : ¬cond0_0 i)
    (x0 : Vec F S32x18944 .bf16) (x1 : Vec F S148x148 .f32) (xs3 : Vec F S256x256 .bf16) (xs4 : Vec F S160x512 .bf16) : Vec F S160x512 .bf16 := xs4

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S32x18944 .fp8e4m3 × Vec F S32x128 .f32 × Vec F S256x256 .bf16 × Vec F S160x512 .bf16
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m c 0 ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m c 0 ⟨0, hn⟩) (iblk m c 1 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m c 0 ⟨0, hn⟩) (iblk m c 1 ⟨0, hn⟩), sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m c 0 ⟨0, hn⟩) (iblk m c 1 ⟨0, hn⟩))
  | n + 1, hn =>
    if h0 : (n + 1) % 8 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m c 0 ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m c 0 ⟨n + 1, hn⟩) (iblk m c 1 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m c 0 ⟨n + 1, hn⟩) (iblk m c 1 ⟨n + 1, hn⟩), sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.1 (outsAt0 c n (Nat.lt_of_succ_lt hn)).2.2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.1 (outsAt0 c n (Nat.lt_of_succ_lt hn)).2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.1 (outsAt0 c n (Nat.lt_of_succ_lt hn)).2.2.2, sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 8 = 0) :
    outsAt0 m c t.val t.isLt = (out0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t), out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t), sout0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t), sout0_A_4 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 m c t.val t.isLt = (out0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_4 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c n hn).2.2.1) ∗ owns (c : Thread nD τ) scM0_4 fullShare ((outsAt0 m c n hn).2.2.2) ∗ (∃ d, owns (c : Thread nD τ) scM0_5 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c n hn).2.2.1) ∗ owns (c : Thread nD τ) scM0_4 fullShare ((outsAt0 m c n hn).2.2.2) ∗ (∃ d, owns (c : Thread nD τ) scM0_5 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c (n - 1) (by omega)).2.2.1) ∗ owns (c : Thread nD τ) scM0_4 fullShare ((outsAt0 m c (n - 1) (by omega)).2.2.2) ∗ (∃ d, owns (c : Thread nD τ) scM0_5 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 8000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl,
    after0_0, after0_1, after0_2, after0_3]
  rw [show (dats m 0 c).Φ t.succ = PhiS m c (t.val + 1) t.isLt from rfl, PhiS_succ]
  have hN : t.val < 8 := lt_of_lt_of_eq t.isLt (show cfg0.N = 8 from N_0)
  by_cases h0 : t.val % 8 = 0
  · by_cases hz : t.val = 0
    · rw [PhiS_castSucc m c t, PhiS_zero m c _ _ hz, PhiA0_eq]
      rw [outsAt0_A m c t h0]
      unfold out0_A_2 out0_A_3 sout0_A_3 sout0_A_4; (try dsimp only)
      iintro ⟨⟨⟨HS0, HS1, HS2, HS3, HS4, HS5⟩, Hg⟩, Ho, ⟨%d0, H0⟩, ⟨%d1, H1⟩, ⟨%d2, H2⟩, ⟨%d3, H3⟩⟩
      iapply ((kernelRun0_A c (grid0.coords t) _ _ _ _ _ _ _ _ _ _ _ _ _ _ _ _ _ _ _ _ ((hcond0_0 t).mpr h0) (iblk m c 0 t) (iblk m c 1 t)).2.2.2.2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, ⟨%e2, H2⟩, ⟨%e3, H3⟩, HS0, ⟨%fT1, HS1⟩, ⟨%fT2, HS2⟩, ⟨%es3, HS3⟩, ⟨%es4, HS4⟩, ⟨%fT5, HS5⟩⟩
      isplitl [HS0 HS1 HS2 HS3 HS4 HS5 Hg]
      · isplitl [HS0 HS1 HS2 HS3 HS4 HS5]
        · isplitl [HS0]
          · iexact HS0
          isplitl [HS1]
          · iexists _; unfold owns; iexists _; isplitr
            swap; · iexact HS1
            ipureintro; rfl
          isplitl [HS2]
          · iexists _; unfold owns; iexists _; isplitr
            swap; · iexact HS2
            ipureintro; rfl
          isplitl [HS3]
          · unfold owns; iexists _; isplitr
            swap; · iexact HS3
            ipureintro; exact View.read_writes_of_cover _ _ _ _ _ (scover0_A_3 c _ _ _ _ _ _ _ _ _ _ _ _ _ _ _ _ _ _ _ _ _ _ _ _)
          isplitl [HS4]
          · unfold owns; iexists _; isplitr
            swap; · iexact HS4
            ipureintro; exact View.read_writes_of_cover _ _ _ _ _ (scover0_A_4 c _ _ _ _ _ _ _ _ _ _ _ _ _ _ _ _ _ _ _ _ _ _ _ _)
          iexists _; unfold owns; iexists _; isplitr
          swap; · iexact HS5
          ipureintro; rfl
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _ _ _ _ _ _ _ _ _ _)
      unfold owns; iexists _; isplitr
      swap; · iexact H3
      ipureintro; exact View.read_writes_of_cover _ _ _ _ _ (cover0_A_3 c _ _ _ _ _ _ _ _ _ _ _ _ _ _ _ _ _ _ _ _ _ _ _ _)
    · exfalso; have hN : t.val < 8 := lt_of_lt_of_eq t.isLt (show cfg0.N = 8 from N_0); omega
  · by_cases hz : t.val = 0
    · exfalso; have hN : t.val < 8 := lt_of_lt_of_eq t.isLt (show cfg0.N = 8 from N_0); omega
    · rw [PhiS_castSucc m c t, PhiS_pos m c _ _ hz]
      rw [outsAt0_B m c t h0]
      unfold out0_B_2 out0_B_3 sout0_B_3 sout0_B_4; (try dsimp only)
      iintro ⟨⟨⟨HS0, HS1, HS2, HS3, HS4, HS5⟩, Hg⟩, Ho, ⟨%d0, H0⟩, ⟨%d1, H1⟩, ⟨%d2, H2⟩, ⟨%d3, H3⟩⟩
      iapply ((kernelRun0_B c (grid0.coords t) _ _ _ _ _ _ _ _ _ _ _ _ _ _ _ _ _ _ _ _ (fun h => h0 ((hcond0_0 t).mp h)) (iblk m c 0 t) (iblk m c 1 t) _ _).2.2.2.2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, ⟨%e2, H2⟩, ⟨%e3, H3⟩, HS0, ⟨%fT1, HS1⟩, ⟨%fT2, HS2⟩, HS3, HS4, ⟨%fT5, HS5⟩⟩
      isplitl [HS0 HS1 HS2 HS3 HS4 HS5 Hg]
      · isplitl [HS0 HS1 HS2 HS3 HS4 HS5]
        · isplitl [HS0]
          · iexact HS0
          isplitl [HS1]
          · iexists _; unfold owns; iexists _; isplitr
            swap; · iexact HS1
            ipureintro; rfl
          isplitl [HS2]
          · iexists _; unfold owns; iexists _; isplitr
            swap; · iexact HS2
            ipureintro; rfl
          isplitl [HS3]
          · iexact HS3
          isplitl [HS4]
          · iexact HS4
          iexists _; unfold owns; iexists _; isplitr
          swap; · iexact HS5
          ipureintro; rfl
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _ _ _ _ _ _ _ _ _ _ _ _)
      unfold owns; iexists _; isplitr
      swap; · iexact H3
      ipureintro; exact View.read_writes_of_cover _ _ _ _ _ (cover0_B_3 c _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]
    · iexact HS0
    isplitl [HS1]
    · iexact HS1
    isplitl [HS2]
    · iexact HS2
    isplitl [HS3]
    · iexists _; iexact HS3
    isplitl [HS4]
    · iexists _; iexact HS4
    iexact HS5
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: `Cert.quiescent_RotateIdeal`'s statement (Defs.lean) at any `F` — Proof.lean cites it at `Bits`:
    `theorem Cert.Proof.claim : Cert.Claim := ⟨Cert.RotateIdeal.Gen.facts, fun m ρ _ => Cert.RotateIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.RotateIdeal.Gen

end
-- ==== Proof.RotSpec.lean ====
/-
  The mathematics of the rotation and of its quantiser, over the extended reals: what both programs are shown to compute.
-/
import proofs.«01_k».proof.Proof.RotRun
import Idealize.ShloMosaic.Lib.Pointwise

set_option maxRecDepth 16384

noncomputable section

namespace Cert.RotSpec

open Idealize.ShloMosaic

/-- The sign of entry `(p, q)`: plus where `p` and `q` have an even number of common bits. -/
def sgn (p q : Fin 128) : EReal :=
  Scalar.select (IntOp.cmpi .eq (IntOp.andi (IntOp.ctpop (IntOp.andi (BitVec.ofNat 32 p.val) (BitVec.ofNat 32 q.val))) 1#32) 0#32) (1 : EReal) (Ideal.ofBits FTy.f32 3212836864#32)

/-- `1 / sqrt 18944`, as a literal. -/
abbrev INV : EReal := Ideal.ofBits FTy.f32 1005458238#32
/-- `1 / 448`, as a literal. -/
abbrev C448 : EReal := Ideal.ofBits FTy.f32 991054117#32

/-- The rotated groups: group `k` of `x` times the sign matrix. -/
def zS (x : Fin 148 → Fin 128 → EReal) (k : Fin 148) (q : Fin 128) : EReal := ∑ p : Fin 128, x k p * sgn p q

/-- The rotation: `had` times the rotated groups. -/
def yS (x : Fin 148 → Fin 128 → EReal) (had : Fin 148 → Fin 148 → EReal) (a : Fin 148) (q : Fin 128) : EReal := ∑ k : Fin 148, had a k * zS x k q

/-- The largest magnitude. -/
def amaxS (y : Fin 148 → Fin 128 → EReal) : EReal := Finset.univ.sup fun l : Fin 128 => Finset.univ.sup fun a : Fin 148 => max (y a l) (-(y a l))

/-- The number of powers of two, given by their words, not above `v`, less one. -/
def bitsOf (v : EReal) : BitVec 32 :=
  IntOp.subi (Finset.fold IntOp.addi (0#32) (fun x : Fin 256 => BitVec.setWidth 32 (BitVec.ofBool (decide (Ideal.ofBits FTy.f32 (IntOp.shli ArithUnit.vector (BitVec.ofNat 32 x.val) 23#32) ≤ v)))) Finset.univ) 1#32

/-- The exponent of the scale. -/
def eOf (v : EReal) : BitVec 32 := Scalar.select (IntOp.cmpi .eq (bitsOf v) 0#32) (0#32) (IntOp.subi (bitsOf v) 126#32)

/-- The scale, and its inverse. -/
def sclOf (v : EReal) : EReal := Ideal.ofBits FTy.f32 (IntOp.shli ArithUnit.vector (IntOp.addi (eOf v) 127#32) 23#32)
def invOf (v : EReal) : EReal := Ideal.ofBits FTy.f32 (IntOp.shli ArithUnit.vector (IntOp.subi 127#32 (eOf v)) 23#32)

/-- What the exponent is taken of. -/
def vS (y : Fin 148 → Fin 128 → EReal) : EReal := amaxS y * INV * C448

/-- A code. -/
def codeS (y : Fin 148 → Fin 128 → EReal) (a : Fin 148) (q : Fin 128) : EReal :=
  min (Ideal.ofBits FTy.f32 1138753536#32) (max (Ideal.ofBits FTy.f32 3286237184#32) (y a q * INV * invOf (vS y)))

theorem sgn_comm (p q : Fin 128) : sgn p q = sgn q p := by
  unfold sgn
  rw [show IntOp.andi (BitVec.ofNat 32 p.val) (BitVec.ofNat 32 q.val) = IntOp.andi (BitVec.ofNat 32 q.val) (BitVec.ofNat 32 p.val) from BitVec.and_comm _ _]

theorem INV_pos : 0 < INV := by
  have e : Ideal.ofBits FTy.f32 1005458238#32 = (((15602494 : ℝ) * (2 : ℝ) ^ (-31 : ℤ) : ℝ) : EReal) := by
    simp [Ideal.ofBits, Ideal.ieee, -EReal.coe_mul]
    try norm_num
  show (0 : EReal) < Ideal.ofBits FTy.f32 1005458238#32
  rw [e]
  exact EReal.coe_pos.mpr (by positivity)

theorem neg_inf : Ideal.ofBits FTy.f32 4286578688#32 = ⊥ := by
  simp [Ideal.ofBits, Ideal.ieee]

theorem fold_max {n : ℕ} (f : Fin n → EReal) : Finset.fold max (Ideal.ofBits FTy.f32 4286578688#32) f Finset.univ = Finset.univ.sup f := by
  rw [neg_inf]; rfl

theorem abs_scaled (a : EReal) : max (a * INV) (-(a * INV)) = max a (-a) * INV := by
  have hm : Monotone fun z : EReal => z * INV := fun _ _ h => mul_le_mul_of_nonneg_right h INV_pos.le
  rw [← EReal.neg_mul]
  exact (hm.map_max (a := a) (b := -a)).symm

/-- The largest magnitude of the scaled rotation, lane after lane. -/
theorem amax_scaled (y : Fin 148 → Fin 128 → EReal) (Y : Fin 18944 → EReal)
    (hY : ∀ (a : Fin 148) (l : Fin 128), Y ⟨128 * a.val + l.val, by omega⟩ = y a l * INV) :
    (Finset.univ.sup fun c => max (Y c) (-(Y c))) = amaxS y * INV := by
  have hm : Monotone fun z : EReal => z * INV := fun _ _ h => mul_le_mul_of_nonneg_right h INV_pos.le
  have h1 : amaxS y * INV = Finset.univ.sup fun l : Fin 128 => Finset.univ.sup fun a : Fin 148 => max (y a l) (-(y a l)) * INV := by
    unfold amaxS
    refine (Finset.comp_sup_eq_sup_comp (fun z : EReal => z * INV) (fun x y => hm.map_sup x y) (EReal.bot_mul_of_pos INV_pos)).trans ?_
    refine congrArg _ (funext fun l => ?_)
    exact Finset.comp_sup_eq_sup_comp (fun z : EReal => z * INV) (fun x y => hm.map_sup x y) (EReal.bot_mul_of_pos INV_pos)
  rw [h1]
  apply le_antisymm
  · refine Finset.sup_le fun c _ => ?_
    have hc := hY ⟨c.val / 128, by omega⟩ ⟨c.val % 128, by omega⟩
    have he : (⟨128 * (c.val / 128) + c.val % 128, by omega⟩ : Fin 18944) = c := Fin.ext (by show 128 * (c.val / 128) + c.val % 128 = c.val; omega)
    rw [he] at hc
    rw [hc, abs_scaled]
    refine le_trans ?_ (Finset.le_sup (Finset.mem_univ (⟨c.val % 128, by omega⟩ : Fin 128)))
    exact Finset.le_sup (f := fun a : Fin 148 => max (y a ⟨c.val % 128, by omega⟩) (-(y a ⟨c.val % 128, by omega⟩)) * INV) (Finset.mem_univ (⟨c.val / 128, by omega⟩ : Fin 148))
  · refine Finset.sup_le fun l _ => Finset.sup_le fun a _ => ?_
    rw [← abs_scaled, ← hY a l]
    exact Finset.le_sup (f := fun c => max (Y c) (-(Y c))) (Finset.mem_univ (⟨128 * a.val + l.val, by omega⟩ : Fin 18944))

/-- Zero rows change no maximum of magnitudes. -/
theorem amax_padded (f : Fin 148 → EReal) (g : Fin 160 → EReal) (h1 : ∀ a : Fin 148, g ⟨a.val, by omega⟩ = f a) (h0 : ∀ a : Fin 160, 148 ≤ a.val → g a = 0) :
    (Finset.univ.sup fun a => max (g a) (-(g a))) = Finset.univ.sup fun a => max (f a) (-(f a)) := by
  apply le_antisymm
  · refine Finset.sup_le fun a _ => ?_
    by_cases h : a.val < 148
    · have e : g a = f ⟨a.val, h⟩ := h1 ⟨a.val, h⟩
      rw [e]
      exact Finset.le_sup (f := fun a => max (f a) (-(f a))) (Finset.mem_univ (⟨a.val, h⟩ : Fin 148))
    · rw [h0 a (by omega)]
      have e : max (0 : EReal) (-0) = 0 := by simp
      rw [e]
      refine le_trans ?_ (Finset.le_sup (f := fun a => max (f a) (-(f a))) (Finset.mem_univ (0 : Fin 148)))
      rcases le_total 0 (f 0) with h | h
      · exact le_max_of_le_left h
      · exact le_max_of_le_right (EReal.neg_nonneg.mpr h)
  · refine Finset.sup_le fun a _ => ?_
    rw [← h1 a]
    exact Finset.le_sup (f := fun a => max (g a) (-(g a))) (Finset.mem_univ (⟨a.val, by omega⟩ : Fin 160))

/-- A finite extended real. -/
def Fin' (a : EReal) : Prop := ∃ r : ℝ, a = (r : EReal)

theorem sgn_fin (p q : Fin 128) : Fin' (sgn p q) := by
  unfold sgn Scalar.select
  split
  · exact ⟨1, rfl⟩
  · exact ⟨-(1 : ℝ), by simp [Ideal.ofBits, Ideal.ieee, -EReal.coe_mul, -EReal.coe_neg]; norm_num⟩

theorem sum_fin {n : ℕ} (f : Fin n → EReal) (h : ∀ i, Fin' (f i)) : Fin' (∑ i, f i) := by
  choose r hr using h
  refine ⟨∑ i, r i, ?_⟩
  rw [Finset.sum_congr rfl fun i _ => hr i]
  exact (map_sum (⟨⟨fun r : ℝ => (r : EReal), EReal.coe_zero⟩, EReal.coe_add⟩ : ℝ →+ EReal) r Finset.univ).symm

theorem zS_fin (x : Fin 148 → Fin 128 → EReal) (hx : ∀ k p, Fin' (x k p)) (k : Fin 148) (q : Fin 128) : Fin' (zS x k q) := by
  refine sum_fin _ fun p => ?_
  obtain ⟨a, ha⟩ := hx k p
  obtain ⟨b, hb⟩ := sgn_fin p q
  exact ⟨a * b, by rw [ha, hb, EReal.coe_mul]⟩

theorem fin_sub_self (a : EReal) (h : Fin' a) : a - a = 0 := by
  obtain ⟨r, rfl⟩ := h
  rw [← EReal.coe_sub, sub_self]; rfl

/-- A sum of 512 terms of which 128 and 20 count. -/
theorem fold512 (g : Fin 512 → EReal) (f : Fin 148 → EReal) (h1 : ∀ x : Fin 512, (h : x.val < 128) → g x = f ⟨x.val, by omega⟩)
    (h2 : ∀ x : Fin 512, (h : 384 ≤ x.val ∧ x.val < 404) → g x = f ⟨x.val - 256, by omega⟩)
    (h0 : ∀ x : Fin 512, 128 ≤ x.val → ¬ (384 ≤ x.val ∧ x.val < 404) → g x = 0) : ∑ x, g x = ∑ k, f k := by
  have e : ∑ x : Fin (128 + (256 + (20 + 108))), g x = ∑ x : Fin (128 + 20), f x := by
    rw [Fin.sum_univ_add, Fin.sum_univ_add, Fin.sum_univ_add, Fin.sum_univ_add]
    have a1 : ∑ i : Fin 128, g (Fin.castAdd (256 + (20 + 108)) i) = ∑ i : Fin 128, f (Fin.castAdd 20 i) :=
      Finset.sum_congr rfl fun i _ => h1 _ i.isLt
    have a2 : ∑ i : Fin 256, g (Fin.natAdd 128 (Fin.castAdd (20 + 108) i)) = 0 :=
      Finset.sum_eq_zero fun i _ => h0 _ (by show 128 ≤ 128 + i.val; omega) (by show ¬ (384 ≤ 128 + i.val ∧ 128 + i.val < 404); omega)
    have a3 : ∑ i : Fin 20, g (Fin.natAdd 128 (Fin.natAdd 256 (Fin.castAdd 108 i))) = ∑ i : Fin 20, f (Fin.natAdd 128 i) :=
      Finset.sum_congr rfl fun i _ => (h2 _ (by show 384 ≤ 128 + (256 + i.val) ∧ 128 + (256 + i.val) < 404; omega)).trans
        (congrArg f (Fin.ext (by show 128 + (256 + i.val) - 256 = 128 + i.val; omega)))
    have a4 : ∑ i : Fin 108, g (Fin.natAdd 128 (Fin.natAdd 256 (Fin.natAdd 20 i))) = 0 :=
      Finset.sum_eq_zero fun i _ => h0 _ (by show 128 ≤ 128 + (256 + (20 + i.val)); omega) (by show ¬ (384 ≤ 128 + (256 + (20 + i.val)) ∧ 128 + (256 + (20 + i.val)) < 404); omega)
    rw [a1, a2, a3, a4, zero_add, add_zero]
  exact e

end Cert.RotSpec
-- ==== Proof.RotTiles.lean ====
/-
  What the transposed scratch holds: row `148 * p + k`, half `t`, is row `2 * p + t` of the block, lanes `128 * k …`.
-/
import proofs.«01_k».proof.Proof.RotRun
import Idealize.ShloMosaic.Lib.Pointwise
import Idealize.ShloMosaic.Lib.Pipeline.ValueKit.Tiles

set_option maxRecDepth 16384

noncomputable section

namespace Cert.RotateIdeal.Gen

open Idealize.ShloMosaic Idealize.ShloMosaic.TcCoe Idealize.ShloMosaic.Tactic
open Idealize.SL.Sem

variable {F : FTy → Type} [FloatOps F]

/-- Row `2 * p + t` of sixteen. -/
def pairRow (p : Fin 8) (t : Fin 2) : Fin 16 := ⟨2 * p.val + t.val, by omega⟩

theorem rop_apply (e : Fin 2) (x : FVec F S16x128 .bf16) (p : Fin 8) (l : Fin 128) :
    rowsOfParity e S8x128 x bitcasts_S16x128_w16_S8x128_w32 (ix2 p l) = x (ix2 (pairRow p e) l) := by
  unfold rowsOfParity
  congr 1
  funext a; apply Fin.ext
  match a with
  | ⟨0, _⟩ => rfl
  | ⟨1, _⟩ => rfl

theorem ilv_apply (lo hi : FVec F S8x1x128 .bf16) (p : Fin 8) (t : Fin 2) (l : Fin 128) :
    interleaveRows S8x2x128 lo hi bitcasts_S8x2x128_w16_S8x1x128_w32 (ix3 p t l) = if t = 0 then lo (ix3 p 0 l) else hi (ix3 p 0 l) := by
  have hj : ∀ j : S8x1x128.Idx, (j 0 : Fin 8) = p → (j 2 : Fin 128) = l → j = ix3 p 0 l := by
    intro j h0 h2
    funext a
    match a with
    | ⟨0, _⟩ => exact h0
    | ⟨1, _⟩ => exact Subsingleton.elim (α := Fin 1) _ _
    | ⟨2, _⟩ => exact h2
  have hrow : S8x2x128.row (ix3 p t l) = t.val := rfl
  unfold interleaveRows
  dsimp only
  rw [hrow, hj (fun b => _) rfl rfl]
  match t with
  | ⟨0, _⟩ => rfl
  | ⟨1, _⟩ => rfl

/-- Sixteen rows packed in pairs and stored: half `t` of pair `p` is row `2 * p + t`. -/
theorem pay7_apply (v : Vec F S16x128 .bf16) (p : Fin 8) (t : Fin 2) (l : Fin 128) :
    k0_pay7 v (ix3 p t l) = v (ix2 (pairRow p t) l) := by
  have hc : ∀ (y : FVec F S8x128 .bf16), shapeCast S8x1x128 y shapeCasts_S8x128_S8x1x128 (ix3 p 0 l) = y (ix2 p l) := by
    intro y; pointwise
  have hs : shapeCast S16x128 v shapeCasts_S16x128_S16x128 = v := by
    funext j; pointwise
  have e : k0_pay7 v = interleaveRows S8x2x128 (shapeCast S8x1x128 (rowsOfParity 0 S8x128 (shapeCast S16x128 v shapeCasts_S16x128_S16x128) bitcasts_S16x128_w16_S8x128_w32) shapeCasts_S8x128_S8x1x128) (shapeCast S8x1x128 (rowsOfParity 1 S8x128 (shapeCast S16x128 v shapeCasts_S16x128_S16x128) bitcasts_S16x128_w16_S8x128_w32) shapeCasts_S8x128_S8x1x128) bitcasts_S8x2x128_w16_S8x1x128_w32 := rfl
  rw [e, hs, ilv_apply, hc, hc, rop_apply, rop_apply]
  match t with
  | ⟨0, _⟩ => rfl
  | ⟨1, _⟩ => rfl

theorem inbStrip (g : Fin 2) (k : Fin 148) : ∀ a : Fin S8x2x128.rank, S8x2x128.size a = 0 ∨ (![1184 * g.val + k.val, 0, 0] : Fin 3 → ℕ) a + (![148, 1, 1] : Fin 3 → ℕ) a * (S8x2x128.size a - 1) < S2376x2x128.size a := by
  intro a
  right
  match a with
  | ⟨0, _⟩ => show 1184 * g.val + k.val + 148 * 7 < 2376; omega
  | ⟨1, _⟩ => show 0 + 1 * 1 < 2; omega
  | ⟨2, _⟩ => show 0 + 1 * 127 < 128; omega

theorem inbBlk (g : Fin 2) (k : Fin 148) : ∀ a : Fin S32x18944.rank, (![16 * g.val, 128 * k.val] : Fin 2 → ℕ) a + S16x128.size a ≤ S32x18944.size a := by
  intro a
  match a with
  | ⟨0, _⟩ => show 16 * g.val + 16 ≤ 32; omega
  | ⟨1, _⟩ => show 128 * k.val + 128 ≤ 18944; omega

/-- Every 148-th row from row `1184 * g + k`. -/
def strip (g : Fin 2) (k : Fin 148) : Rect S2376x2x128 :=
  ⟨(⟨![1184 * g.val + k.val, 0, 0], S8x2x128.size, ![148, 1, 1], inbStrip g k⟩ : LoadRect S2376x2x128), spos_148_1_1⟩

def gOf (n : Fin 296) : Fin 2 := ⟨1 - n.val / 148, by omega⟩
def kOf (n : Fin 296) : Fin 148 := ⟨147 - n.val % 148, by omega⟩

/-- The `n`-th tile of the transposed scratch, the last stored first. -/
def tileX (c : Dev nD) (arg1 : Memref sig .tc .vmem S32x18944 .bf16) (harg1 : arg1.IsWhole) (x0 : Vec F S32x18944 .bf16) (n : Fin 296) : (strip (gOf n) (kOf n)).shape.Idx → Elt F .bf16 :=
  k0_pay7 (View.readAt (Elt F) arg1.view (Rect.unit (s := S32x18944) ![16 * (gOf n).val, 128 * (kOf n).val] S16x128.size (inbBlk (gOf n) (kOf n))).toLoadRect (harg1.unread x0))

set_option maxRecDepth 100000 in
theorem LXA_eq (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i) (x0 : Vec F S32x18944 .bf16) (x1 : Vec F S148x148 .f32) :
    (runA2 c i arg1 harg1 arg2 harg2 arg3 harg3 arg4 harg4 arg5 harg5 arg6 harg6 arg7 harg7 arg8 harg8 arg9 harg9 arg10 harg10 x0).1 ++ (runA1 c i arg1 harg1 arg2 harg2 arg3 harg3 arg4 harg4 arg5 harg5 arg6 harg6 arg7 harg7 arg8 harg8 arg9 harg9 arg10 harg10 hc0 x0 x1).1 = List.ofFn fun n => (⟨strip (gOf n) (kOf n), tileX c arg1 harg1 x0 n⟩ : View.Piece (Elt F) S2376x2x128 .bf16) := by
  sl_kernel_rfl

set_option maxRecDepth 100000 in
theorem LXB_eq (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : ¬ cond0_0 i) (x0 : Vec F S32x18944 .bf16) :
    (runA2 c i arg1 harg1 arg2 harg2 arg3 harg3 arg4 harg4 arg5 harg5 arg6 harg6 arg7 harg7 arg8 harg8 arg9 harg9 arg10 harg10 x0).1 ++ (runB1 c i arg1 harg1 arg2 harg2 arg3 harg3 arg4 harg4 arg5 harg5 arg6 harg6 arg7 harg7 arg8 harg8 arg9 harg9 arg10 harg10 hc0 x0).1 = List.ofFn fun n => (⟨strip (gOf n) (kOf n), tileX c arg1 harg1 x0 n⟩ : View.Piece (Elt F) S2376x2x128 .bf16) := by
  sl_kernel_rfl

/-- The tiles, read where they lie. -/
theorem tiles_read (c : Dev nD) (arg1 : Memref sig .tc .vmem S32x18944 .bf16) (harg1 : arg1.IsWhole) (x0 : Vec F S32x18944 .bf16) (q : Fin 16) (k : Fin 148) (t : Fin 2) (l : Fin 128)
    (y : S2376x2x128.Idx) (h0 : (y 0).val = 148 * q.val + k.val) (h1 : (y 1).val = t.val) (h2 : (y 2).val = l.val) :
    View.canon (List.ofFn fun n => (⟨strip (gOf n) (kOf n), tileX c arg1 harg1 x0 n⟩ : View.Piece (Elt F) S2376x2x128 .bf16)) y
      = x0 (ix2 ⟨2 * q.val + t.val, by omega⟩ ⟨128 * k.val + l.val, by omega⟩) := by
  refine View.canon_ofFn_eq_of_forall (fun n => strip (gOf n) (kOf n)) (fun n => tileX c arg1 harg1 x0 n) y _ ?_ ?_
  · refine ⟨⟨148 * (1 - q.val / 8) + (147 - k.val), by omega⟩, ?_⟩
    refine (LoadRect.mem_set _).mpr fun a => ?_
    match a with
    | ⟨0, _⟩ => exact ⟨q.val % 8, (by show q.val % 8 < 8; omega), (by show (y 0).val = 1184 * (1 - (148 * (1 - q.val / 8) + (147 - k.val)) / 148) + (147 - (148 * (1 - q.val / 8) + (147 - k.val)) % 148) + 148 * (q.val % 8); omega)⟩
    | ⟨1, _⟩ => exact ⟨t.val, t.isLt, (by show (y 1).val = 0 + 1 * t.val; omega)⟩
    | ⟨2, _⟩ => exact ⟨l.val, l.isLt, (by show (y 2).val = 0 + 1 * l.val; omega)⟩
  · intro n x hx
    have e0 := congrArg (fun z : S2376x2x128.Idx => (z 0).val) hx
    have e1 := congrArg (fun z : S2376x2x128.Idx => (z 1).val) hx
    have e2 := congrArg (fun z : S2376x2x128.Idx => (z 2).val) hx
    have a0 : 1184 * (gOf n).val + (kOf n).val + 148 * (x 0).val = 148 * q.val + k.val := e0.trans h0
    have a1 : 0 + 1 * (x 1).val = t.val := e1.trans h1
    have a2 : 0 + 1 * (x 2).val = l.val := e2.trans h2
    have b0 : (x 0).val < 8 := (x 0).isLt
    have hg := (gOf n).isLt
    have hk := (kOf n).isLt
    have hx' : x = (ix3 (⟨(x 0).val, b0⟩ : Fin 8) t l : S8x2x128.Idx) := by
      funext a; apply Fin.ext
      match a with
      | ⟨0, _⟩ => rfl
      | ⟨1, _⟩ => show (x 1).val = t.val; omega
      | ⟨2, _⟩ => show (x 2).val = l.val; omega
    have e : tileX c arg1 harg1 x0 n (ix3 (⟨(x 0).val, b0⟩ : Fin 8) t l : S8x2x128.Idx) = _ := pay7_apply _ _ t l
    rw [hx', e, View.readAt_apply, harg1.read_unread]
    congr 1
    funext a; apply Fin.ext
    match a with
    | ⟨0, _⟩ => show 16 * (gOf n).val + 1 * (2 * (x 0).val + t.val) = 2 * q.val + t.val; omega
    | ⟨1, _⟩ => show 128 * (kOf n).val + 1 * l.val = 128 * k.val + l.val; omega

/-- The block's entry at row `r`, lane `l` of group `k`. -/
def xAt (x0 : Vec F S32x18944 .bf16) (r : Fin 32) (k : Fin 148) (l : Fin 128) : Elt F .bf16 := x0 (ix2 r ⟨128 * k.val + l.val, by omega⟩)

/-- The transposed scratch holds `X` at the rows that count. -/
def XtIs (X : (Rect.unit (s := S2376x2x128) ![0, 0, 0] (![2368, 2, 128] : Fin 3 → ℕ) inb_big).shape.Idx → Elt F .bf16) (x0 : Vec F S32x18944 .bf16) : Prop :=
  ∀ (q : Fin 16) (k : Fin 148) (t : Fin 2) (l : Fin 128),
    X (ix3 (⟨148 * q.val + k.val, by omega⟩ : Fin 2368) t l : (⟨3, ![2368, 2, 128]⟩ : Shape).Idx) = xAt x0 ⟨2 * q.val + t.val, by omega⟩ k l

theorem xtA_is (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i) (x0 : Vec F S32x18944 .bf16) (x1 : Vec F S148x148 .f32) : XtIs (xtA c i arg1 harg1 arg2 harg2 arg3 harg3 arg4 harg4 arg5 harg5 arg6 harg6 arg7 harg7 arg8 harg8 arg9 harg9 arg10 harg10 hc0 x0 x1) x0 := by
  intro q k t l
  unfold xtA
  rw [LXA_eq]
  exact tiles_read c arg1 harg1 x0 q k t l _ (by show 0 + 1 * (148 * q.val + k.val) = _; omega) (by show 0 + 1 * t.val = _; omega) (by show 0 + 1 * l.val = _; omega)

theorem xtB_is (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : ¬ cond0_0 i) (x0 : Vec F S32x18944 .bf16) : XtIs (xtB c i arg1 harg1 arg2 harg2 arg3 harg3 arg4 harg4 arg5 harg5 arg6 harg6 arg7 harg7 arg8 harg8 arg9 harg9 arg10 harg10 hc0 x0) x0 := by
  intro q k t l
  unfold xtB
  rw [LXB_eq]
  exact tiles_read c arg1 harg1 x0 q k t l _ (by show 0 + 1 * (148 * q.val + k.val) = _; omega) (by show 0 + 1 * t.val = _; omega) (by show 0 + 1 * l.val = _; omega)

end Cert.RotateIdeal.Gen
-- ==== Proof.RotPay.lean ====
/-
  The values the body computes, entry by entry, over the extended reals.
-/
import proofs.«01_k».proof.Proof.RotSpec
import proofs.«01_k».proof.Proof.RotTiles

set_option maxRecDepth 16384
set_option maxHeartbeats 1000000

noncomputable section

namespace Cert.RotateIdeal.Gen

open Idealize.ShloMosaic Idealize.ShloMosaic.TcCoe Idealize.ShloMosaic.Tactic
open Idealize.SL.Sem
open Cert.RotSpec

/-- The parity of a word's set bits below bit 7, by folding. -/
def foldPar (m : BitVec 32) : BitVec 32 := IntOp.andi (IntOp.xori (IntOp.xori (IntOp.xori (IntOp.andi (m) 127#32) (IntOp.shrsi ArithUnit.vector (IntOp.andi (m) 127#32) 4#32)) (IntOp.shrsi ArithUnit.vector (IntOp.xori (IntOp.andi (m) 127#32) (IntOp.shrsi ArithUnit.vector (IntOp.andi (m) 127#32) 4#32)) 2#32)) (IntOp.shrsi ArithUnit.vector (IntOp.xori (IntOp.xori (IntOp.andi (m) 127#32) (IntOp.shrsi ArithUnit.vector (IntOp.andi (m) 127#32) 4#32)) (IntOp.shrsi ArithUnit.vector (IntOp.xori (IntOp.andi (m) 127#32) (IntOp.shrsi ArithUnit.vector (IntOp.andi (m) 127#32) 4#32)) 2#32)) 1#32)) 1#32

theorem foldPar_small : ∀ m : Fin 128, foldPar (BitVec.ofNat 32 m.val) = IntOp.andi (IntOp.ctpop (BitVec.ofNat 32 m.val)) 1#32 := by decide +kernel
theorem and127 : ∀ r : Fin 256, IntOp.andi (BitVec.ofNat 32 r.val) 127#32 = BitVec.ofNat 32 (r.val % 128) := by decide +kernel
theorem shr7 : ∀ r : Fin 256, IntOp.shrsi ArithUnit.vector (BitVec.ofNat 32 r.val) 7#32 = BitVec.ofNat 32 (r.val / 128) := by decide +kernel
theorem eqBlk : ∀ a b : Fin 2, IntOp.cmpi CmpIPredicate.eq (BitVec.ofNat 32 a.val) (BitVec.ofNat 32 b.val) = BitVec.ofBool (decide (a.val = b.val)) := by decide +kernel

/-- Folding and counting give the same parity. -/
theorem parity_fold (p q : Fin 128) : foldPar (IntOp.andi (BitVec.ofNat 32 p.val) (BitVec.ofNat 32 q.val)) = IntOp.andi (IntOp.ctpop (IntOp.andi (BitVec.ofNat 32 p.val) (BitVec.ofNat 32 q.val))) 1#32 := by
  have e : IntOp.andi (BitVec.ofNat 32 p.val) (BitVec.ofNat 32 q.val) = BitVec.ofNat 32 (p.val &&& q.val) := by
    apply BitVec.eq_of_toNat_eq
    have h : p.val &&& q.val < 128 := Nat.and_lt_two_pow (n := 7) _ q.isLt
    show (BitVec.ofNat 32 p.val &&& BitVec.ofNat 32 q.val).toNat = _
    rw [BitVec.toNat_and, BitVec.toNat_ofNat, BitVec.toNat_ofNat, BitVec.toNat_ofNat, Nat.mod_eq_of_lt (show p.val < 2 ^ 32 by omega), Nat.mod_eq_of_lt (show q.val < 2 ^ 32 by omega), Nat.mod_eq_of_lt (show p.val &&& q.val < 2 ^ 32 by omega)]
  rw [e]
  exact foldPar_small ⟨p.val &&& q.val, Nat.and_lt_two_pow (n := 7) _ q.isLt⟩

theorem foldPar_mod (r c : Fin 256) : foldPar (IntOp.andi (BitVec.ofNat 32 r.val) (BitVec.ofNat 32 c.val)) = foldPar (IntOp.andi (BitVec.ofNat 32 (r.val % 128)) (BitVec.ofNat 32 (c.val % 128))) := by
  have e : IntOp.andi (IntOp.andi (BitVec.ofNat 32 r.val) (BitVec.ofNat 32 c.val)) 127#32 = IntOp.andi (IntOp.andi (BitVec.ofNat 32 (r.val % 128)) (BitVec.ofNat 32 (c.val % 128))) 127#32 := by
    rw [← and127 r, ← and127 c]
    show (_ &&& _) &&& _ = ((_ &&& _) &&& (_ &&& _)) &&& _
    ext i
    simp only [BitVec.getElem_and]
    generalize (BitVec.ofNat 32 r.val)[i] = a
    generalize (BitVec.ofNat 32 c.val)[i] = b
    generalize (127#32)[i] = d
    revert a b d; decide
  unfold foldPar
  rw [e]

theorem same_block (r c : Fin 256) : (IntOp.cmpi CmpIPredicate.eq (IntOp.shrsi ArithUnit.vector (BitVec.ofNat 32 r.val) 7#32)
        (IntOp.shrsi ArithUnit.vector (BitVec.ofNat 32 c.val) 7#32)) = BitVec.ofBool (decide (r.val / 128 = c.val / 128)) := by
  rw [shr7, shr7]
  exact eqBlk ⟨r.val / 128, by omega⟩ ⟨c.val / 128, by omega⟩

/-- The sign matrix: two equal blocks on the diagonal. -/
theorem pay3_apply (r c : Fin 256) : (k0_pay3 (F := Ideal)) (ix2 r c) = if r.val / 128 = c.val / 128 then sgn ⟨r.val % 128, Nat.mod_lt _ (by decide)⟩ ⟨c.val % 128, Nat.mod_lt _ (by decide)⟩ else 0 := by
  have e : (k0_pay3 (F := Ideal)) (ix2 r c) = Scalar.select (IntOp.cmpi CmpIPredicate.eq (IntOp.shrsi ArithUnit.vector (BitVec.ofNat 32 r.val) 7#32)
        (IntOp.shrsi ArithUnit.vector (BitVec.ofNat 32 c.val) 7#32)) (Scalar.select (IntOp.cmpi .eq (foldPar (IntOp.andi (BitVec.ofNat 32 r.val) (BitVec.ofNat 32 c.val))) 0#32) (1 : EReal) (Ideal.ofBits FTy.f32 3212836864#32)) (0 : EReal) := by
    unfold foldPar
    pointwise [k0_pay3]
  have e2 : foldPar (IntOp.andi (BitVec.ofNat 32 r.val) (BitVec.ofNat 32 c.val)) = IntOp.andi (IntOp.ctpop (IntOp.andi (BitVec.ofNat 32 (r.val % 128)) (BitVec.ofNat 32 (c.val % 128)))) 1#32 :=
    (foldPar_mod r c).trans (parity_fold ⟨r.val % 128, Nat.mod_lt _ (by decide)⟩ ⟨c.val % 128, Nat.mod_lt _ (by decide)⟩)
  rw [e, same_block, e2]
  by_cases h : r.val / 128 = c.val / 128
  · simp only [h, decide_true, if_true]; rfl
  · simp only [h, decide_false, if_false]; rfl

/-- The second factor's head and tail columns. -/
theorem pay4_apply (v : Vec Ideal S148x148 .f32) (r : Fin 160) (c : Fin 128) : k0_pay4 v (ix2 r c) = if h : r.val < 148 then v (ix2 ⟨r.val, h⟩ ⟨c.val, by omega⟩) else 0 := by
  pointwise [k0_pay4]
theorem pay5_apply (v : Vec Ideal S148x148 .f32) (r : Fin 160) (c : Fin 128) : k0_pay5 v (ix2 r c) = if h : r.val < 148 then (if h' : c.val < 20 then v (ix2 ⟨r.val, h⟩ ⟨128 + c.val, by omega⟩) else 0) else 0 := by
  pointwise [k0_pay5]

theorem pay6_head (u v : FVec Ideal S160x128 .f32) (r : Fin 160) (c : Fin 512) (h : c.val < 128) : k0_pay6 u v (ix2 r c) = u (ix2 r ⟨c.val, h⟩) := by
  have e : k0_pay6 u v (ix2 r c) = if h : c.val < 128 then u (ix2 r ⟨c.val, h⟩) else k0_pay6 u v (ix2 r c) := by
    pointwise [k0_pay6]
    simp only [h, dite_true]
  rw [e, dif_pos h]
theorem pay6_tail (u v : FVec Ideal S160x128 .f32) (r : Fin 160) (c : Fin 512) (h : 384 ≤ c.val ∧ c.val < 404) (hv : ∀ c : Fin 128, 20 ≤ c.val → v (ix2 r c) = 0) :
    k0_pay6 u v (ix2 r c) = v (ix2 r ⟨c.val - 384, by omega⟩) := by
  have h1 : ¬ c.val < 128 := by omega
  have h2 : ¬ c.val - 128 < 128 := by omega
  have h3 : ¬ c.val - 128 - 128 < 128 := by omega
  have e3 : c.val - 128 - 128 - 128 = c.val - 384 := by omega
  pointwise [k0_pay6]
  simp only [h1, h2, h3, dite_false, e3]
  rw [hv ⟨(c.val - 384 + 128 - 24) % 128, Nat.mod_lt _ (by decide)⟩ (by show 20 ≤ (c.val - 384 + 128 - 24) % 128; omega),
    hv ⟨(c.val - 384 + 128 - 48) % 128, Nat.mod_lt _ (by decide)⟩ (by show 20 ≤ (c.val - 384 + 128 - 48) % 128; omega), add_zero, add_zero]

/-- The scale's exponent, from the row's column maxima. -/
theorem pay669_apply (v : Vec Ideal S32x128 .f32) (r : Fin 32) : k0_pay669 v (ix2 r 0) = eOf ((Finset.univ.sup fun l : Fin 128 => v (ix2 r l)) * INV * C448) := by
  rw [← fold_max]
  pointwise [k0_pay669]
  rfl
theorem pay671_apply (v : Vec Ideal S32x128 .f32) (r : Fin 32) (l : Fin 128) : k0_pay671 v (ix2 r l) = sclOf ((Finset.univ.sup fun l : Fin 128 => v (ix2 r l)) * INV * C448) := by
  unfold sclOf
  rw [← pay669_apply]
  pointwise [k0_pay671]
theorem pay670_apply (v : Vec Ideal S32x128 .f32) (r : Fin 32) : k0_pay670 v (ix2 r 0) = invOf ((Finset.univ.sup fun l : Fin 128 => v (ix2 r l)) * INV * C448) := by
  unfold invOf
  rw [← pay669_apply]
  pointwise [k0_pay670]
theorem pay672_apply (r : Fin 32) : (k0_pay672 (F := Ideal)) (ix2 r 0) = INV := by
  pointwise [k0_pay672]

/-- The codes of one group of lanes. -/
theorem pay674_apply (a b : FVec Ideal S32x1 .f32) (v0 v1 v2 v3 : Vec Ideal S8x128 .f32) (r : Fin 32) (l : Fin 128) (w : EReal)
    (hw : w = if h : r.val < 8 then v0 (ix2 ⟨r.val, h⟩ l) else if h : r.val - 8 < 8 then v1 (ix2 ⟨r.val - 8, h⟩ l) else if h : r.val - 8 - 8 < 8 then v2 (ix2 ⟨r.val - 8 - 8, h⟩ l) else v3 (ix2 ⟨r.val - 8 - 8 - 8, by omega⟩ l)) :
    k0_pay674 a b v0 v1 v2 v3 (ix2 r l) = min (Ideal.ofBits FTy.f32 1138753536#32) (max (Ideal.ofBits FTy.f32 3286237184#32) (w * b (ix2 r 0) * a (ix2 r 0))) := by
  rw [mul_assoc, mul_comm (b (ix2 r 0)), hw]
  pointwise [k0_pay674, k0_pay673]

theorem pay605_apply (v : FVec Ideal S512x256 .bf16) (w : Vec Ideal S160x512 .bf16) (r : Fin 160) (l : Fin 256) : k0_pay605 v w (ix2 r l) = ∑ x : Fin 512, w (ix2 r x) * v (ix2 x l) := by
  pointwise [k0_pay605]
theorem pay606_apply (v : FVec Ideal S512x256 .bf16) (w : Vec Ideal S160x512 .bf16) (r : Fin 148) (l : Fin 128) : k0_pay606 v w (ix2 r l) = k0_pay605 v w (ix2 ⟨r.val, by omega⟩ ⟨l.val, by omega⟩) := by
  pointwise [k0_pay606]
theorem pay608_apply (v : FVec Ideal S512x256 .bf16) (w : Vec Ideal S160x512 .bf16) (r : Fin 148) (l : Fin 128) : k0_pay608 v w (ix2 r l) = k0_pay605 v w (ix2 ⟨r.val, by omega⟩ ⟨128 + l.val, by omega⟩) := by
  pointwise [k0_pay608]
theorem pay607_apply (v : FVec Ideal S512x256 .bf16) (w : Vec Ideal S160x512 .bf16) (l : Fin 128) : k0_pay607 v w (ix2 0 l) = Finset.univ.sup fun a : Fin 160 => max (k0_pay605 v w (ix2 a ⟨l.val, by omega⟩)) (-(k0_pay605 v w (ix2 a ⟨l.val, by omega⟩))) := by
  rw [← fold_max]
  pointwise [k0_pay607]
  rfl
theorem pay609_apply (v : FVec Ideal S512x256 .bf16) (w : Vec Ideal S160x512 .bf16) (l : Fin 128) : k0_pay609 v w (ix2 0 l) = Finset.univ.sup fun a : Fin 160 => max (k0_pay605 v w (ix2 a ⟨128 + l.val, by omega⟩)) (-(k0_pay605 v w (ix2 a ⟨128 + l.val, by omega⟩))) := by
  rw [← fold_max]
  pointwise [k0_pay609]
  rfl

end Cert.RotateIdeal.Gen
-- ==== Proof.RotPay2.lean ====
/-
  The two factors of the second product, entry by entry, over the extended reals.
-/
import proofs.«01_k».proof.Proof.RotPay

set_option maxRecDepth 16384
set_option maxHeartbeats 2000000

noncomputable section

namespace Cert.RotateIdeal.Gen

open Idealize.ShloMosaic Idealize.ShloMosaic.TcCoe Idealize.ShloMosaic.Tactic
open Idealize.SL.Sem
open Cert.RotSpec

/-- Row `n` of `u`, rows from 148 on replaced by zero; as computed. -/
def mz (u : Vec Ideal S152x128 .f32) (n : ℕ) (hn : n < 152) (c : Fin 128) : EReal :=
  if h : n < 144 then u (ix2 ⟨n, by omega⟩ ⟨c.val, by omega⟩)
  else Scalar.select (IntOp.cmpi CmpIPredicate.slt (BitVec.ofNat 32 (n - 144)) 4#32) (u (ix2 ⟨144 + (n - 144), by omega⟩ ⟨c.val, by omega⟩)) (0 : EReal)

theorem slt4 : ∀ k : Fin 8, IntOp.cmpi CmpIPredicate.slt (BitVec.ofNat 32 k.val) 4#32 = BitVec.ofBool (decide (k.val < 4)) := by decide +kernel

theorem mz_lt (u : Vec Ideal S152x128 .f32) (n : ℕ) (hn : n < 152) (c : Fin 128) (h : n < 148) : mz u n hn c = u (ix2 ⟨n, hn⟩ c) := by
  unfold mz
  split
  · rfl
  · rename_i h'
    rw [slt4 ⟨n - 144, by omega⟩, show decide ((⟨n - 144, by omega⟩ : Fin 8).val < 4) = true from decide_eq_true (by show n - 144 < 4; omega)]
    exact congrArg (fun i => u (ix2 i c)) (Fin.ext (by show 144 + (n - 144) = n; omega))

theorem mz_ge (u : Vec Ideal S152x128 .f32) (n : ℕ) (hn : n < 152) (c : Fin 128) (h : 148 ≤ n) : mz u n hn c = 0 := by
  unfold mz
  rw [dif_neg (by omega), slt4 ⟨n - 144, by omega⟩, show decide ((⟨n - 144, by omega⟩ : Fin 8).val < 4) = false from decide_eq_false (by show ¬ n - 144 < 4; omega)]
  rfl

/-- One column of the right factor: the values, what the first rounding leaves, what the second leaves, twice. -/
def rhsCol (u : Vec Ideal S152x128 .f32) (r : Fin 512) (c : Fin 128) : EReal :=
  if h1 : r.val < 128 then mz u r.val (by omega) c
  else if h2 : r.val - 128 < 128 then mz u (r.val - 128) (by omega) c - mz u (r.val - 128) (by omega) c
  else if h3 : r.val - 128 - 128 < 128 then (mz u (r.val - 128 - 128) (by omega) c - mz u (r.val - 128 - 128) (by omega) c) - (mz u (r.val - 128 - 128) (by omega) c - mz u (r.val - 128 - 128) (by omega) c)
  else if h4 : r.val - 128 - 128 - 128 < 24 then mz u (128 + (r.val - 128 - 128 - 128)) (by omega) c
  else if h5 : r.val - 128 - 128 - 128 - 24 < 24 then mz u (128 + (r.val - 128 - 128 - 128 - 24)) (by omega) c - mz u (128 + (r.val - 128 - 128 - 128 - 24)) (by omega) c
  else if h6 : r.val - 128 - 128 - 128 - 24 - 24 < 24 then (mz u (128 + (r.val - 128 - 128 - 128 - 24 - 24)) (by omega) c - mz u (128 + (r.val - 128 - 128 - 128 - 24 - 24)) (by omega) c) - (mz u (128 + (r.val - 128 - 128 - 128 - 24 - 24)) (by omega) c - mz u (128 + (r.val - 128 - 128 - 128 - 24 - 24)) (by omega) c)
  else 0

theorem pay604_col (u v : Vec Ideal S152x128 .f32) (r : Fin 512) (c : Fin 256) :
    k0_pay604 k0_pay484 k0_pay485 k0_pay486 u v (ix2 r c) = if h : c.val < 128 then rhsCol u r ⟨c.val, h⟩ else rhsCol v r ⟨c.val - 128, by omega⟩ := by
  unfold rhsCol mz
  pointwise [k0_pay604, k0_pay484, k0_pay485, k0_pay486]

theorem mz_fin (u : Vec Ideal S152x128 .f32) (n : ℕ) (hn : n < 152) (c : Fin 128) (hu : ∀ k : Fin 152, k.val < 148 → Fin' (u (ix2 k c))) : Fin' (mz u n hn c) := by
  by_cases h : n < 148
  · rw [mz_lt u n hn c h]; exact hu _ h
  · rw [mz_ge u n hn c (by omega)]; exact ⟨0, rfl⟩

theorem rhsCol_head (u : Vec Ideal S152x128 .f32) (c : Fin 128) (r : Fin 512) (h : r.val < 128) : rhsCol u r c = u (ix2 ⟨r.val, by omega⟩ c) := by
  unfold rhsCol; rw [dif_pos h, mz_lt _ _ _ _ (by omega)]

theorem rhsCol_tail (u : Vec Ideal S152x128 .f32) (c : Fin 128) (r : Fin 512) (h : 384 ≤ r.val ∧ r.val < 404) : rhsCol u r c = u (ix2 ⟨r.val - 256, by omega⟩ c) := by
  unfold rhsCol
  rw [dif_neg (by omega), dif_neg (by omega), dif_neg (by omega), dif_pos (by omega), mz_lt _ _ _ _ (by omega)]
  exact congrArg (fun i => u (ix2 i c)) (Fin.ext (by show 128 + (r.val - 128 - 128 - 128) = r.val - 256; omega))

theorem rhsCol_zero (u : Vec Ideal S152x128 .f32) (c : Fin 128) (hu : ∀ k : Fin 152, k.val < 148 → Fin' (u (ix2 k c))) (r : Fin 512) (h : 128 ≤ r.val) (h' : ¬ (384 ≤ r.val ∧ r.val < 404)) : rhsCol u r c = 0 := by
  have hz : (0 : EReal) - 0 = 0 := by simp
  unfold rhsCol
  rw [dif_neg (by omega)]
  split
  · exact fin_sub_self _ (mz_fin _ _ _ _ hu)
  · split
    · rw [fin_sub_self _ (mz_fin _ _ _ _ hu), hz]
    · split
      · exact mz_ge _ _ _ _ (by omega)
      · split
        · exact fin_sub_self _ (mz_fin _ _ _ _ hu)
        · split
          · rw [fin_sub_self _ (mz_fin _ _ _ _ hu), hz]
          · rfl

/-- The second product: the rotated rows, zero below row 148. -/
theorem product (w : Vec Ideal S160x512 .bf16) (u v : Vec Ideal S152x128 .f32) (had : Fin 148 → Fin 148 → EReal)
    (hw1 : ∀ (a : Fin 160) (x : Fin 512) (h : x.val < 128), w (ix2 a x) = if h' : a.val < 148 then had ⟨a.val, h'⟩ ⟨x.val, by omega⟩ else 0)
    (hw2 : ∀ (a : Fin 160) (x : Fin 512) (h : 384 ≤ x.val ∧ x.val < 404), w (ix2 a x) = if h' : a.val < 148 then had ⟨a.val, h'⟩ ⟨x.val - 256, by omega⟩ else 0)
    (s : Vec Ideal S152x128 .f32) (c : Fin 256) (q : Fin 128) (hs : ∀ r : Fin 512, k0_pay604 k0_pay484 k0_pay485 k0_pay486 u v (ix2 r c) = rhsCol s r q)
    (z : Fin 148 → EReal) (hz : ∀ k : Fin 148, s (ix2 ⟨k.val, by omega⟩ q) = z k) (hf : ∀ k, Fin' (z k)) (a : Fin 160) :
    k0_pay605 (k0_pay604 k0_pay484 k0_pay485 k0_pay486 u v) w (ix2 a c) = if h' : a.val < 148 then ∑ k, had ⟨a.val, h'⟩ k * z k else 0 := by
  have hu : ∀ k : Fin 152, k.val < 148 → Fin' (s (ix2 k q)) := fun k hk => (hz ⟨k.val, hk⟩).symm ▸ hf ⟨k.val, hk⟩
  rw [pay605_apply]
  have e : ∀ f : Fin 148 → EReal, (∀ k, f k = (if h' : a.val < 148 then had ⟨a.val, h'⟩ k else 0) * z k) → ∑ x : Fin 512, w (ix2 a x) * k0_pay604 k0_pay484 k0_pay485 k0_pay486 u v (ix2 x c) = ∑ k, f k := by
    intro f hf'
    refine fold512 _ f ?_ ?_ ?_
    · intro x h
      rw [hs, rhsCol_head s q x h, hf', hw1 a x h, ← hz]
    · intro x h
      rw [hs, rhsCol_tail s q x h, hf', hw2 a x h, ← hz]
    · intro x h h'
      rw [hs, rhsCol_zero s q hu x h h', mul_zero]
  rw [e _ fun _ => rfl]
  by_cases h : a.val < 148
  · simp only [h, dite_true]
  · simp only [h, dite_false, zero_mul, Finset.sum_const_zero]

theorem rop3_apply (e : Fin 2) (x : FVec Ideal S152x2x128 .bf16) (p : Fin 152) (l : Fin 128) :
    rowsOfParity e S152x1x128 x bitcasts_S152x2x128_w16_S152x1x128_w32 (ix3 p 0 l) = x (ix3 p e l) := by
  unfold rowsOfParity
  congr 1
  funext a; apply Fin.ext
  match a with
  | ⟨0, _⟩ => rfl
  | ⟨1, _⟩ => show 2 * 0 + e.val = e.val; omega
  | ⟨2, _⟩ => rfl

/-- Row `2 * k + t` of 304. -/
def row2 (k : Fin 152) (t : Fin 2) : Fin 304 := ⟨2 * k.val + t.val, by omega⟩

theorem ilv2_apply (lo hi : FVec Ideal S152x128 .bf16) (k : Fin 152) (t : Fin 2) (l : Fin 128) :
    interleaveRows S304x128 lo hi bitcasts_S304x128_w16_S152x128_w32 (ix2 (row2 k t) l) = if t = 0 then lo (ix2 k l) else hi (ix2 k l) := by
  have hj : ∀ j : S152x128.Idx, (j 0).val = k.val → (j 1).val = l.val → j = ix2 k l := by
    intro j h0 h2
    funext a; apply Fin.ext
    match a with
    | ⟨0, _⟩ => exact h0
    | ⟨1, _⟩ => exact h2
  have hrow : S304x128.row (ix2 (row2 k t) l) = 2 * k.val + t.val := rfl
  unfold interleaveRows
  dsimp only
  rw [hrow, hj (fun b => _) (by show (2 * k.val + t.val) / 2 = k.val; omega) rfl]
  match t with
  | ⟨0, _⟩ => rw [if_pos (show (2 * k.val + 0) % 2 = 0 by omega)]; rfl
  | ⟨1, _⟩ => rw [if_neg (show ¬ (2 * k.val + 1) % 2 = 0 by omega)]; rfl

/-- A pair's rows, interleaved. -/
def ilv (u : Vec Ideal S152x2x128 .bf16) : FVec Ideal S304x128 .bf16 :=
  interleaveRows S304x128 (shapeCast S152x128 (rowsOfParity 0 S152x1x128 u bitcasts_S152x2x128_w16_S152x1x128_w32) shapeCasts_S152x1x128_S152x128)
    (shapeCast S152x128 (rowsOfParity 1 S152x1x128 u bitcasts_S152x2x128_w16_S152x1x128_w32) shapeCasts_S152x1x128_S152x128) bitcasts_S304x128_w16_S152x128_w32

theorem ilv_row (u : Vec Ideal S152x2x128 .bf16) (k : Fin 152) (t : Fin 2) (l : Fin 128) : ilv u (ix2 (row2 k t) l) = u (ix3 k t l) := by
  have hc : ∀ (y : FVec Ideal S152x1x128 .bf16), shapeCast S152x128 y shapeCasts_S152x1x128_S152x128 (ix2 k l) = y (ix3 k 0 l) := by
    intro y; pointwise
  unfold ilv
  rw [ilv2_apply, hc, hc, rop3_apply, rop3_apply]
  match t with
  | ⟨0, _⟩ => rfl
  | ⟨1, _⟩ => rfl

theorem pay487_eq (u v : Vec Ideal S152x2x128 .bf16) (w : Vec Ideal S256x256 .bf16) :
    k0_pay487 u v w = matmul (φ₂ := .bf16) dot_S304x256_S256x256_S304x256_1_0_0_1_n_n none (concatenate S304x256 1 [⟨S304x128, ilv u⟩, ⟨S304x128, ilv v⟩] concatenates_S304x128_S304x128_S304x256_d1) w (constant S304x256 .f32 0x00000000#32) := rfl

theorem prod1 (A B : FVec Ideal S304x128 .bf16) (w : Vec Ideal S256x256 .bf16) (r : Fin 304) (c : Fin 256) :
    (matmul (φ₂ := .bf16) dot_S304x256_S256x256_S304x256_1_0_0_1_n_n none (concatenate S304x256 1 [⟨S304x128, A⟩, ⟨S304x128, B⟩] concatenates_S304x128_S304x128_S304x256_d1) w (constant S304x256 .f32 0x00000000#32) : FVec Ideal S304x256 .f32) (ix2 r c)
      = ∑ p : Fin 256, (if h : p.val < 128 then A (ix2 r ⟨p.val, h⟩) else B (ix2 r ⟨p.val - 128, by omega⟩)) * w (ix2 p c) := by
  pointwise

/-- The sign matrix applied to the rows of two pairs. -/
theorem prod1_blk (A B : FVec Ideal S304x128 .bf16) (w : Vec Ideal S256x256 .bf16)
    (hw : ∀ p q : Fin 256, w (ix2 p q) = if p.val / 128 = q.val / 128 then sgn ⟨p.val % 128, Nat.mod_lt _ (by decide)⟩ ⟨q.val % 128, Nat.mod_lt _ (by decide)⟩ else 0) (r : Fin 304) (q : Fin 128) :
    (∑ p : Fin 256, (if h : p.val < 128 then A (ix2 r ⟨p.val, h⟩) else B (ix2 r ⟨p.val - 128, by omega⟩)) * w (ix2 p ⟨q.val, by omega⟩) = ∑ p : Fin 128, A (ix2 r p) * sgn p q)
    ∧ (∑ p : Fin 256, (if h : p.val < 128 then A (ix2 r ⟨p.val, h⟩) else B (ix2 r ⟨p.val - 128, by omega⟩)) * w (ix2 p ⟨128 + q.val, by omega⟩) = ∑ p : Fin 128, B (ix2 r p) * sgn p q) := by
  have split : ∀ f : Fin 256 → EReal, ∑ p, f p = (∑ p : Fin 128, f ⟨p.val, by omega⟩) + ∑ p : Fin 128, f ⟨128 + p.val, by omega⟩ := fun f => Fin.sum_univ_add (a := 128) (b := 128) f
  constructor
  · rw [split]
    have a1 : (∑ p : Fin 128, (if h : p.val < 128 then A (ix2 r ⟨p.val, h⟩) else B (ix2 r ⟨p.val - 128, by omega⟩)) * w (ix2 ⟨p.val, by omega⟩ ⟨q.val, by omega⟩)) = ∑ p : Fin 128, A (ix2 r p) * sgn p q := by
      refine Finset.sum_congr rfl fun p _ => ?_
      rw [dif_pos p.isLt, hw, if_pos (by show p.val / 128 = q.val / 128; omega)]
      congr 2
      · exact Fin.ext (by show p.val % 128 = p.val; omega)
      · exact Fin.ext (by show q.val % 128 = q.val; omega)
    have a2 : (∑ p : Fin 128, (if h : 128 + p.val < 128 then A (ix2 r ⟨128 + p.val, h⟩) else B (ix2 r ⟨128 + p.val - 128, by omega⟩)) * w (ix2 ⟨128 + p.val, by omega⟩ ⟨q.val, by omega⟩)) = 0 := by
      refine Finset.sum_eq_zero fun p _ => ?_
      rw [hw, if_neg (by show ¬ (128 + p.val) / 128 = q.val / 128; omega), mul_zero]
    exact (congrArg₂ (· + ·) a1 a2).trans (add_zero _)
  · rw [split]
    have a1 : (∑ p : Fin 128, (if h : p.val < 128 then A (ix2 r ⟨p.val, h⟩) else B (ix2 r ⟨p.val - 128, by omega⟩)) * w (ix2 ⟨p.val, by omega⟩ ⟨128 + q.val, by omega⟩)) = 0 := by
      refine Finset.sum_eq_zero fun p _ => ?_
      rw [hw, if_neg (by show ¬ p.val / 128 = (128 + q.val) / 128; omega), mul_zero]
    have a2 : (∑ p : Fin 128, (if h : 128 + p.val < 128 then A (ix2 r ⟨128 + p.val, h⟩) else B (ix2 r ⟨128 + p.val - 128, by omega⟩)) * w (ix2 ⟨128 + p.val, by omega⟩ ⟨128 + q.val, by omega⟩)) = ∑ p : Fin 128, B (ix2 r p) * sgn p q := by
      refine Finset.sum_congr rfl fun p _ => ?_
      rw [dif_neg (by omega), hw, if_pos (by show (128 + p.val) / 128 = (128 + q.val) / 128; omega)]
      congr 2
      · exact congrArg (ix2 r) (Fin.ext (by show 128 + p.val - 128 = p.val; omega))
      · exact Fin.ext (by show (128 + p.val) % 128 = p.val; omega)
      · exact Fin.ext (by show (128 + q.val) % 128 = q.val; omega)
    exact (congrArg₂ (· + ·) a1 a2).trans (zero_add _)

theorem pay488_apply (u v : Vec Ideal S152x2x128 .bf16) (w : Vec Ideal S256x256 .bf16)
    (hw : ∀ p q : Fin 256, w (ix2 p q) = if p.val / 128 = q.val / 128 then sgn ⟨p.val % 128, Nat.mod_lt _ (by decide)⟩ ⟨q.val % 128, Nat.mod_lt _ (by decide)⟩ else 0) (k : Fin 152) (t : Fin 2) (q : Fin 128) :
    k0_pay488 u v w (ix2 (row2 k t) q) = ∑ p : Fin 128, u (ix3 k t p) * sgn p q := by
  have e : k0_pay488 u v w (ix2 (row2 k t) q) = k0_pay487 u v w (ix2 (row2 k t) ⟨q.val, by omega⟩) := by
    generalize row2 k t = r
    pointwise [k0_pay488]
  rw [e, pay487_eq, prod1, (prod1_blk _ _ w hw _ q).1]
  exact Finset.sum_congr rfl fun p _ => by rw [ilv_row]

theorem pay489_apply (u v : Vec Ideal S152x2x128 .bf16) (w : Vec Ideal S256x256 .bf16)
    (hw : ∀ p q : Fin 256, w (ix2 p q) = if p.val / 128 = q.val / 128 then sgn ⟨p.val % 128, Nat.mod_lt _ (by decide)⟩ ⟨q.val % 128, Nat.mod_lt _ (by decide)⟩ else 0) (k : Fin 152) (t : Fin 2) (q : Fin 128) :
    k0_pay489 u v w (ix2 (row2 k t) q) = ∑ p : Fin 128, v (ix3 k t p) * sgn p q := by
  have e : k0_pay489 u v w (ix2 (row2 k t) q) = k0_pay487 u v w (ix2 (row2 k t) ⟨128 + q.val, by omega⟩) := by
    generalize row2 k t = r
    pointwise [k0_pay489]
  rw [e, pay487_eq, prod1, (prod1_blk _ _ w hw _ q).2]
  exact Finset.sum_congr rfl fun p _ => by rw [ilv_row]

end Cert.RotateIdeal.Gen
-- ==== Proof.RotPieces.lean ====
/-
  What the body's stores of the rotated rows, of the rows' column maxima, of the scales and of the codes are, as families:
  the same expression at every step of the unrolled loops.
-/
import proofs.«01_k».proof.Proof.RotRun
import Idealize.ShloMosaic.Lib.Pipeline.ValueKit.Tiles

set_option maxRecDepth 100000

noncomputable section

namespace Cert.RotateIdeal.Gen

open Idealize.ShloMosaic Idealize.ShloMosaic.TcCoe Idealize.ShloMosaic.Tactic
open Idealize.SL.Sem

variable {F : FTy → Type} [FloatOps F]

/-- The transposed scratch's contents, its last eight rows left out. -/
abbrev XtC (F : FTy → Type) := (Rect.unit (s := S2376x2x128) ![0, 0, 0] (![2368, 2, 128] : Fin 3 → ℕ) inb_big).shape.Idx → Elt F .bf16

theorem inbRaw (n : Fin 16) : ∀ a : Fin S2376x2x128.rank, (![148 * n.val, 0, 0] : Fin 3 → ℕ) a + S152x2x128.size a ≤ S2376x2x128.size a := by
  intro a
  match a with
  | ⟨0, _⟩ => show 148 * n.val + 152 ≤ 2376; omega
  | ⟨1, _⟩ => show 0 + 2 ≤ 2; omega
  | ⟨2, _⟩ => show 0 + 128 ≤ 128; omega

/-- The 152 rows of pair `n`. -/
def rawG (arg5 : Memref sig .tc .vmem S2376x2x128 .bf16) (X : XtC F) (n : Fin 16) : Vec F S152x2x128 .bf16 :=
  arg5.view.readCov (runB.sl.H5_2 X) (Rect.unit (s := S2376x2x128) ![148 * n.val, 0, 0] S152x2x128.size (inbRaw n)).toLoadRect

/-- The sign matrix, read whole. -/
def hbR (arg8 : Memref sig .tc .vmem S256x256 .bf16) (harg8 : arg8.IsWhole) (hb : Vec F S256x256 .bf16) : Vec F S256x256 .bf16 :=
  View.readAt (Elt F) arg8.view (Rect.unit ![0, 0] S256x256.size inb_S256x256_S256x256_0_0).toLoadRect (harg8.unread hb)

/-- The second factor, read whole. -/
def heR (arg9 : Memref sig .tc .vmem S160x512 .bf16) (harg9 : arg9.IsWhole) (he : Vec F S160x512 .bf16) : Vec F S160x512 .bf16 :=
  View.readAt (Elt F) arg9.view (Rect.unit ![0, 0] S160x512.size inb_S160x512_S160x512_0_0).toLoadRect (harg9.unread he)

/-- The two halves stored at step `j`, over what was stored before. -/
def topG (arg5 : Memref sig .tc .vmem S2376x2x128 .bf16) (arg8 : Memref sig .tc .vmem S256x256 .bf16) (harg8 : arg8.IsWhole) (X : XtC F) (hb : Vec F S256x256 .bf16) (j : Fin 8) (L : List (View.Piece (Elt F) S608x128 .f32)) : List (View.Piece (Elt F) S608x128 .f32) :=
  ⟨Rect.unit ![304, 0] S304x128.size inb_S608x128_S304x128_304_0, k0_pay489 (rawG arg5 X ⟨2 * j.val, by omega⟩) (rawG arg5 X ⟨2 * j.val + 1, by omega⟩) (hbR arg8 harg8 hb)⟩ ::
    ⟨Rect.unit ![0, 0] S304x128.size inb_S608x128_S304x128_0_0, k0_pay488 (rawG arg5 X ⟨2 * j.val, by omega⟩) (rawG arg5 X ⟨2 * j.val + 1, by omega⟩) (hbR arg8 harg8 hb)⟩ :: L

/-- Everything stored into the small scratch in the first `n` steps. -/
def listG (arg5 : Memref sig .tc .vmem S2376x2x128 .bf16) (arg8 : Memref sig .tc .vmem S256x256 .bf16) (harg8 : arg8.IsWhole) (X : XtC F) (hb : Vec F S256x256 .bf16) : ℕ → List (View.Piece (Elt F) S608x128 .f32)
  | 0 => []
  | n + 1 => topG arg5 arg8 harg8 X hb ⟨n % 8, Nat.mod_lt _ (by decide)⟩ (listG arg5 arg8 harg8 X hb n)

theorem inbZ (i t : Fin 2) : ∀ a : Fin S152x128.rank, S152x128.size a = 0 ∨ (![304 * i.val + t.val, 0] : Fin 2 → ℕ) a + (![2, 1] : Fin 2 → ℕ) a * (S152x128.size a - 1) < S608x128.size a := by
  intro a
  right
  match a with
  | ⟨0, _⟩ => show 304 * i.val + t.val + 2 * 151 < 608; omega
  | ⟨1, _⟩ => show 0 + 1 * 127 < 128; omega

/-- Every second row of half `i` at step `j`. -/
def zG (arg5 : Memref sig .tc .vmem S2376x2x128 .bf16) (arg6 : Memref sig .tc .vmem S608x128 .f32) (arg8 : Memref sig .tc .vmem S256x256 .bf16) (harg8 : arg8.IsWhole) (X : XtC F) (hb : Vec F S256x256 .bf16) (j : Fin 8) (i t : Fin 2) : Vec F S152x128 .f32 :=
  arg6.view.readCov (listG arg5 arg8 harg8 X hb (j.val + 1)) (⟨![304 * i.val + t.val, 0], S152x128.size, ![2, 1], inbZ i t⟩ : LoadRect S608x128)

/-- The right factor at step `j`, half `i`. -/
def rhsG (arg5 : Memref sig .tc .vmem S2376x2x128 .bf16) (arg6 : Memref sig .tc .vmem S608x128 .f32) (arg8 : Memref sig .tc .vmem S256x256 .bf16) (harg8 : arg8.IsWhole) (X : XtC F) (hb : Vec F S256x256 .bf16) (j : Fin 8) (i : Fin 2) : FVec F S512x256 .bf16 :=
  k0_pay604 k0_pay484 k0_pay485 k0_pay486 (zG arg5 arg6 arg8 harg8 X hb j i 0) (zG arg5 arg6 arg8 harg8 X hb j i 1)

/-- Row `n`'s step, half and slot. -/
def jOf (n : Fin 32) : Fin 8 := ⟨n.val / 4, by omega⟩
def iOf (n : Fin 32) : Fin 2 := ⟨n.val / 2 % 2, by omega⟩

theorem inbY (n : Fin 32) : ∀ a : Fin S4736x128.rank, (![148 * n.val, 0] : Fin 2 → ℕ) a + S148x128.size a ≤ S4736x128.size a := by
  intro a
  match a with
  | ⟨0, _⟩ => show 148 * n.val + 148 ≤ 4736; omega
  | ⟨1, _⟩ => show 0 + 128 ≤ 128; omega

theorem inbAm (n : Fin 32) : ∀ a : Fin S32x128.rank, (![n.val, 0] : Fin 2 → ℕ) a + S1x128.size a ≤ S32x128.size a := by
  intro a
  match a with
  | ⟨0, _⟩ => show n.val + 1 ≤ 32; omega
  | ⟨1, _⟩ => show 0 + 128 ≤ 128; omega

/-- The rotated row `n`, as stored. -/
def rowG (arg5 : Memref sig .tc .vmem S2376x2x128 .bf16) (arg6 : Memref sig .tc .vmem S608x128 .f32) (arg8 : Memref sig .tc .vmem S256x256 .bf16) (harg8 : arg8.IsWhole) (arg9 : Memref sig .tc .vmem S160x512 .bf16) (harg9 : arg9.IsWhole) (X : XtC F) (hb : Vec F S256x256 .bf16) (he : Vec F S160x512 .bf16) (n : Fin 32) : FVec F S148x128 .f32 :=
  match n.val % 2 with
  | 0 => k0_pay606 (rhsG arg5 arg6 arg8 harg8 X hb (jOf n) (iOf n)) (heR arg9 harg9 he)
  | _ => k0_pay608 (rhsG arg5 arg6 arg8 harg8 X hb (jOf n) (iOf n)) (heR arg9 harg9 he)

/-- Row `n`'s column maxima, as stored. -/
def amG (arg5 : Memref sig .tc .vmem S2376x2x128 .bf16) (arg6 : Memref sig .tc .vmem S608x128 .f32) (arg8 : Memref sig .tc .vmem S256x256 .bf16) (harg8 : arg8.IsWhole) (arg9 : Memref sig .tc .vmem S160x512 .bf16) (harg9 : arg9.IsWhole) (X : XtC F) (hb : Vec F S256x256 .bf16) (he : Vec F S160x512 .bf16) (n : Fin 32) : FVec F S1x128 .f32 :=
  match n.val % 2 with
  | 0 => k0_pay607 (rhsG arg5 arg6 arg8 harg8 X hb (jOf n) (iOf n)) (heR arg9 harg9 he)
  | _ => k0_pay609 (rhsG arg5 arg6 arg8 harg8 X hb (jOf n) (iOf n)) (heR arg9 harg9 he)

def rev32 (n : Fin 32) : Fin 32 := ⟨31 - n.val, by omega⟩

theorem L7_eq (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (X : XtC F) (hb : Vec F S256x256 .bf16) (he : Vec F S160x512 .bf16) :
    (runB c i arg1 harg1 arg2 harg2 arg3 harg3 arg4 harg4 arg5 harg5 arg6 harg6 arg7 harg7 arg8 harg8 arg9 harg9 arg10 harg10 X hb he).1 = List.ofFn fun n => (⟨Rect.unit (s := S4736x128) ![148 * (rev32 n).val, 0] S148x128.size (inbY (rev32 n)), rowG arg5 arg6 arg8 harg8 arg9 harg9 X hb he (rev32 n)⟩ : View.Piece (Elt F) S4736x128 .f32) := by
  sl_kernel_rfl

theorem L10_eq (c : Dev nD) (arg5 : Memref sig .tc .vmem S2376x2x128 .bf16) (arg6 : Memref sig .tc .vmem S608x128 .f32) (arg8 : Memref sig .tc .vmem S256x256 .bf16) (harg8 : arg8.IsWhole) (arg9 : Memref sig .tc .vmem S160x512 .bf16) (harg9 : arg9.IsWhole) (X : XtC F) (hb : Vec F S256x256 .bf16) (he : Vec F S160x512 .bf16) :
    runB.sl.H10_32 c arg5 arg6 arg8 harg8 arg9 harg9 X hb he = List.ofFn fun n => (⟨Rect.unit (s := S32x128) ![(rev32 n).val, 0] S1x128.size (inbAm (rev32 n)), amG arg5 arg6 arg8 harg8 arg9 harg9 X hb he (rev32 n)⟩ : View.Piece (Elt F) S32x128 .f32) := by
  sl_kernel_rfl

/-- The column maxima of all rows, read whole. -/
def amR (c : Dev nD) (arg10 : Memref sig .tc .vmem S32x128 .f32) (arg5 : Memref sig .tc .vmem S2376x2x128 .bf16) (arg6 : Memref sig .tc .vmem S608x128 .f32) (arg8 : Memref sig .tc .vmem S256x256 .bf16) (harg8 : arg8.IsWhole) (arg9 : Memref sig .tc .vmem S160x512 .bf16) (harg9 : arg9.IsWhole) (X : XtC F) (hb : Vec F S256x256 .bf16) (he : Vec F S160x512 .bf16) : Vec F S32x128 .f32 :=
  arg10.view.readCov (runB.sl.H10_32 c arg5 arg6 arg8 harg8 arg9 harg9 X hb he) (Rect.unit ![0, 0] S32x128.size inb_S32x128_S32x128_0_0).toLoadRect

theorem L4_eq (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (X : XtC F) (hb : Vec F S256x256 .bf16) (he : Vec F S160x512 .bf16) :
    (runB c i arg1 harg1 arg2 harg2 arg3 harg3 arg4 harg4 arg5 harg5 arg6 harg6 arg7 harg7 arg8 harg8 arg9 harg9 arg10 harg10 X hb he).2.1 = [⟨Rect.unit ![0, 0] S32x128.size inb_S32x128_S32x128_0_0, k0_pay671 (amR c arg10 arg5 arg6 arg8 harg8 arg9 harg9 X hb he)⟩] := rfl
theorem aB_eq (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (X : XtC F) (hb : Vec F S256x256 .bf16) (he : Vec F S160x512 .bf16) :
    (runB c i arg1 harg1 arg2 harg2 arg3 harg3 arg4 harg4 arg5 harg5 arg6 harg6 arg7 harg7 arg8 harg8 arg9 harg9 arg10 harg10 X hb he).2.2.1 = k0_pay670 (amR c arg10 arg5 arg6 arg8 harg8 arg9 harg9 X hb he) := rfl
theorem bB_eq (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (X : XtC F) (hb : Vec F S256x256 .bf16) (he : Vec F S160x512 .bf16) :
    (runB c i arg1 harg1 arg2 harg2 arg3 harg3 arg4 harg4 arg5 harg5 arg6 harg6 arg7 harg7 arg8 harg8 arg9 harg9 arg10 harg10 X hb he).2.2.2.1 = k0_pay672 := rfl

theorem inbC (k : Fin 148) : ∀ a : Fin S32x18944.rank, (![0, 128 * k.val] : Fin 2 → ℕ) a + S32x128.size a ≤ S32x18944.size a := by
  intro a
  match a with
  | ⟨0, _⟩ => show 0 + 32 ≤ 32; omega
  | ⟨1, _⟩ => show 128 * k.val + 128 ≤ 18944; omega

theorem inbV (g : Fin 4) (k : Fin 148) : ∀ a : Fin S8x128.rank, S8x128.size a = 0 ∨ (![1184 * g.val + k.val, 0] : Fin 2 → ℕ) a + (![148, 1] : Fin 2 → ℕ) a * (S8x128.size a - 1) < S4736x128.size a := by
  intro a
  right
  match a with
  | ⟨0, _⟩ => show 1184 * g.val + k.val + 148 * 7 < 4736; omega
  | ⟨1, _⟩ => show 0 + 1 * 127 < 128; omega

/-- Group `k` of eight rotated rows. -/
def vG (arg7 : Memref sig .tc .vmem S4736x128 .f32) (harg7 : arg7.IsWhole) (Y : Vec F S4736x128 .f32) (k : Fin 148) (g : Fin 4) : Vec F S8x128 .f32 :=
  View.readAt (Elt F) arg7.view (⟨![1184 * g.val + k.val, 0], S8x128.size, ![148, 1], inbV g k⟩ : LoadRect S4736x128) (harg7.unread Y)

def rev148 (n : Fin 148) : Fin 148 := ⟨147 - n.val, by omega⟩

theorem LC_eq (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (Y : Vec F S4736x128 .f32) (a b : FVec F S32x1 .f32) :
    (runC c i arg1 harg1 arg2 harg2 arg3 harg3 arg4 harg4 arg5 harg5 arg6 harg6 arg7 harg7 arg8 harg8 arg9 harg9 arg10 harg10 Y a b).1 = List.ofFn fun n => (⟨Rect.unit (s := S32x18944) ![0, 128 * (rev148 n).val] S32x128.size (inbC (rev148 n)),
      k0_pay674 a b (vG arg7 harg7 Y (rev148 n) 0) (vG arg7 harg7 Y (rev148 n) 1) (vG arg7 harg7 Y (rev148 n) 2) (vG arg7 harg7 Y (rev148 n) 3)⟩ : View.Piece (Elt F) S32x18944 .fp8e4m3) := by
  sl_kernel_rfl

end Cert.RotateIdeal.Gen
-- ==== Proof.RotZ.lean ====
/-
  The rotated rows, their largest magnitudes, the scales and the codes of one block, entry by entry, over the extended reals.
-/
import proofs.«01_k».proof.Proof.RotPay2
import proofs.«01_k».proof.Proof.RotPieces

set_option maxRecDepth 16384
set_option maxHeartbeats 1000000

noncomputable section

namespace Cert.RotateIdeal.Gen

open Idealize.ShloMosaic Idealize.ShloMosaic.TcCoe Idealize.ShloMosaic.Tactic
open Idealize.SL.Sem
open Cert.RotSpec

theorem hbR_eq (arg8 : Memref sig .tc .vmem S256x256 .bf16) (harg8 : arg8.IsWhole) (hb : Vec Ideal S256x256 .bf16) : hbR arg8 harg8 hb = hb := by
  funext x
  unfold hbR
  rw [View.readAt_apply, harg8.read_unread]
  congr 1
  funext a; apply Fin.ext
  match a with
  | ⟨0, _⟩ => show 0 + 1 * (x 0).val = (x 0).val; omega
  | ⟨1, _⟩ => show 0 + 1 * (x 1).val = (x 1).val; omega

theorem heR_eq (arg9 : Memref sig .tc .vmem S160x512 .bf16) (harg9 : arg9.IsWhole) (he : Vec Ideal S160x512 .bf16) : heR arg9 harg9 he = he := by
  funext x
  unfold heR
  rw [View.readAt_apply, harg9.read_unread]
  congr 1
  funext a; apply Fin.ext
  match a with
  | ⟨0, _⟩ => show 0 + 1 * (x 0).val = (x 0).val; omega
  | ⟨1, _⟩ => show 0 + 1 * (x 1).val = (x 1).val; omega

/-- Row `n` of the block, in groups. -/
def grp (x0 : Vec Ideal S32x18944 .bf16) (n : Fin 32) (k : Fin 148) (l : Fin 128) : EReal := xAt x0 n k l

/-- A pair's rows, read. -/
theorem raw_apply (arg5 : Memref sig .tc .vmem S2376x2x128 .bf16) (X : XtC Ideal) (x0 : Vec Ideal S32x18944 .bf16) (hX : XtIs X x0) (n : Fin 16) (k : Fin 148) (t : Fin 2) (l : Fin 128) :
    rawG arg5 X n (ix3 (⟨k.val, by omega⟩ : Fin 152) t l) = grp x0 ⟨2 * n.val + t.val, by omega⟩ k l := by
  unfold rawG
  rw [View.readCov_eq_canon]
  · have hy : ∀ y : S2376x2x128.Idx, (y 0).val = 148 * n.val + k.val → (y 1).val = t.val → (y 2).val = l.val → View.canon (runB.sl.H5_2 X) y = grp x0 ⟨2 * n.val + t.val, by omega⟩ k l := by
      intro y h0 h1 h2
      unfold runB.sl.H5_2
      rw [View.canon_cons_of_not_mem]
      · have e : y = (Rect.unit (s := S2376x2x128) ![0, 0, 0] (![2368, 2, 128] : Fin 3 → ℕ) inb_big).emb (ix3 (⟨148 * n.val + k.val, by omega⟩ : Fin 2368) t l : (⟨3, ![2368, 2, 128]⟩ : Shape).Idx) := by
          funext a; apply Fin.ext
          match a with
          | ⟨0, _⟩ => show (y 0).val = 0 + 1 * (148 * n.val + k.val); omega
          | ⟨1, _⟩ => show (y 1).val = 0 + 1 * t.val; omega
          | ⟨2, _⟩ => show (y 2).val = 0 + 1 * l.val; omega
        rw [e, View.canon_cons_emb]
        exact hX n k t l
      · intro hm
        obtain ⟨j, hj, e⟩ := (LoadRect.mem_set _).mp hm 0
        have e' : (y 0).val = 2368 + 1 * j := e
        omega
    refine hy _ ?_ ?_ ?_
    · show 148 * n.val + 1 * k.val = _; omega
    · show 0 + 1 * t.val = _; omega
    · show 0 + 1 * l.val = _; omega
  · intro j
    have j0 : (j 0).val < 152 := (j 0).isLt
    have j1 : (j 1).val < 2 := (j 1).isLt
    have j2 : (j 2).val < 128 := (j 2).isLt
    unfold runB.sl.H5_2
    by_cases h : 148 * n.val + (j 0).val < 2368
    · refine ⟨_, List.mem_cons_of_mem _ (List.mem_singleton.mpr rfl), (LoadRect.mem_set _).mpr fun a => ?_⟩
      match a with
      | ⟨0, _⟩ => exact ⟨148 * n.val + (j 0).val, h, (by show 148 * n.val + 1 * (j 0).val = 0 + 1 * (148 * n.val + (j 0).val); omega)⟩
      | ⟨1, _⟩ => exact ⟨(j 1).val, j1, (by show 0 + 1 * (j 1).val = 0 + 1 * (j 1).val; rfl)⟩
      | ⟨2, _⟩ => exact ⟨(j 2).val, j2, (by show 0 + 1 * (j 2).val = 0 + 1 * (j 2).val; rfl)⟩
    · refine ⟨_, List.mem_cons_self, (LoadRect.mem_set _).mpr fun a => ?_⟩
      match a with
      | ⟨0, _⟩ => exact ⟨148 * n.val + (j 0).val - 2368, (by show 148 * n.val + (j 0).val - 2368 < 4; omega), (by show 148 * n.val + 1 * (j 0).val = 2368 + 1 * (148 * n.val + (j 0).val - 2368); omega)⟩
      | ⟨1, _⟩ => exact ⟨(j 1).val, j1, (by show 0 + 1 * (j 1).val = 0 + 1 * (j 1).val; rfl)⟩
      | ⟨2, _⟩ => exact ⟨(j 2).val, j2, (by show 0 + 1 * (j 2).val = 0 + 1 * (j 2).val; rfl)⟩

/-- The sign matrix, as both halves of the product need it. -/
def IsHb (hb : Vec Ideal S256x256 .bf16) : Prop :=
  ∀ p q : Fin 256, hb (ix2 p q) = if p.val / 128 = q.val / 128 then sgn ⟨p.val % 128, Nat.mod_lt _ (by decide)⟩ ⟨q.val % 128, Nat.mod_lt _ (by decide)⟩ else 0

/-- The second factor, at the columns that count. -/
def IsHe (he : Vec Ideal S160x512 .bf16) (had : Fin 148 → Fin 148 → EReal) : Prop :=
  (∀ (a : Fin 160) (x : Fin 512) (h : x.val < 128), he (ix2 a x) = if h' : a.val < 148 then had ⟨a.val, h'⟩ ⟨x.val, by omega⟩ else 0) ∧
  (∀ (a : Fin 160) (x : Fin 512) (h : 384 ≤ x.val ∧ x.val < 404), he (ix2 a x) = if h' : a.val < 148 then had ⟨a.val, h'⟩ ⟨x.val - 256, by omega⟩ else 0)

/-- The rotated groups of one row, read back. -/
theorem z_apply (arg5 : Memref sig .tc .vmem S2376x2x128 .bf16) (arg6 : Memref sig .tc .vmem S608x128 .f32) (arg8 : Memref sig .tc .vmem S256x256 .bf16) (harg8 : arg8.IsWhole) (arg9 : Memref sig .tc .vmem S160x512 .bf16) (harg9 : arg9.IsWhole) (X : XtC Ideal) (x0 : Vec Ideal S32x18944 .bf16) (hX : XtIs X x0) (hb : Vec Ideal S256x256 .bf16) (hw : IsHb hb) (j : Fin 8) (i t : Fin 2) (k : Fin 148) (q : Fin 128) :
    zG arg5 arg6 arg8 harg8 X hb j i t (ix2 (⟨k.val, by omega⟩ : Fin 152) q) = zS (grp x0 ⟨2 * (2 * j.val + i.val) + t.val, by omega⟩) k q := by
  have hl : listG arg5 arg8 harg8 X hb (j.val + 1) = topG arg5 arg8 harg8 X hb j (listG arg5 arg8 harg8 X hb j.val) := by
    show topG arg5 arg8 harg8 X hb ⟨j.val % 8, _⟩ (listG arg5 arg8 harg8 X hb j.val) = _
    congr 1
    exact Fin.ext (Nat.mod_eq_of_lt j.isLt)
  unfold zG
  rw [hl]
  generalize listG arg5 arg8 harg8 X hb j.val = L
  unfold topG
  rw [View.readCov_eq_canon]
  · have hy : ∀ y : S608x128.Idx, (y 0).val = 304 * i.val + t.val + 2 * k.val → (y 1).val = q.val → View.canon
        (⟨Rect.unit (s := S608x128) ![304, 0] S304x128.size inb_S608x128_S304x128_304_0, k0_pay489 (rawG arg5 X ⟨2 * j.val, by omega⟩) (rawG arg5 X ⟨2 * j.val + 1, by omega⟩) (hbR arg8 harg8 hb)⟩ ::
          ⟨Rect.unit (s := S608x128) ![0, 0] S304x128.size inb_S608x128_S304x128_0_0, k0_pay488 (rawG arg5 X ⟨2 * j.val, by omega⟩) (rawG arg5 X ⟨2 * j.val + 1, by omega⟩) (hbR arg8 harg8 hb)⟩ :: L) y = zS (grp x0 ⟨2 * (2 * j.val + i.val) + t.val, by omega⟩) k q := by
      intro y h0 h1
      rw [hbR_eq]
      match i with
      | ⟨0, _⟩ =>
        have h0' : (y 0).val = 304 * 0 + t.val + 2 * k.val := h0
        rw [View.canon_cons_of_not_mem]
        · have e : y = (Rect.unit (s := S608x128) ![0, 0] S304x128.size inb_S608x128_S304x128_0_0).emb (ix2 (row2 ⟨k.val, by omega⟩ t) q : S304x128.Idx) := by
            funext a; apply Fin.ext
            match a with
            | ⟨0, _⟩ => show (y 0).val = 0 + 1 * (2 * k.val + t.val); omega
            | ⟨1, _⟩ => show (y 1).val = 0 + 1 * q.val; omega
          rw [e, View.canon_cons_emb, pay488_apply _ _ _ hw]
          unfold zS
          exact Finset.sum_congr rfl fun p _ => congrArg (· * sgn p q) (raw_apply arg5 X x0 hX _ k t p)
        · intro hm
          obtain ⟨w, hw', e⟩ := (LoadRect.mem_set _).mp hm 0
          have e' : (y 0).val = 304 + 1 * w := e
          omega
      | ⟨1, _⟩ =>
        have h0' : (y 0).val = 304 * 1 + t.val + 2 * k.val := h0
        have e : y = (Rect.unit (s := S608x128) ![304, 0] S304x128.size inb_S608x128_S304x128_304_0).emb (ix2 (row2 ⟨k.val, by omega⟩ t) q : S304x128.Idx) := by
          funext a; apply Fin.ext
          match a with
          | ⟨0, _⟩ => show (y 0).val = 304 + 1 * (2 * k.val + t.val); omega
          | ⟨1, _⟩ => show (y 1).val = 0 + 1 * q.val; omega
        rw [e, View.canon_cons_emb, pay489_apply _ _ _ hw]
        unfold zS
        exact Finset.sum_congr rfl fun p _ => congrArg (· * sgn p q) (raw_apply arg5 X x0 hX _ k t p)
    refine hy _ ?_ ?_
    · rfl
    · show 0 + 1 * q.val = _; omega
  · intro x
    have x0' : (x 0).val < 152 := (x 0).isLt
    have x1' : (x 1).val < 128 := (x 1).isLt
    match i with
    | ⟨0, _⟩ =>
      refine ⟨_, List.mem_cons_of_mem _ List.mem_cons_self, (LoadRect.mem_set _).mpr fun a => ?_⟩
      match a with
      | ⟨0, _⟩ => exact ⟨t.val + 2 * (x 0).val, (by show t.val + 2 * (x 0).val < 304; omega), (by show 304 * 0 + t.val + 2 * (x 0).val = 0 + 1 * (t.val + 2 * (x 0).val); omega)⟩
      | ⟨1, _⟩ => exact ⟨(x 1).val, x1', (by show 0 + 1 * (x 1).val = 0 + 1 * (x 1).val; rfl)⟩
    | ⟨1, _⟩ =>
      refine ⟨_, List.mem_cons_self, (LoadRect.mem_set _).mpr fun a => ?_⟩
      match a with
      | ⟨0, _⟩ => exact ⟨t.val + 2 * (x 0).val, (by show t.val + 2 * (x 0).val < 304; omega), (by show 304 * 1 + t.val + 2 * (x 0).val = 304 + 1 * (t.val + 2 * (x 0).val); omega)⟩
      | ⟨1, _⟩ => exact ⟨(x 1).val, x1', (by show 0 + 1 * (x 1).val = 0 + 1 * (x 1).val; rfl)⟩

/-- The rows of a block are finite. -/
def BlkFin (x0 : Vec Ideal S32x18944 .bf16) : Prop := ∀ (n : Fin 32) (k : Fin 148) (l : Fin 128), Fin' (grp x0 n k l)

theorem row_of (n : Fin 32) (t : Fin 2) (h : n.val % 2 = t.val) : (⟨2 * (2 * (jOf n).val + (iOf n).val) + t.val, by have := (jOf n).isLt; have := (iOf n).isLt; omega⟩ : Fin 32) = n := by
  apply Fin.ext
  show 2 * (2 * (n.val / 4) + n.val / 2 % 2) + t.val = n.val
  omega

/-- The second product for the even and for the odd row of a pair. -/
theorem prod_even (arg5 : Memref sig .tc .vmem S2376x2x128 .bf16) (arg6 : Memref sig .tc .vmem S608x128 .f32) (arg8 : Memref sig .tc .vmem S256x256 .bf16) (harg8 : arg8.IsWhole) (arg9 : Memref sig .tc .vmem S160x512 .bf16) (harg9 : arg9.IsWhole) (X : XtC Ideal) (x0 : Vec Ideal S32x18944 .bf16) (hX : XtIs X x0) (hf : BlkFin x0) (hb : Vec Ideal S256x256 .bf16) (hw : IsHb hb) (he : Vec Ideal S160x512 .bf16) (had : Fin 148 → Fin 148 → EReal) (hh : IsHe he had)
    (n : Fin 32) (hn : n.val % 2 = 0) (a : Fin 160) (q : Fin 128) :
    k0_pay605 (rhsG arg5 arg6 arg8 harg8 X hb (jOf n) (iOf n)) (heR arg9 harg9 he) (ix2 a ⟨q.val, by omega⟩) = if h' : a.val < 148 then yS (grp x0 n) had ⟨a.val, h'⟩ q else 0 := by
  rw [heR_eq]
  unfold rhsG
  refine product he _ _ had hh.1 hh.2 (zG arg5 arg6 arg8 harg8 X hb (jOf n) (iOf n) 0) ⟨q.val, by omega⟩ q ?_ (fun k => zS (grp x0 n) k q) ?_ ?_ a
  · intro r
    rw [pay604_col, dif_pos q.isLt]
  · intro k
    rw [z_apply arg5 arg6 arg8 harg8 arg9 harg9 X x0 hX hb hw, row_of n 0 hn]
  · intro k
    exact zS_fin _ (hf n) k q

theorem prod_odd (arg5 : Memref sig .tc .vmem S2376x2x128 .bf16) (arg6 : Memref sig .tc .vmem S608x128 .f32) (arg8 : Memref sig .tc .vmem S256x256 .bf16) (harg8 : arg8.IsWhole) (arg9 : Memref sig .tc .vmem S160x512 .bf16) (harg9 : arg9.IsWhole) (X : XtC Ideal) (x0 : Vec Ideal S32x18944 .bf16) (hX : XtIs X x0) (hf : BlkFin x0) (hb : Vec Ideal S256x256 .bf16) (hw : IsHb hb) (he : Vec Ideal S160x512 .bf16) (had : Fin 148 → Fin 148 → EReal) (hh : IsHe he had)
    (n : Fin 32) (hn : n.val % 2 = 1) (a : Fin 160) (q : Fin 128) :
    k0_pay605 (rhsG arg5 arg6 arg8 harg8 X hb (jOf n) (iOf n)) (heR arg9 harg9 he) (ix2 a ⟨128 + q.val, by omega⟩) = if h' : a.val < 148 then yS (grp x0 n) had ⟨a.val, h'⟩ q else 0 := by
  rw [heR_eq]
  unfold rhsG
  refine product he _ _ had hh.1 hh.2 (zG arg5 arg6 arg8 harg8 X hb (jOf n) (iOf n) 1) ⟨128 + q.val, by omega⟩ q ?_ (fun k => zS (grp x0 n) k q) ?_ ?_ a
  · intro r
    rw [pay604_col, dif_neg (by show ¬ 128 + q.val < 128; omega)]
    exact congrArg (rhsCol _ r) (Fin.ext (by show 128 + q.val - 128 = q.val; omega))
  · intro k
    rw [z_apply arg5 arg6 arg8 harg8 arg9 harg9 X x0 hX hb hw, row_of n 1 hn]
  · intro k
    exact zS_fin _ (hf n) k q

/-- A rotated row, as stored. -/
theorem rowG_apply (arg5 : Memref sig .tc .vmem S2376x2x128 .bf16) (arg6 : Memref sig .tc .vmem S608x128 .f32) (arg8 : Memref sig .tc .vmem S256x256 .bf16) (harg8 : arg8.IsWhole) (arg9 : Memref sig .tc .vmem S160x512 .bf16) (harg9 : arg9.IsWhole) (X : XtC Ideal) (x0 : Vec Ideal S32x18944 .bf16) (hX : XtIs X x0) (hf : BlkFin x0) (hb : Vec Ideal S256x256 .bf16) (hw : IsHb hb) (he : Vec Ideal S160x512 .bf16) (had : Fin 148 → Fin 148 → EReal) (hh : IsHe he had)
    (n : Fin 32) (a : Fin 148) (q : Fin 128) : rowG arg5 arg6 arg8 harg8 arg9 harg9 X hb he n (ix2 a q) = yS (grp x0 n) had a q := by
  rcases Nat.mod_two_eq_zero_or_one n.val with h | h
  · have e : rowG arg5 arg6 arg8 harg8 arg9 harg9 X hb he n = k0_pay606 (rhsG arg5 arg6 arg8 harg8 X hb (jOf n) (iOf n)) (heR arg9 harg9 he) := by
      unfold rowG; rw [h]; rfl
    rw [e, pay606_apply, prod_even arg5 arg6 arg8 harg8 arg9 harg9 X x0 hX hf hb hw he had hh n h, dif_pos a.isLt]
  · have e : rowG arg5 arg6 arg8 harg8 arg9 harg9 X hb he n = k0_pay608 (rhsG arg5 arg6 arg8 harg8 X hb (jOf n) (iOf n)) (heR arg9 harg9 he) := by
      unfold rowG; rw [h]; rfl
    rw [e, pay608_apply, prod_odd arg5 arg6 arg8 harg8 arg9 harg9 X x0 hX hf hb hw he had hh n h, dif_pos a.isLt]

/-- A row's column maxima, as stored. -/
theorem amG_apply (arg5 : Memref sig .tc .vmem S2376x2x128 .bf16) (arg6 : Memref sig .tc .vmem S608x128 .f32) (arg8 : Memref sig .tc .vmem S256x256 .bf16) (harg8 : arg8.IsWhole) (arg9 : Memref sig .tc .vmem S160x512 .bf16) (harg9 : arg9.IsWhole) (X : XtC Ideal) (x0 : Vec Ideal S32x18944 .bf16) (hX : XtIs X x0) (hf : BlkFin x0) (hb : Vec Ideal S256x256 .bf16) (hw : IsHb hb) (he : Vec Ideal S160x512 .bf16) (had : Fin 148 → Fin 148 → EReal) (hh : IsHe he had)
    (n : Fin 32) (q : Fin 128) : amG arg5 arg6 arg8 harg8 arg9 harg9 X hb he n (ix2 0 q) = Finset.univ.sup fun a : Fin 148 => max (yS (grp x0 n) had a q) (-(yS (grp x0 n) had a q)) := by
  rcases Nat.mod_two_eq_zero_or_one n.val with h | h
  · have e : amG arg5 arg6 arg8 harg8 arg9 harg9 X hb he n = k0_pay607 (rhsG arg5 arg6 arg8 harg8 X hb (jOf n) (iOf n)) (heR arg9 harg9 he) := by
      unfold amG; rw [h]; rfl
    rw [e, pay607_apply]
    refine amax_padded _ (fun a => k0_pay605 (rhsG arg5 arg6 arg8 harg8 X hb (jOf n) (iOf n)) (heR arg9 harg9 he) (ix2 a ⟨q.val, by omega⟩)) (fun a => ?_) (fun a ha => ?_)
    · exact (prod_even arg5 arg6 arg8 harg8 arg9 harg9 X x0 hX hf hb hw he had hh n h _ q).trans (dif_pos a.isLt)
    · exact (prod_even arg5 arg6 arg8 harg8 arg9 harg9 X x0 hX hf hb hw he had hh n h _ q).trans (dif_neg (by omega))
  · have e : amG arg5 arg6 arg8 harg8 arg9 harg9 X hb he n = k0_pay609 (rhsG arg5 arg6 arg8 harg8 X hb (jOf n) (iOf n)) (heR arg9 harg9 he) := by
      unfold amG; rw [h]; rfl
    rw [e, pay609_apply]
    refine amax_padded _ (fun a => k0_pay605 (rhsG arg5 arg6 arg8 harg8 X hb (jOf n) (iOf n)) (heR arg9 harg9 he) (ix2 a ⟨128 + q.val, by omega⟩)) (fun a => ?_) (fun a ha => ?_)
    · exact (prod_odd arg5 arg6 arg8 harg8 arg9 harg9 X x0 hX hf hb hw he had hh n h _ q).trans (dif_pos a.isLt)
    · exact (prod_odd arg5 arg6 arg8 harg8 arg9 harg9 X x0 hX hf hb hw he had hh n h _ q).trans (dif_neg (by omega))

/-- The column maxima of all rows, read. -/
theorem amR_apply (c : Dev nD) (arg10 : Memref sig .tc .vmem S32x128 .f32) (arg5 : Memref sig .tc .vmem S2376x2x128 .bf16) (arg6 : Memref sig .tc .vmem S608x128 .f32) (arg8 : Memref sig .tc .vmem S256x256 .bf16) (harg8 : arg8.IsWhole) (arg9 : Memref sig .tc .vmem S160x512 .bf16) (harg9 : arg9.IsWhole) (X : XtC Ideal) (x0 : Vec Ideal S32x18944 .bf16) (hX : XtIs X x0) (hf : BlkFin x0) (hb : Vec Ideal S256x256 .bf16) (hw : IsHb hb) (he : Vec Ideal S160x512 .bf16) (had : Fin 148 → Fin 148 → EReal) (hh : IsHe he had)
    (n : Fin 32) (q : Fin 128) : amR c arg10 arg5 arg6 arg8 harg8 arg9 harg9 X hb he (ix2 n q) = Finset.univ.sup fun a : Fin 148 => max (yS (grp x0 n) had a q) (-(yS (grp x0 n) had a q)) := by
  unfold amR
  rw [L10_eq, View.readCov_eq_canon]
  · have hy : ∀ y : S32x128.Idx, (y 0).val = n.val → (y 1).val = q.val → View.canon (List.ofFn fun n => (⟨Rect.unit (s := S32x128) ![(rev32 n).val, 0] S1x128.size (inbAm (rev32 n)), amG arg5 arg6 arg8 harg8 arg9 harg9 X hb he (rev32 n)⟩ : View.Piece (Elt Ideal) S32x128 .f32)) y
        = Finset.univ.sup fun a : Fin 148 => max (yS (grp x0 n) had a q) (-(yS (grp x0 n) had a q)) := by
      intro y h0 h1
      refine View.canon_ofFn_eq_of_forall (Val := Elt Ideal) (e := .f32) (fun m => Rect.unit (s := S32x128) ![(rev32 m).val, 0] S1x128.size (inbAm (rev32 m))) (fun m => amG arg5 arg6 arg8 harg8 arg9 harg9 X hb he (rev32 m)) y _ ?_ ?_
      · refine ⟨rev32 n, (LoadRect.mem_set _).mpr fun a => ?_⟩
        match a with
        | ⟨0, _⟩ => exact ⟨0, Nat.one_pos, (by show (y 0).val = 31 - (31 - n.val) + 1 * 0; omega)⟩
        | ⟨1, _⟩ => exact ⟨q.val, q.isLt, (by show (y 1).val = 0 + 1 * q.val; omega)⟩
      · intro m x hx
        have e0 : (rev32 m).val + 1 * (x 0).val = n.val := (congrArg (fun z : S32x128.Idx => (z 0).val) hx).trans h0
        have e1 : 0 + 1 * (x 1).val = q.val := (congrArg (fun z : S32x128.Idx => (z 1).val) hx).trans h1
        have b0 : (x 0).val < 1 := (x 0).isLt
        have hm : rev32 m = n := Fin.ext (by omega)
        have hx' : x = (ix2 (0 : Fin 1) q : S1x128.Idx) := by
          funext a; apply Fin.ext
          match a with
          | ⟨0, _⟩ => show (x 0).val = 0; omega
          | ⟨1, _⟩ => show (x 1).val = q.val; omega
        rw [hx', hm]
        exact amG_apply arg5 arg6 arg8 harg8 arg9 harg9 X x0 hX hf hb hw he had hh n q
    refine hy _ ?_ ?_
    · show 0 + 1 * n.val = _; omega
    · show 0 + 1 * q.val = _; omega
  · intro x
    have x0' : (x 0).val < 32 := (x 0).isLt
    have x1' : (x 1).val < 128 := (x 1).isLt
    refine ⟨_, List.mem_ofFn.mpr ⟨rev32 ⟨(x 0).val, x0'⟩, rfl⟩, (LoadRect.mem_set _).mpr fun a => ?_⟩
    match a with
    | ⟨0, _⟩ => exact ⟨0, Nat.one_pos, (by show 0 + 1 * (x 0).val = 31 - (31 - (x 0).val) + 1 * 0; omega)⟩
    | ⟨1, _⟩ => exact ⟨(x 1).val, x1', (by show 0 + 1 * (x 1).val = 0 + 1 * (x 1).val; rfl)⟩

/-- The rotated rows, as stored. -/
theorem Y_apply (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (X : XtC Ideal) (x0 : Vec Ideal S32x18944 .bf16) (hX : XtIs X x0) (hf : BlkFin x0) (hb : Vec Ideal S256x256 .bf16) (hw : IsHb hb) (he : Vec Ideal S160x512 .bf16) (had : Fin 148 → Fin 148 → EReal) (hh : IsHe he had)
    (y : S4736x128.Idx) (n : Fin 32) (a : Fin 148) (q : Fin 128) (h0 : (y 0).val = 148 * n.val + a.val) (h1 : (y 1).val = q.val) :
    View.canon (runB c i arg1 harg1 arg2 harg2 arg3 harg3 arg4 harg4 arg5 harg5 arg6 harg6 arg7 harg7 arg8 harg8 arg9 harg9 arg10 harg10 X hb he).1 y = yS (grp x0 n) had a q := by
  rw [L7_eq]
  refine View.canon_ofFn_eq_of_forall (Val := Elt Ideal) (e := .f32) (fun m => Rect.unit (s := S4736x128) ![148 * (rev32 m).val, 0] S148x128.size (inbY (rev32 m))) (fun m => rowG arg5 arg6 arg8 harg8 arg9 harg9 X hb he (rev32 m)) y _ ?_ ?_
  · refine ⟨rev32 n, (LoadRect.mem_set _).mpr fun a' => ?_⟩
    match a' with
    | ⟨0, _⟩ => exact ⟨a.val, a.isLt, (by show (y 0).val = 148 * (31 - (31 - n.val)) + 1 * a.val; omega)⟩
    | ⟨1, _⟩ => exact ⟨q.val, q.isLt, (by show (y 1).val = 0 + 1 * q.val; omega)⟩
  · intro m x hx
    have e0 : 148 * (rev32 m).val + 1 * (x 0).val = 148 * n.val + a.val := (congrArg (fun z : S4736x128.Idx => (z 0).val) hx).trans h0
    have e1 : 0 + 1 * (x 1).val = q.val := (congrArg (fun z : S4736x128.Idx => (z 1).val) hx).trans h1
    have b0 : (x 0).val < 148 := (x 0).isLt
    have hm : rev32 m = n := Fin.ext (by omega)
    have hx' : x = (ix2 a q : S148x128.Idx) := by
      funext a'; apply Fin.ext
      have hmv : (rev32 m).val = n.val := congrArg Fin.val hm
      match a' with
      | ⟨0, _⟩ => show (x 0).val = a.val; omega
      | ⟨1, _⟩ => show (x 1).val = q.val; omega
    rw [hx', hm]
    exact rowG_apply arg5 arg6 arg8 harg8 arg9 harg9 X x0 hX hf hb hw he had hh n a q

/-- The scales, as stored. -/
theorem scales_apply (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (X : XtC Ideal) (x0 : Vec Ideal S32x18944 .bf16) (hX : XtIs X x0) (hf : BlkFin x0) (hb : Vec Ideal S256x256 .bf16) (hw : IsHb hb) (he : Vec Ideal S160x512 .bf16) (had : Fin 148 → Fin 148 → EReal) (hh : IsHe he had)
    (n : Fin 32) (q : Fin 128) : View.canon (runB c i arg1 harg1 arg2 harg2 arg3 harg3 arg4 harg4 arg5 harg5 arg6 harg6 arg7 harg7 arg8 harg8 arg9 harg9 arg10 harg10 X hb he).2.1 (ix2 n q) = sclOf (vS (yS (grp x0 n) had)) := by
  rw [L4_eq]
  have e : (ix2 n q : S32x128.Idx) = (Rect.unit (s := S32x128) ![0, 0] S32x128.size inb_S32x128_S32x128_0_0).emb (ix2 n q : S32x128.Idx) := by
    funext a; apply Fin.ext
    match a with
    | ⟨0, _⟩ => show n.val = 0 + 1 * n.val; omega
    | ⟨1, _⟩ => show q.val = 0 + 1 * q.val; omega
  rw [e, View.canon_cons_emb, pay671_apply]
  unfold vS amaxS
  rw [Finset.sup_congr rfl fun l _ => amR_apply c arg10 arg5 arg6 arg8 harg8 arg9 harg9 X x0 hX hf hb hw he had hh n l]

/-- The inverse scale and the literal factor, as handed on. -/
theorem a_apply (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (X : XtC Ideal) (x0 : Vec Ideal S32x18944 .bf16) (hX : XtIs X x0) (hf : BlkFin x0) (hb : Vec Ideal S256x256 .bf16) (hw : IsHb hb) (he : Vec Ideal S160x512 .bf16) (had : Fin 148 → Fin 148 → EReal) (hh : IsHe he had)
    (n : Fin 32) : (runB c i arg1 harg1 arg2 harg2 arg3 harg3 arg4 harg4 arg5 harg5 arg6 harg6 arg7 harg7 arg8 harg8 arg9 harg9 arg10 harg10 X hb he).2.2.1 (ix2 n 0) = invOf (vS (yS (grp x0 n) had)) := by
  refine (congrFun (aB_eq c i arg1 harg1 arg2 harg2 arg3 harg3 arg4 harg4 arg5 harg5 arg6 harg6 arg7 harg7 arg8 harg8 arg9 harg9 arg10 harg10 X hb he) (ix2 n 0)).trans ?_
  rw [pay670_apply]
  unfold vS amaxS
  rw [Finset.sup_congr rfl fun l _ => amR_apply c arg10 arg5 arg6 arg8 harg8 arg9 harg9 X x0 hX hf hb hw he had hh n l]

theorem b_apply (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (X : XtC Ideal) (hb : Vec Ideal S256x256 .bf16) (he : Vec Ideal S160x512 .bf16)
    (n : Fin 32) : (runB c i arg1 harg1 arg2 harg2 arg3 harg3 arg4 harg4 arg5 harg5 arg6 harg6 arg7 harg7 arg8 harg8 arg9 harg9 arg10 harg10 X hb he).2.2.2.1 (ix2 n 0) = INV :=
  (congrFun (bB_eq c i arg1 harg1 arg2 harg2 arg3 harg3 arg4 harg4 arg5 harg5 arg6 harg6 arg7 harg7 arg8 harg8 arg9 harg9 arg10 harg10 X hb he) (ix2 n 0)).trans (pay672_apply n)

/-- The codes, as stored. -/
theorem codes_apply (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (x0 : Vec Ideal S32x18944 .bf16) (had : Fin 148 → Fin 148 → EReal)
    (Y : Vec Ideal S4736x128 .f32) (a b : FVec Ideal S32x1 .f32)
    (hY : ∀ (y : S4736x128.Idx) (n : Fin 32) (a : Fin 148) (q : Fin 128), (y 0).val = 148 * n.val + a.val → (y 1).val = q.val → Y y = yS (grp x0 n) had a q)
    (ha : ∀ n : Fin 32, a (ix2 n 0) = invOf (vS (yS (grp x0 n) had))) (hb : ∀ n : Fin 32, b (ix2 n 0) = INV)
    (y : S32x18944.Idx) (n : Fin 32) (k : Fin 148) (q : Fin 128) (h0 : (y 0).val = n.val) (h1 : (y 1).val = 128 * k.val + q.val) :
    View.canon (runC c i arg1 harg1 arg2 harg2 arg3 harg3 arg4 harg4 arg5 harg5 arg6 harg6 arg7 harg7 arg8 harg8 arg9 harg9 arg10 harg10 Y a b).1 y = codeS (yS (grp x0 n) had) k q := by
  rw [LC_eq]
  refine View.canon_ofFn_eq_of_forall (Val := Elt Ideal) (e := .fp8e4m3) (fun m => Rect.unit (s := S32x18944) ![0, 128 * (rev148 m).val] S32x128.size (inbC (rev148 m))) (fun m => k0_pay674 a b (vG arg7 harg7 Y (rev148 m) 0) (vG arg7 harg7 Y (rev148 m) 1) (vG arg7 harg7 Y (rev148 m) 2) (vG arg7 harg7 Y (rev148 m) 3)) y _ ?_ ?_
  · refine ⟨rev148 k, (LoadRect.mem_set _).mpr fun a' => ?_⟩
    match a' with
    | ⟨0, _⟩ => exact ⟨n.val, n.isLt, (by show (y 0).val = 0 + 1 * n.val; omega)⟩
    | ⟨1, _⟩ => exact ⟨q.val, q.isLt, (by show (y 1).val = 128 * (147 - (147 - k.val)) + 1 * q.val; omega)⟩
  · intro m x hx
    have e0 : 0 + 1 * (x 0).val = n.val := (congrArg (fun z : S32x18944.Idx => (z 0).val) hx).trans h0
    have e1 : 128 * (rev148 m).val + 1 * (x 1).val = 128 * k.val + q.val := (congrArg (fun z : S32x18944.Idx => (z 1).val) hx).trans h1
    have b1 : (x 1).val < 128 := (x 1).isLt
    have hm : rev148 m = k := Fin.ext (by omega)
    have hx' : x = (ix2 n q : S32x128.Idx) := by
      funext a'; apply Fin.ext
      have hmv : (rev148 m).val = k.val := congrArg Fin.val hm
      match a' with
      | ⟨0, _⟩ => show (x 0).val = n.val; omega
      | ⟨1, _⟩ => show (x 1).val = q.val; omega
    rw [hx', hm]
    have hv : ∀ (g : Fin 4) (p : Fin 8), vG arg7 harg7 Y k g (ix2 p q) = yS (grp x0 ⟨8 * g.val + p.val, by omega⟩) had k q := by
      intro g p
      unfold vG
      rw [View.readAt_apply, harg7.read_unread]
      refine hY _ ⟨8 * g.val + p.val, by omega⟩ k q ?_ ?_
      · show 1184 * g.val + k.val + 148 * p.val = 148 * (8 * g.val + p.val) + k.val; omega
      · show 0 + 1 * q.val = q.val; omega
    rw [pay674_apply _ _ _ _ _ _ n q (yS (grp x0 n) had k q)]
    · rw [ha, hb]
      rfl
    · have hrow : ∀ m : Fin 32, m = n → yS (grp x0 n) had k q = yS (grp x0 m) had k q := fun m h => h ▸ rfl
      split
      · rw [hv]; exact hrow _ (Fin.ext (by show 8 * 0 + n.val = n.val; omega))
      · split
        · rw [hv]; exact hrow _ (Fin.ext (by show 8 * 1 + (n.val - 8) = n.val; omega))
        · split
          · rw [hv]; exact hrow _ (Fin.ext (by show 8 * 2 + (n.val - 8 - 8) = n.val; omega))
          · rw [hv]; exact hrow _ (Fin.ext (by show 8 * 3 + (n.val - 8 - 8 - 8) = n.val; omega))

end Cert.RotateIdeal.Gen
-- ==== Proof.RotOut.lean ====
/-
  What the rotate-and-quantise call's body leaves in its two blocks and in the two scratch arrays it carries from one grid point to the next, over the extended reals.
-/
import proofs.«01_k».proof.Proof.RotZ
import proofs.«01_k».proof.Proof.RotFrame

set_option maxRecDepth 16384
set_option maxHeartbeats 1000000

noncomputable section

namespace Cert.RotateIdeal.Gen

open Idealize.ShloMosaic Idealize.ShloMosaic.TcCoe Idealize.ShloMosaic.Tactic
open Idealize.SL.Sem
open Cert.RotSpec

/-- The second argument's block, as a matrix of extended reals. -/
def hadOf (x1 : Vec Ideal S148x148 .f32) (a k : Fin 148) : EReal := x1 (ix2 a k)

/-- The whole block, read back. -/
theorem whole_had (arg2 : Memref sig .tc .vmem S148x148 .f32) (harg2 : arg2.IsWhole) (x1 : Vec Ideal S148x148 .f32) :
    View.readAt (Elt Ideal) arg2.view (Rect.unit (s := S148x148) ![0, 0] S148x148.size inb_S148x148_S148x148_0_0).toLoadRect (harg2.unread x1) = x1 := by
  funext x
  rw [View.readAt_apply, harg2.read_unread]
  congr 1
  funext a; apply Fin.ext
  match a with
  | ⟨0, _⟩ => show 0 + 1 * (x 0).val = (x 0).val; omega
  | ⟨1, _⟩ => show 0 + 1 * (x 1).val = (x 1).val; omega

/-- The sign matrix the first grid point stores. -/
theorem hb_first (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i) (x0 : Vec Ideal S32x18944 .bf16) (x1 : Vec Ideal S148x148 .f32) :
    IsHb (View.canon (runA1 c i arg1 harg1 arg2 harg2 arg3 harg3 arg4 harg4 arg5 harg5 arg6 harg6 arg7 harg7 arg8 harg8 arg9 harg9 arg10 harg10 hc0 x0 x1).2.1) := by
  intro p q
  have e : (runA1 c i arg1 harg1 arg2 harg2 arg3 harg3 arg4 harg4 arg5 harg5 arg6 harg6 arg7 harg7 arg8 harg8 arg9 harg9 arg10 harg10 hc0 x0 x1).2.1 = [⟨Rect.unit (s := S256x256) ![0, 0] S256x256.size inb_S256x256_S256x256_0_0, k0_pay3 (F := Ideal)⟩] := rfl
  have e2 : (ix2 p q : S256x256.Idx) = (Rect.unit (s := S256x256) ![0, 0] S256x256.size inb_S256x256_S256x256_0_0).emb (ix2 p q : S256x256.Idx) := by
    funext a; apply Fin.ext
    match a with
    | ⟨0, _⟩ => show p.val = 0 + 1 * p.val; omega
    | ⟨1, _⟩ => show q.val = 0 + 1 * q.val; omega
  rw [e, e2, View.canon_cons_emb]
  exact pay3_apply p q

/-- The second factor, widened and padded, is what the product needs. -/
theorem he_pay (v : Vec Ideal S148x148 .f32) : IsHe (k0_pay6 (k0_pay4 v) (k0_pay5 v)) (hadOf v) := by
  refine ⟨fun a x h => ?_, fun a x h => ?_⟩
  · rw [pay6_head _ _ a x h, pay4_apply]; rfl
  · rw [pay6_tail _ _ a x h ?_, pay5_apply]
    · by_cases h' : a.val < 148
      · rw [dif_pos h', dif_pos h', dif_pos (show x.val - 384 < 20 by omega)]
        refine congrArg v ?_
        funext d; apply Fin.ext
        match d with
        | ⟨0, _⟩ => rfl
        | ⟨1, _⟩ => show 128 + (x.val - 384) = x.val - 256; omega
      · rw [dif_neg h', dif_neg h']
    · intro c hc
      rw [pay5_apply]
      by_cases h' : a.val < 148
      · rw [dif_pos h', dif_neg (by omega)]
      · rw [dif_neg h']

/-- The second factor the first grid point stores. -/
theorem he_first (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i) (x0 : Vec Ideal S32x18944 .bf16) (x1 : Vec Ideal S148x148 .f32) :
    IsHe (View.canon (runA1 c i arg1 harg1 arg2 harg2 arg3 harg3 arg4 harg4 arg5 harg5 arg6 harg6 arg7 harg7 arg8 harg8 arg9 harg9 arg10 harg10 hc0 x0 x1).2.2.1) (hadOf x1) := by
  have e : (runA1 c i arg1 harg1 arg2 harg2 arg3 harg3 arg4 harg4 arg5 harg5 arg6 harg6 arg7 harg7 arg8 harg8 arg9 harg9 arg10 harg10 hc0 x0 x1).2.2.1 = [⟨Rect.unit (s := S160x512) ![0, 0] S160x512.size inb_S160x512_S160x512_0_0,
      k0_pay6 (k0_pay4 (View.readAt (Elt Ideal) arg2.view (Rect.unit (s := S148x148) ![0, 0] S148x148.size inb_S148x148_S148x148_0_0).toLoadRect (harg2.unread x1)))
        (k0_pay5 (View.readAt (Elt Ideal) arg2.view (Rect.unit (s := S148x148) ![0, 0] S148x148.size inb_S148x148_S148x148_0_0).toLoadRect (harg2.unread x1)))⟩] := rfl
  have e2 : View.canon (runA1 c i arg1 harg1 arg2 harg2 arg3 harg3 arg4 harg4 arg5 harg5 arg6 harg6 arg7 harg7 arg8 harg8 arg9 harg9 arg10 harg10 hc0 x0 x1).2.2.1 = k0_pay6 (k0_pay4 x1) (k0_pay5 x1) := by
    rw [e, whole_had]
    funext y
    have ey : y = (Rect.unit (s := S160x512) ![0, 0] S160x512.size inb_S160x512_S160x512_0_0).emb y := by
      funext a; apply Fin.ext
      match a with
      | ⟨0, _⟩ => show (y 0).val = 0 + 1 * (y 0).val; omega
      | ⟨1, _⟩ => show (y 1).val = 0 + 1 * (y 1).val; omega
    conv_lhs => rw [ey]
    rw [View.canon_cons_emb]
  rw [e2]
  exact he_pay x1

/-- The codes and scales, once the three stretches are put together. -/
theorem codes_of (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (X : XtC Ideal) (x0 : Vec Ideal S32x18944 .bf16) (hX : XtIs X x0) (hf : BlkFin x0) (hb : Vec Ideal S256x256 .bf16) (hw : IsHb hb) (he : Vec Ideal S160x512 .bf16) (had : Fin 148 → Fin 148 → EReal) (hh : IsHe he had)
    (y : S32x18944.Idx) (n : Fin 32) (k : Fin 148) (q : Fin 128) (h0 : (y 0).val = n.val) (h1 : (y 1).val = 128 * k.val + q.val) :
    View.canon (runC c i arg1 harg1 arg2 harg2 arg3 harg3 arg4 harg4 arg5 harg5 arg6 harg6 arg7 harg7 arg8 harg8 arg9 harg9 arg10 harg10 (View.canon (runB c i arg1 harg1 arg2 harg2 arg3 harg3 arg4 harg4 arg5 harg5 arg6 harg6 arg7 harg7 arg8 harg8 arg9 harg9 arg10 harg10 X hb he).1) (runB c i arg1 harg1 arg2 harg2 arg3 harg3 arg4 harg4 arg5 harg5 arg6 harg6 arg7 harg7 arg8 harg8 arg9 harg9 arg10 harg10 X hb he).2.2.1 (runB c i arg1 harg1 arg2 harg2 arg3 harg3 arg4 harg4 arg5 harg5 arg6 harg6 arg7 harg7 arg8 harg8 arg9 harg9 arg10 harg10 X hb he).2.2.2.1).1 y = codeS (yS (grp x0 n) had) k q :=
  codes_apply c i arg1 harg1 arg2 harg2 arg3 harg3 arg4 harg4 arg5 harg5 arg6 harg6 arg7 harg7 arg8 harg8 arg9 harg9 arg10 harg10 x0 had _ _ _
    (fun y n a q h0 h1 => Y_apply c i arg1 harg1 arg2 harg2 arg3 harg3 arg4 harg4 arg5 harg5 arg6 harg6 arg7 harg7 arg8 harg8 arg9 harg9 arg10 harg10 X x0 hX hf hb hw he had hh y n a q h0 h1)
    (fun n => a_apply c i arg1 harg1 arg2 harg2 arg3 harg3 arg4 harg4 arg5 harg5 arg6 harg6 arg7 harg7 arg8 harg8 arg9 harg9 arg10 harg10 X x0 hX hf hb hw he had hh n)
    (fun n => b_apply c i arg1 harg1 arg2 harg2 arg3 harg3 arg4 harg4 arg5 harg5 arg6 harg6 arg7 harg7 arg8 harg8 arg9 harg9 arg10 harg10 X hb he n) y n k q h0 h1

/-- The codes block a first grid point leaves. -/
theorem outA_codes (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i) (x0 : Vec Ideal S32x18944 .bf16) (x1 : Vec Ideal S148x148 .f32) (hf : BlkFin x0)
    (y : S32x18944.Idx) (n : Fin 32) (k : Fin 148) (q : Fin 128) (h0 : (y 0).val = n.val) (h1 : (y 1).val = 128 * k.val + q.val) :
    out0_A_2 c i arg1 harg1 arg2 harg2 arg3 harg3 arg4 harg4 arg5 harg5 arg6 harg6 arg7 harg7 arg8 harg8 arg9 harg9 arg10 harg10 hc0 x0 x1 y = codeS (yS (grp x0 n) (hadOf x1)) k q :=
  (View.read_writes_junk_apply_eq_canon VO0_2 y _).trans
    (codes_of c i arg1 harg1 arg2 harg2 arg3 harg3 arg4 harg4 arg5 harg5 arg6 harg6 arg7 harg7 arg8 harg8 arg9 harg9 arg10 harg10 (xtA c i arg1 harg1 arg2 harg2 arg3 harg3 arg4 harg4 arg5 harg5 arg6 harg6 arg7 harg7 arg8 harg8 arg9 harg9 arg10 harg10 hc0 x0 x1) x0 (xtA_is c i arg1 harg1 arg2 harg2 arg3 harg3 arg4 harg4 arg5 harg5 arg6 harg6 arg7 harg7 arg8 harg8 arg9 harg9 arg10 harg10 hc0 x0 x1) hf (View.canon (runA1 c i arg1 harg1 arg2 harg2 arg3 harg3 arg4 harg4 arg5 harg5 arg6 harg6 arg7 harg7 arg8 harg8 arg9 harg9 arg10 harg10 hc0 x0 x1).2.1) (hb_first c i arg1 harg1 arg2 harg2 arg3 harg3 arg4 harg4 arg5 harg5 arg6 harg6 arg7 harg7 arg8 harg8 arg9 harg9 arg10 harg10 hc0 x0 x1) (View.canon (runA1 c i arg1 harg1 arg2 harg2 arg3 harg3 arg4 harg4 arg5 harg5 arg6 harg6 arg7 harg7 arg8 harg8 arg9 harg9 arg10 harg10 hc0 x0 x1).2.2.1) (hadOf x1) (he_first c i arg1 harg1 arg2 harg2 arg3 harg3 arg4 harg4 arg5 harg5 arg6 harg6 arg7 harg7 arg8 harg8 arg9 harg9 arg10 harg10 hc0 x0 x1) y n k q h0 h1)

/-- The scales block a first grid point leaves. -/
theorem outA_scales (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i) (x0 : Vec Ideal S32x18944 .bf16) (x1 : Vec Ideal S148x148 .f32) (hf : BlkFin x0)
    (n : Fin 32) (q : Fin 128) : out0_A_3 c i arg1 harg1 arg2 harg2 arg3 harg3 arg4 harg4 arg5 harg5 arg6 harg6 arg7 harg7 arg8 harg8 arg9 harg9 arg10 harg10 hc0 x0 x1 (ix2 n q) = sclOf (vS (yS (grp x0 n) (hadOf x1))) :=
  (View.read_writes_junk_apply_eq_canon VO0_3 (ix2 n q) _).trans
    (scales_apply c i arg1 harg1 arg2 harg2 arg3 harg3 arg4 harg4 arg5 harg5 arg6 harg6 arg7 harg7 arg8 harg8 arg9 harg9 arg10 harg10 (xtA c i arg1 harg1 arg2 harg2 arg3 harg3 arg4 harg4 arg5 harg5 arg6 harg6 arg7 harg7 arg8 harg8 arg9 harg9 arg10 harg10 hc0 x0 x1) x0 (xtA_is c i arg1 harg1 arg2 harg2 arg3 harg3 arg4 harg4 arg5 harg5 arg6 harg6 arg7 harg7 arg8 harg8 arg9 harg9 arg10 harg10 hc0 x0 x1) hf (View.canon (runA1 c i arg1 harg1 arg2 harg2 arg3 harg3 arg4 harg4 arg5 harg5 arg6 harg6 arg7 harg7 arg8 harg8 arg9 harg9 arg10 harg10 hc0 x0 x1).2.1) (hb_first c i arg1 harg1 arg2 harg2 arg3 harg3 arg4 harg4 arg5 harg5 arg6 harg6 arg7 harg7 arg8 harg8 arg9 harg9 arg10 harg10 hc0 x0 x1) (View.canon (runA1 c i arg1 harg1 arg2 harg2 arg3 harg3 arg4 harg4 arg5 harg5 arg6 harg6 arg7 harg7 arg8 harg8 arg9 harg9 arg10 harg10 hc0 x0 x1).2.2.1) (hadOf x1) (he_first c i arg1 harg1 arg2 harg2 arg3 harg3 arg4 harg4 arg5 harg5 arg6 harg6 arg7 harg7 arg8 harg8 arg9 harg9 arg10 harg10 hc0 x0 x1) n q)

/-- The codes block a later grid point leaves. -/
theorem outB_codes (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : ¬cond0_0 i) (x0 : Vec Ideal S32x18944 .bf16) (x1 : Vec Ideal S148x148 .f32) (xs3 : Vec Ideal S256x256 .bf16) (xs4 : Vec Ideal S160x512 .bf16) (hw : IsHb xs3) (had : Fin 148 → Fin 148 → EReal) (hh : IsHe xs4 had) (hf : BlkFin x0)
    (y : S32x18944.Idx) (n : Fin 32) (k : Fin 148) (q : Fin 128) (h0 : (y 0).val = n.val) (h1 : (y 1).val = 128 * k.val + q.val) :
    out0_B_2 c i arg1 harg1 arg2 harg2 arg3 harg3 arg4 harg4 arg5 harg5 arg6 harg6 arg7 harg7 arg8 harg8 arg9 harg9 arg10 harg10 hc0 x0 x1 xs3 xs4 y = codeS (yS (grp x0 n) had) k q :=
  (View.read_writes_junk_apply_eq_canon VO0_2 y _).trans
    (codes_of c i arg1 harg1 arg2 harg2 arg3 harg3 arg4 harg4 arg5 harg5 arg6 harg6 arg7 harg7 arg8 harg8 arg9 harg9 arg10 harg10 (xtB c i arg1 harg1 arg2 harg2 arg3 harg3 arg4 harg4 arg5 harg5 arg6 harg6 arg7 harg7 arg8 harg8 arg9 harg9 arg10 harg10 hc0 x0) x0 (xtB_is c i arg1 harg1 arg2 harg2 arg3 harg3 arg4 harg4 arg5 harg5 arg6 harg6 arg7 harg7 arg8 harg8 arg9 harg9 arg10 harg10 hc0 x0) hf xs3 hw xs4 had hh y n k q h0 h1)

/-- The scales block a later grid point leaves. -/
theorem outB_scales (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : ¬cond0_0 i) (x0 : Vec Ideal S32x18944 .bf16) (x1 : Vec Ideal S148x148 .f32) (xs3 : Vec Ideal S256x256 .bf16) (xs4 : Vec Ideal S160x512 .bf16) (hw : IsHb xs3) (had : Fin 148 → Fin 148 → EReal) (hh : IsHe xs4 had) (hf : BlkFin x0)
    (n : Fin 32) (q : Fin 128) : out0_B_3 c i arg1 harg1 arg2 harg2 arg3 harg3 arg4 harg4 arg5 harg5 arg6 harg6 arg7 harg7 arg8 harg8 arg9 harg9 arg10 harg10 hc0 x0 x1 xs3 xs4 (ix2 n q) = sclOf (vS (yS (grp x0 n) had)) :=
  (View.read_writes_junk_apply_eq_canon VO0_3 (ix2 n q) _).trans
    (scales_apply c i arg1 harg1 arg2 harg2 arg3 harg3 arg4 harg4 arg5 harg5 arg6 harg6 arg7 harg7 arg8 harg8 arg9 harg9 arg10 harg10 (xtB c i arg1 harg1 arg2 harg2 arg3 harg3 arg4 harg4 arg5 harg5 arg6 harg6 arg7 harg7 arg8 harg8 arg9 harg9 arg10 harg10 hc0 x0) x0 (xtB_is c i arg1 harg1 arg2 harg2 arg3 harg3 arg4 harg4 arg5 harg5 arg6 harg6 arg7 harg7 arg8 harg8 arg9 harg9 arg10 harg10 hc0 x0) hf xs3 hw xs4 had hh n q)

/-- The sign matrix the first grid point hands on. -/
theorem sA_hb (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i) (x0 : Vec Ideal S32x18944 .bf16) (x1 : Vec Ideal S148x148 .f32) : IsHb (sout0_A_3 c i arg1 harg1 arg2 harg2 arg3 harg3 arg4 harg4 arg5 harg5 arg6 harg6 arg7 harg7 arg8 harg8 arg9 harg9 arg10 harg10 hc0 x0 x1) := by
  have e : sout0_A_3 c i arg1 harg1 arg2 harg2 arg3 harg3 arg4 harg4 arg5 harg5 arg6 harg6 arg7 harg7 arg8 harg8 arg9 harg9 arg10 harg10 hc0 x0 x1 = View.canon (runA1 c i arg1 harg1 arg2 harg2 arg3 harg3 arg4 harg4 arg5 harg5 arg6 harg6 arg7 harg7 arg8 harg8 arg9 harg9 arg10 harg10 hc0 x0 x1).2.1 :=
    View.read_writes_junk_eq_canon VS0_3 _
  rw [e]; exact hb_first c i arg1 harg1 arg2 harg2 arg3 harg3 arg4 harg4 arg5 harg5 arg6 harg6 arg7 harg7 arg8 harg8 arg9 harg9 arg10 harg10 hc0 x0 x1

/-- The second factor the first grid point hands on. -/
theorem sA_he (c : Dev nD) (i : grid0.Coords) (arg1 : Memref sig .tc .vmem S32x18944 .bf16) (harg1 : arg1.IsWhole) (arg2 : Memref sig .tc .vmem S148x148 .f32) (harg2 : arg2.IsWhole) (arg3 : Memref sig .tc .vmem S32x18944 .fp8e4m3) (harg3 : arg3.IsWhole) (arg4 : Memref sig .tc .vmem S32x128 .f32) (harg4 : arg4.IsWhole) (arg5 : Memref sig .tc .vmem S2376x2x128 .bf16) (harg5 : arg5.IsWhole) (arg6 : Memref sig .tc .vmem S608x128 .f32) (harg6 : arg6.IsWhole) (arg7 : Memref sig .tc .vmem S4736x128 .f32) (harg7 : arg7.IsWhole) (arg8 : Memref sig .tc .vmem S256x256 .bf16) (harg8 : arg8.IsWhole) (arg9 : Memref sig .tc .vmem S160x512 .bf16) (harg9 : arg9.IsWhole) (arg10 : Memref sig .tc .vmem S32x128 .f32) (harg10 : arg10.IsWhole) (hc0 : cond0_0 i) (x0 : Vec Ideal S32x18944 .bf16) (x1 : Vec Ideal S148x148 .f32) : IsHe (sout0_A_4 c i arg1 harg1 arg2 harg2 arg3 harg3 arg4 harg4 arg5 harg5 arg6 harg6 arg7 harg7 arg8 harg8 arg9 harg9 arg10 harg10 hc0 x0 x1) (hadOf x1) := by
  have e : sout0_A_4 c i arg1 harg1 arg2 harg2 arg3 harg3 arg4 harg4 arg5 harg5 arg6 harg6 arg7 harg7 arg8 harg8 arg9 harg9 arg10 harg10 hc0 x0 x1 = View.canon (runA1 c i arg1 harg1 arg2 harg2 arg3 harg3 arg4 harg4 arg5 harg5 arg6 harg6 arg7 harg7 arg8 harg8 arg9 harg9 arg10 harg10 hc0 x0 x1).2.2.1 :=
    View.read_writes_junk_eq_canon VS0_4 _
  rw [e]; exact he_first c i arg1 harg1 arg2 harg2 arg3 harg3 arg4 harg4 arg5 harg5 arg6 harg6 arg7 harg7 arg8 harg8 arg9 harg9 arg10 harg10 hc0 x0 x1

/-- What a grid point leaves: the codes and scales of its rows, and the two carried arrays as every point needs them. -/
structure OutIs (x0 : Vec Ideal S32x18944 .bf16) (had : Fin 148 → Fin 148 → EReal) (o : Vec Ideal S32x18944 .fp8e4m3 × Vec Ideal S32x128 .f32 × Vec Ideal S256x256 .bf16 × Vec Ideal S160x512 .bf16) : Prop where
  codes : ∀ (y : S32x18944.Idx) (n : Fin 32) (k : Fin 148) (q : Fin 128), (y 0).val = n.val → (y 1).val = 128 * k.val + q.val → o.1 y = codeS (yS (grp x0 n) had) k q
  scales : ∀ (n : Fin 32) (q : Fin 128), o.2.1 (ix2 n q) = sclOf (vS (yS (grp x0 n) had))
  hb : IsHb o.2.2.1
  he : IsHe o.2.2.2 had

/-- The four parts put together. -/
theorem OutIs.of {x0 : Vec Ideal S32x18944 .bf16} {had : Fin 148 → Fin 148 → EReal} {o : Vec Ideal S32x18944 .fp8e4m3 × Vec Ideal S32x128 .f32 × Vec Ideal S256x256 .bf16 × Vec Ideal S160x512 .bf16}
    {o1 : Vec Ideal S32x18944 .fp8e4m3} {o2 : Vec Ideal S32x128 .f32} {o3 : Vec Ideal S256x256 .bf16} {o4 : Vec Ideal S160x512 .bf16} (e : o = (o1, o2, o3, o4))
    (h1 : ∀ (y : S32x18944.Idx) (n : Fin 32) (k : Fin 148) (q : Fin 128), (y 0).val = n.val → (y 1).val = 128 * k.val + q.val → o1 y = codeS (yS (grp x0 n) had) k q)
    (h2 : ∀ (n : Fin 32) (q : Fin 128), o2 (ix2 n q) = sclOf (vS (yS (grp x0 n) had))) (h3 : IsHb o3) (h4 : IsHe o4 had) : OutIs x0 had o := by
  subst e
  exact ⟨h1, h2, h3, h4⟩

variable (m : (ℓ : Loc nD τ sig) → Buf (Elt Ideal) ℓ)

/-- A first grid point. -/
theorem outs_A (c : Dev nD) (t : Fin cfg0.N) (h0 : t.val % 8 = 0) (hf : BlkFin (iblk m c 0 t)) :
    OutIs (iblk m c 0 t) (hadOf (iblk m c 1 t)) (outsAt0 m c t.val t.isLt) :=
  OutIs.of (outsAt0_A m c t h0)
    (outA_codes c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) hf)
    (outA_scales c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) hf)
    (sA_hb c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t))
    (sA_he c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t))

/-- A later grid point, over what the point before left. -/
theorem outs_B (c : Dev nD) (t : Fin cfg0.N) (h0 : ¬t.val % 8 = 0) (hf : BlkFin (iblk m c 0 t)) (had : Fin 148 → Fin 148 → EReal)
    (hp : IsHb (outsAt0 m c (t.val - 1) (Nat.lt_of_le_of_lt (Nat.sub_le _ _) t.isLt)).2.2.1) (hp' : IsHe (outsAt0 m c (t.val - 1) (Nat.lt_of_le_of_lt (Nat.sub_le _ _) t.isLt)).2.2.2 had) :
    OutIs (iblk m c 0 t) had (outsAt0 m c t.val t.isLt) :=
  OutIs.of (outsAt0_B m c t h0)
    (outB_codes c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 hp had hp' hf)
    (outB_scales c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 hp had hp' hf)
    hp hp'

/-- Every grid point, when the second argument's block is the same matrix at each. -/
theorem outs_all (c : Dev nD) (had : Fin 148 → Fin 148 → EReal) (hc : ∀ t : Fin cfg0.N, hadOf (iblk m c 1 t) = had)
    (hf : ∀ t : Fin cfg0.N, BlkFin (iblk m c 0 t)) : ∀ (n : ℕ) (hn : n < cfg0.N), OutIs (iblk m c 0 ⟨n, hn⟩) had (outsAt0 m c n hn)
  | 0, hn => (hc ⟨0, hn⟩) ▸ outs_A m c ⟨0, hn⟩ (Nat.zero_mod _) (hf _)
  | n + 1, hn => by
    have hN : cfg0.N = 8 := N_0
    have ih := outs_all c had hc hf n (by omega)
    exact outs_B m c ⟨n + 1, hn⟩ (by show ¬(n + 1) % 8 = 0; omega) (hf _) had ih.hb ih.he

end Cert.RotateIdeal.Gen

end
-- ==== Proof.RotValue.lean ====
/-
  The values of the rotate-and-quantise call: its results, block by block, are what the body leaves.
-/
import proofs.«01_k».proof.Proof.RotFrame
import Idealize.ShloMosaic.Lib.Pipeline.Value

noncomputable section

namespace Cert.RotateIdeal.Value

open Cert.RotateIdeal Cert.RotateIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 2's array: the run's contents for that window after the body (`Gen.outsAt0`: its component 0), read through the window's block. -/
theorem flushed2 (c : Dev nD) (t : Fin cfg0.N) :
    (dats m 0 c).flushed 2 t = (cfg0.win 2).cut (grid0.coords t) ((outsAt0 m c t.val t.isLt).1) := by
  show (cfg0.win 2).cut (grid0.coords t) ((dats m 0 c).after 2 t) = _
  rw [after0_2]

/-- … so at a point where case A runs, what its write-back would write is that case's NAMED TERM for the window (`Gen.out0_A_2`: the pieces
    its run found, read back) at the point's memrefs and input blocks, and for an output the case reads back what the point before left (`Gen.outsAt0` at `t - 1`) — by the frame's rewriting lemma for the case. -/
theorem flushed2_A (c : Dev nD) (t : Fin cfg0.N) (h0 : t.val % 8 = 0) :
    (dats m 0 c).flushed 2 t = (cfg0.win 2).cut (grid0.coords t) (out0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t)) := by
  simp only [flushed2, outsAt0_A m c t h0]

/-- … so at a point where case B runs, what its write-back would write is that case's NAMED TERM for the window (`Gen.out0_B_2`: the pieces
    its run found, read back) at the point's memrefs and input blocks, and for an output the case reads back what the point before left (`Gen.outsAt0` at `t - 1`) — by the frame's rewriting lemma for the case. -/
theorem flushed2_B (c : Dev nD) (t : Fin cfg0.N) (h0 : ¬t.val % 8 = 0) :
    (dats m 0 c).flushed 2 t = (cfg0.win 2).cut (grid0.coords t) (out0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed2, outsAt0_B m c t h0]

/-- The index map sends distinct grid points to distinct block indices (decided over the 8 points). -/
theorem idx_inj2 : ∀ t t' : Fin cfg0.N, win0_2.index t = win0_2.index t' → t = t' :=
  (by decide +kernel : ∀ t t' : Fin grid0.N, win0_2.index t = win0_2.index t' → t = t')

/-- So two flushing points' blocks share no array index (Lib/Pipeline/Cells.lean `Window.disjoint_blk`). -/
theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

/-- BLOCK `t` OF THE FINAL ARRAY, read back through the window, is what point `t` wrote back (`flushed2`), for every
    point that writes back: no other point's block meets it. -/
theorem blocks2 (c : Dev nD) (t : Fin cfg0.N) (hf : (cfg0.win 2).flush t = true) :
    ((cfg0.win 2).blk t).view.read (Elt F) ((dats m 0 c).arrAt 2 cfg0.N) = (dats m 0 c).flushed 2 t :=
  (dats m 0 c).read_blk_arrAt_eq_flushed 2 disjoint2 cfg0.N t t.isLt hf

/-- An index that no flushing point's block covers keeps output window 2's array contents at region entry. -/
theorem entry2 (c : Dev nD) (i : S256x18944.Idx) (h : ∀ t : Fin cfg0.N, (cfg0.win 2).flush t = true → i ∉ ((cfg0.win 2).blk t).view.set) :
    (dats m 0 c).arrAt 2 cfg0.N i = V m c (Pipeline.arrRef spec0 2) i := by
  rw [(dats m 0 c).arrAt_apply_of_forall_not_mem 2 cfg0.N i (fun t _ hf => h t hf), A_eq]

/-- WHAT POINT `t` WRITES BACK to output window 3's array: the run's contents for that window after the body (`Gen.outsAt0`: its component 1), read through the window's block. -/
theorem flushed3 (c : Dev nD) (t : Fin cfg0.N) :
    (dats m 0 c).flushed 3 t = (cfg0.win 3).cut (grid0.coords t) ((outsAt0 m c t.val t.isLt).2.1) := by
  show (cfg0.win 3).cut (grid0.coords t) ((dats m 0 c).after 3 t) = _
  rw [after0_3]

/-- … so at a point where case A runs, what its write-back would write is that case's NAMED TERM for the window (`Gen.out0_A_3`: the pieces
    its run found, read back) at the point's memrefs and input blocks, and for an output the case reads back what the point before left (`Gen.outsAt0` at `t - 1`) — by the frame's rewriting lemma for the case. -/
theorem flushed3_A (c : Dev nD) (t : Fin cfg0.N) (h0 : t.val % 8 = 0) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t)) := by
  simp only [flushed3, outsAt0_A m c t h0]

/-- … so at a point where case B runs, what its write-back would write is that case's NAMED TERM for the window (`Gen.out0_B_3`: the pieces
    its run found, read back) at the point's memrefs and input blocks, and for an output the case reads back what the point before left (`Gen.outsAt0` at `t - 1`) — by the frame's rewriting lemma for the case. -/
theorem flushed3_B (c : Dev nD) (t : Fin cfg0.N) (h0 : ¬t.val % 8 = 0) :
    (dats m 0 c).flushed 3 t = (cfg0.win 3).cut (grid0.coords t) (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed3, outsAt0_B m c t h0]

/-- The index map sends distinct grid points to distinct block indices (decided over the 8 points). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S256x128.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v1_0) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v1_1) = (dats m 0 c).arrAt 3 cfg0.N :=
  (h c).1 3

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 2 cfg0.N
      ∧ r.2.mem ((c : Thread nD τ).loc main_v1_1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post2 m r h c,
      post3 m r h c,
      kept_main_arg0 m r h c,
      kept_main_arg1 m r h c⟩)
    (run_main m ρ)

/-! ## Carried scratch 3: what each point leaves in it, and its fold -/

/-- What point `n` leaves in carried scratch 3, over what the point before left in it (`acc`): the case the conditions'
    closed forms select at `n`, the frame's own term for it (`Gen.sout0_κ_3`; anything else the case takes of the point
    before, another carried scratch or an output it reads back, stays `Gen.outsAt0`'s at `n - 1`); a case at the first point
    stores the scratch whole without reading what it held, and `acc` does not enter there (nor where no point meets the
    conditions: `acc`, never read). -/
def scAt0_3 (c : Dev nD) (n : ℕ) (hb : n < cfg0.N) (acc : Vec F S256x256 .bf16) : Vec F S256x256 .bf16 :=
  if h0 : n % 8 = 0 then
    sout0_A_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 (⟨n, hb⟩ : Fin cfg0.N)).mpr h0) (iblk m c 0 (⟨n, hb⟩ : Fin cfg0.N)) (iblk m c 1 (⟨n, hb⟩ : Fin cfg0.N))
  else
    sout0_B_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.2

/-- WHAT CARRIED SCRATCH 3 HOLDS after point `t`: the fold of its run up to `t`, from the reset at the run's first point
    `8·(t / 8)` (Lib/Pipeline/Value.lean `Pipeline.eq_accAt_of_mod`, by the frame's `outsAt0_κ`; without enumerating the points). -/
theorem soutsAt0_3_eq (c : Dev nD) (t : Fin cfg0.N) :
    (outsAt0 m c t.val t.isLt).2.2.1 = Pipeline.accAt (fun n h => scAt0_3 m c n h (VS0_3.read (Elt F) VS0_3.junk)) (scAt0_3 m c) (8 * (t.val / 8)) (t.val % 8)
      (by have h1 := t.isLt; have h2 := Nat.div_add_mod t.val 8; omega) :=
  Pipeline.eq_accAt_of_mod (fun n h => (outsAt0 m c n h).2.2.1) 8 (fun n h => scAt0_3 m c n h (VS0_3.read (Elt F) VS0_3.junk)) (scAt0_3 m c)
    (fun n h hn => by
      have hN := lt_of_lt_of_eq h (show cfg0.N = 8 from N_0)
      by_cases h0 : n % 8 = 0
      all_goals first | (exfalso; omega) | (rw [outsAt0_A m c ⟨n, h⟩ h0]; dsimp only; unfold scAt0_3; rw [dif_pos h0] <;> try rfl) | (rw [outsAt0_B m c ⟨n, h⟩ h0]; dsimp only; unfold scAt0_3; rw [dif_neg h0] <;> try rfl))
    (fun n h hn => by
      have hN := lt_of_lt_of_eq h (show cfg0.N = 8 from N_0)
      by_cases h0 : (n + 1) % 8 = 0
      all_goals first | (exfalso; omega) | (rw [outsAt0_A m c ⟨n + 1, h⟩ h0]; dsimp only; unfold scAt0_3; rw [dif_pos h0] <;> try rfl) | (rw [outsAt0_B m c ⟨n + 1, h⟩ h0]; dsimp only; unfold scAt0_3; rw [dif_neg h0] <;> try rfl))
    (by decide) t.val t.isLt _

/-- One run spans the grid (the only reset is at point 0): after point `n` the scratch is the fold from 0 to `n`. -/
theorem soutsAt0_3_sweep (c : Dev nD) (n : ℕ) (hn : n < cfg0.N) :
    (outsAt0 m c n hn).2.2.1 = Pipeline.accAt (fun n h => scAt0_3 m c n h (VS0_3.read (Elt F) VS0_3.junk)) (scAt0_3 m c) 0 n (by omega) := by
  have e := soutsAt0_3_eq m c ⟨n, hn⟩
  have hN := lt_of_lt_of_eq hn (show cfg0.N = 8 from N_0)
  have hd : n / 8 = 0 := Nat.div_eq_of_lt hN
  have hm : n % 8 = n := Nat.mod_eq_of_lt hN
  simpa only [hd, hm, Nat.mul_zero] using e

/-! ## Carried scratch 4: what each point leaves in it, and its fold -/

/-- What point `n` leaves in carried scratch 4, over what the point before left in it (`acc`): the case the conditions'
    closed forms select at `n`, the frame's own term for it (`Gen.sout0_κ_4`; anything else the case takes of the point
    before, another carried scratch or an output it reads back, stays `Gen.outsAt0`'s at `n - 1`); a case at the first point
    stores the scratch whole without reading what it held, and `acc` does not enter there (nor where no point meets the
    conditions: `acc`, never read). -/
def scAt0_4 (c : Dev nD) (n : ℕ) (hb : n < cfg0.N) (acc : Vec F S160x512 .bf16) : Vec F S160x512 .bf16 :=
  if h0 : n % 8 = 0 then
    sout0_A_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 (⟨n, hb⟩ : Fin cfg0.N)).mpr h0) (iblk m c 0 (⟨n, hb⟩ : Fin cfg0.N)) (iblk m c 1 (⟨n, hb⟩ : Fin cfg0.N))
  else
    sout0_B_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 acc

/-- WHAT CARRIED SCRATCH 4 HOLDS after point `t`: the fold of its run up to `t`, from the reset at the run's first point
    `8·(t / 8)` (Lib/Pipeline/Value.lean `Pipeline.eq_accAt_of_mod`, by the frame's `outsAt0_κ`; without enumerating the points). -/
theorem soutsAt0_4_eq (c : Dev nD) (t : Fin cfg0.N) :
    (outsAt0 m c t.val t.isLt).2.2.2 = Pipeline.accAt (fun n h => scAt0_4 m c n h (VS0_4.read (Elt F) VS0_4.junk)) (scAt0_4 m c) (8 * (t.val / 8)) (t.val % 8)
      (by have h1 := t.isLt; have h2 := Nat.div_add_mod t.val 8; omega) :=
  Pipeline.eq_accAt_of_mod (fun n h => (outsAt0 m c n h).2.2.2) 8 (fun n h => scAt0_4 m c n h (VS0_4.read (Elt F) VS0_4.junk)) (scAt0_4 m c)
    (fun n h hn => by
      have hN := lt_of_lt_of_eq h (show cfg0.N = 8 from N_0)
      by_cases h0 : n % 8 = 0
      all_goals first | (exfalso; omega) | (rw [outsAt0_A m c ⟨n, h⟩ h0]; dsimp only; unfold scAt0_4; rw [dif_pos h0] <;> try rfl) | (rw [outsAt0_B m c ⟨n, h⟩ h0]; dsimp only; unfold scAt0_4; rw [dif_neg h0] <;> try rfl))
    (fun n h hn => by
      have hN := lt_of_lt_of_eq h (show cfg0.N = 8 from N_0)
      by_cases h0 : (n + 1) % 8 = 0
      all_goals first | (exfalso; omega) | (rw [outsAt0_A m c ⟨n + 1, h⟩ h0]; dsimp only; unfold scAt0_4; rw [dif_pos h0] <;> try rfl) | (rw [outsAt0_B m c ⟨n + 1, h⟩ h0]; dsimp only; unfold scAt0_4; rw [dif_neg h0] <;> try rfl))
    (by decide) t.val t.isLt _

/-- One run spans the grid (the only reset is at point 0): after point `n` the scratch is the fold from 0 to `n`. -/
theorem soutsAt0_4_sweep (c : Dev nD) (n : ℕ) (hn : n < cfg0.N) :
    (outsAt0 m c n hn).2.2.2 = Pipeline.accAt (fun n h => scAt0_4 m c n h (VS0_4.read (Elt F) VS0_4.junk)) (scAt0_4 m c) 0 n (by omega) := by
  have e := soutsAt0_4_eq m c ⟨n, hn⟩
  have hN := lt_of_lt_of_eq hn (show cfg0.N = 8 from N_0)
  have hd : n / 8 = 0 := Nat.div_eq_of_lt hN
  have hm : n % 8 = n := Nat.mod_eq_of_lt hN
  simpa only [hd, hm, Nat.mul_zero] using e

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S32x18944 .fp8e4m3 × Vec F S32x128 .f32 × Vec F S256x256 .bf16 × Vec F S160x512 .bf16 :=
  ((VO0_2.read (Elt F) VO0_2.junk, VO0_3.read (Elt F) VO0_3.junk, VS0_3.read (Elt F) VS0_3.junk, VS0_4.read (Elt F) VS0_4.junk) : Vec F S32x18944 .fp8e4m3 × Vec F S32x128 .f32 × Vec F S256x256 .bf16 × Vec F S160x512 .bf16)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S32x18944 .fp8e4m3 × Vec F S32x128 .f32 × Vec F S256x256 .bf16 × Vec F S160x512 .bf16) : Vec F S32x18944 .fp8e4m3 × Vec F S32x128 .f32 × Vec F S256x256 .bf16 × Vec F S160x512 .bf16 :=
  if h0 : n % 8 = 0 then
    (out0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 (⟨n, hb⟩ : Fin cfg0.N)).mpr h0) (iblk m c 0 (⟨n, hb⟩ : Fin cfg0.N)) (iblk m c 1 (⟨n, hb⟩ : Fin cfg0.N)), out0_A_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 (⟨n, hb⟩ : Fin cfg0.N)).mpr h0) (iblk m c 0 (⟨n, hb⟩ : Fin cfg0.N)) (iblk m c 1 (⟨n, hb⟩ : Fin cfg0.N)), sout0_A_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 (⟨n, hb⟩ : Fin cfg0.N)).mpr h0) (iblk m c 0 (⟨n, hb⟩ : Fin cfg0.N)) (iblk m c 1 (⟨n, hb⟩ : Fin cfg0.N)), sout0_A_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 (⟨n, hb⟩ : Fin cfg0.N)).mpr h0) (iblk m c 0 (⟨n, hb⟩ : Fin cfg0.N)) (iblk m c 1 (⟨n, hb⟩ : Fin cfg0.N)))
  else
    (out0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) acc.2.2.1 acc.2.2.2, out0_B_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) acc.2.2.1 acc.2.2.2, sout0_B_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) acc.2.2.1 acc.2.2.2, sout0_B_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) acc.2.2.1 acc.2.2.2)

/-- `stAt0` at a point of case A: that case's contents. -/
theorem stAt0_A (c : Dev nD) (t : Fin cfg0.N) (acc : Vec F S32x18944 .fp8e4m3 × Vec F S32x128 .f32 × Vec F S256x256 .bf16 × Vec F S160x512 .bf16) (h0 : t.val % 8 = 0) :
    stAt0 m c t.val t.isLt acc = (out0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t), out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t), sout0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t), sout0_A_4 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t)) :=
  (dif_pos h0).trans rfl

/-- `stAt0` at a point of case B: that case's contents, over `acc`. -/
theorem stAt0_B (c : Dev nD) (t : Fin cfg0.N) (acc : Vec F S32x18944 .fp8e4m3 × Vec F S32x128 .f32 × Vec F S256x256 .bf16 × Vec F S160x512 .bf16) (h0 : ¬t.val % 8 = 0) :
    stAt0 m c t.val t.isLt acc = (out0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) acc.2.2.1 acc.2.2.2, out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) acc.2.2.1 acc.2.2.2, sout0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) acc.2.2.1 acc.2.2.2, sout0_B_4 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) acc.2.2.1 acc.2.2.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 8 from N_0)
  have e := Pipeline.eq_accAt_of_mod (fun n h => outsAt0 m c n h) 8 (fun n h => stAt0 m c n h junk0) (stAt0 m c)
    (fun n h _ => by
      have hN := lt_of_lt_of_eq h (show cfg0.N = 8 from N_0)
      obtain rfl : n = 0 := by omega
      exact outsAt0_zero m c h)
    (fun n h _ => outsAt0_succ m c n h)
    (by decide) n hn (by have := Nat.div_add_mod n 8; omega)
  have hd : n / 8 = 0 := Nat.div_eq_of_lt hN
  have hm : n % 8 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 2 -/

/-- The block of the array that holds index `i`, numbered in the order the points write the blocks back (one per point),
    `i`'s place in it, and the point that writes it back. -/
abbrev run2Of (i : S256x18944.Idx) : ℕ := 1 * ((i 0).val / 32 - 0) + 1 * ((i 1).val / 18944 - 0)
abbrev loc2Of (i : S256x18944.Idx) : S32x18944.Idx := fun a => match a with
  | ⟨0, _⟩ => ⟨(i 0).val % 32, Nat.mod_lt _ (by decide)⟩
  | ⟨1, _⟩ => ⟨(i 1).val % 18944, Nat.mod_lt _ (by decide)⟩
abbrev pt2Of (i : S256x18944.Idx) : ℕ := run2Of i

/-- WHAT THE ARRAY ENDS HOLDING at index `i` inside the box the flushing blocks fill: output 2's component of the carried
    state's fold at the point that writes `i`'s block back, at `i`'s place in the block. `G2` states the array's contents
    only inside the box. -/
def G2 (c : Dev nD) : Buf (Elt F) ((c : Thread nD τ).loc main_v1_0) := fun i =>
  if h : pt2Of i < cfg0.N then
    (Pipeline.accAt (fun n h => stAt0 m c n h junk0) (stAt0 m c) 0 (pt2Of i) (by omega)).1 (loc2Of i)
  else V m c (Pipeline.arrRef spec0 2) i

/-- The printed index map, decided over the grid: output window 2's block indices stay in the box, and the block number
    read off them is the point's (`t`). -/
theorem idx_facts2 : ∀ t : Fin cfg0.N, 0 ≤ win0_2.index t (0 : Fin 2) ∧ win0_2.index t (0 : Fin 2) ≤ 7
    ∧ 0 ≤ win0_2.index t (1 : Fin 2) ∧ win0_2.index t (1 : Fin 2) ≤ 0
    ∧ 1 * (win0_2.index t (0 : Fin 2) - 0) + 1 * (win0_2.index t (1 : Fin 2) - 0) = t.val :=
  (by decide +kernel : ∀ t : Fin grid0.N, _)

/-- Every block of the box is SOME flushing point's: `onto2Pt`, the point that writes back the block at place `q` of the box. -/
abbrev onto2Pt (q0 : Fin 8) (q1 : Fin 1) : Fin grid0.N :=
  ⟨1 * q0.val + 1 * q1.val, lt_of_lt_of_eq (by omega) N_0.symm⟩
theorem idx_onto2 : ∀ (q0 : Fin 8) (q1 : Fin 1), ∃ t : Fin cfg0.N, (cfg0.win 2).flush t = true ∧ win0_2.index t = ![q0.val + 0, q1.val + 0] :=
  fun q0 q1 => ⟨onto2Pt q0 q1, (by decide +kernel : ∀ (q0 : Fin 8) (q1 : Fin 1), win0_2.flush (onto2Pt q0 q1) = true ∧ win0_2.index (onto2Pt q0 q1) = ![q0.val + 0, q1.val + 0]) q0 q1⟩

/-- WHAT A FLUSHING POINT `t` WRITES BACK is block `t` of `G2`: output 2's component of the fold up to `t`. -/
theorem flushed2_eq (c : Dev nD) (t : Fin cfg0.N) (hf : (cfg0.win 2).flush t = true) :
    (dats m 0 c).flushed 2 t = ((cfg0.win 2).blk t).view.read (Elt F) (G2 m c) := by
  show (cfg0.win 2).cut (grid0.coords t) ((dats m 0 c).after 2 t) = _
  rw [after0_2, outsAt0_sweep]
  obtain ⟨e0, e1, e2⟩ := idx_facts2 t
  funext y
  have hy0 : (y 0).val < 32 := (y 0).isLt
  have hy1 : (y 1).val < 18944 := (y 1).isLt
  have hb0 : (((cfg0.win 2).blk t).view.emb y 0).val = win0_2.index t (0 : Fin 2) * 32 + 1 * (y 0).val := rfl
  have hb1 : (((cfg0.win 2).blk t).view.emb y 1).val = win0_2.index t (1 : Fin 2) * 18944 + 1 * (y 1).val := rfl
  have hr : run2Of (((cfg0.win 2).blk t).view.emb y) = t.val := by
    show 1 * ((((cfg0.win 2).blk t).view.emb y 0).val / 32 - 0) + 1 * ((((cfg0.win 2).blk t).view.emb y 1).val / 18944 - 0) = _
    rw [hb0, hb1]
    rw [show (win0_2.index t (0 : Fin 2) * 32 + 1 * (y 0).val) / 32 = win0_2.index t (0 : Fin 2) from by omega]; rw [show (win0_2.index t (1 : Fin 2) * 18944 + 1 * (y 1).val) / 18944 = win0_2.index t (1 : Fin 2) from by omega]
    omega
  have hl : loc2Of (((cfg0.win 2).blk t).view.emb y) = (cfg0.win 2).xinj (grid0.coords t) y := by
    funext a; apply Fin.ext
    match a with
    | ⟨0, _⟩ => show (((cfg0.win 2).blk t).view.emb y 0).val % 32 = (y 0).val; rw [hb0]; omega
    | ⟨1, _⟩ => show (((cfg0.win 2).blk t).view.emb y 1).val % 18944 = (y 1).val; rw [hb1]; omega
  have hp : pt2Of (((cfg0.win 2).blk t).view.emb y) = t.val := by
    exact hr
  show (Pipeline.accAt (fun n h => stAt0 m c n h junk0) (stAt0 m c) 0 t.val _).1 ((cfg0.win 2).xinj (grid0.coords t) y) = G2 m c (((cfg0.win 2).blk t).view.emb y)
  unfold G2
  rw [dif_pos (by rw [hp]; exact t.isLt), hl, fold0_congr m c _ _ _ _ hp.symm]

/-- An index of the array is in point `t`'s block iff each coordinate is in the block's range on its axis. -/
theorem mem_blk2 (t : Fin cfg0.N) (i : S256x18944.Idx) :
    i ∈ ((cfg0.win 2).blk t).view.set ↔ ∀ a : Fin 2, win0_2.index t a * S32x18944.size a ≤ (i a).val ∧ (i a).val < win0_2.index t a * S32x18944.size a + S32x18944.size a := by
  show i ∈ ((View.whole main_v1_0).slice (win0_2.rect t)).set ↔ _
  rw [View.set_slice_whole, Rect.mem_set_unit]
  exact Iff.rfl

/-- THE COVERED INDICES: in some flushing point's block iff inside the box those blocks fill. -/
theorem covered_iff2 (i : S256x18944.Idx) :
    (∃ t : Fin cfg0.N, (cfg0.win 2).flush t = true ∧ i ∈ ((cfg0.win 2).blk t).view.set) ↔ 0 ≤ (i 0).val ∧ (i 0).val < 256 ∧ 0 ≤ (i 1).val ∧ (i 1).val < 18944 := by
  constructor
  · rintro ⟨t, -, hi⟩
    rw [mem_blk2] at hi
    have b0 : win0_2.index t (0 : Fin 2) * 32 ≤ (i 0).val ∧ (i 0).val < win0_2.index t (0 : Fin 2) * 32 + 32 := hi 0
    have b1 : win0_2.index t (1 : Fin 2) * 18944 ≤ (i 1).val ∧ (i 1).val < win0_2.index t (1 : Fin 2) * 18944 + 18944 := hi 1
    obtain ⟨e0, e1, e2⟩ := idx_facts2 t
    omega
  · intro h
    have hi0 : (i 0).val < 256 := (i 0).isLt
    have hi1 : (i 1).val < 18944 := (i 1).isLt
    obtain ⟨t, hft, ht⟩ := idx_onto2 ⟨(i 0).val / 32 - 0, by omega⟩ ⟨(i 1).val / 18944 - 0, by omega⟩
    have q0 : win0_2.index t (0 : Fin 2) = (i 0).val / 32 - 0 + 0 := congrFun ht 0
    have q1 : win0_2.index t (1 : Fin 2) = (i 1).val / 18944 - 0 + 0 := congrFun ht 1
    refine ⟨t, hft, ?_⟩
    rw [mem_blk2]
    intro a
    match a with
    | ⟨0, _⟩ => show win0_2.index t (0 : Fin 2) * 32 ≤ (i 0).val ∧ (i 0).val < win0_2.index t (0 : Fin 2) * 32 + 32; omega
    | ⟨1, _⟩ => show win0_2.index t (1 : Fin 2) * 18944 ≤ (i 1).val ∧ (i 1).val < win0_2.index t (1 : Fin 2) * 18944 + 18944; omega

/-- THE ARRAY after the run: `G2` (the flushing blocks tile it). -/
theorem final2 (c : Dev nD) : (dats m 0 c).arrAt 2 cfg0.N = G2 m c :=
  (dats m 0 c).arrAt_eq_of_cover 2 _ (fun t hf => flushed2_eq m c t hf) (fun i => (covered_iff2 i).2 (by
    have h0 : (i 0).val < 256 := (i 0).isLt; have h1 : (i 1).val < 18944 := (i 1).isLt; omega))

/-! ## Output window 3 -/

/-- The block of the array that holds index `i`, numbered in the order the points write the blocks back (one per point),
    `i`'s place in it, and the point that writes it back. -/
abbrev run3Of (i : S256x128.Idx) : ℕ := 1 * ((i 0).val / 32 - 0) + 1 * ((i 1).val / 128 - 0)
abbrev loc3Of (i : S256x128.Idx) : S32x128.Idx := fun a => match a with
  | ⟨0, _⟩ => ⟨(i 0).val % 32, Nat.mod_lt _ (by decide)⟩
  | ⟨1, _⟩ => ⟨(i 1).val % 128, Nat.mod_lt _ (by decide)⟩
abbrev pt3Of (i : S256x128.Idx) : ℕ := run3Of i

/-- WHAT THE ARRAY ENDS HOLDING at index `i` inside the box the flushing blocks fill: output 3's component of the carried
    state's fold at the point that writes `i`'s block back, at `i`'s place in the block. `G3` states the array's contents
    only inside the box. -/
def G3 (c : Dev nD) : Buf (Elt F) ((c : Thread nD τ).loc main_v1_1) := fun i =>
  if h : pt3Of i < cfg0.N then
    (Pipeline.accAt (fun n h => stAt0 m c n h junk0) (stAt0 m c) 0 (pt3Of i) (by omega)).2.1 (loc3Of i)
  else V m c (Pipeline.arrRef spec0 3) i

/-- The printed index map, decided over the grid: output window 3's block indices stay in the box, and the block number
    read off them is the point's (`t`). -/
theorem idx_facts3 : ∀ t : Fin cfg0.N, 0 ≤ win0_3.index t (0 : Fin 2) ∧ win0_3.index t (0 : Fin 2) ≤ 7
    ∧ 0 ≤ win0_3.index t (1 : Fin 2) ∧ win0_3.index t (1 : Fin 2) ≤ 0
    ∧ 1 * (win0_3.index t (0 : Fin 2) - 0) + 1 * (win0_3.index t (1 : Fin 2) - 0) = t.val :=
  (by decide +kernel : ∀ t : Fin grid0.N, _)

/-- Every block of the box is SOME flushing point's: `onto3Pt`, the point that writes back the block at place `q` of the box. -/
abbrev onto3Pt (q0 : Fin 8) (q1 : Fin 1) : Fin grid0.N :=
  ⟨1 * q0.val + 1 * q1.val, lt_of_lt_of_eq (by omega) N_0.symm⟩
theorem idx_onto3 : ∀ (q0 : Fin 8) (q1 : Fin 1), ∃ t : Fin cfg0.N, (cfg0.win 3).flush t = true ∧ win0_3.index t = ![q0.val + 0, q1.val + 0] :=
  fun q0 q1 => ⟨onto3Pt q0 q1, (by decide +kernel : ∀ (q0 : Fin 8) (q1 : Fin 1), win0_3.flush (onto3Pt q0 q1) = true ∧ win0_3.index (onto3Pt q0 q1) = ![q0.val + 0, q1.val + 0]) q0 q1⟩

/-- WHAT A FLUSHING POINT `t` WRITES BACK is block `t` of `G3`: output 3's component of the fold up to `t`. -/
theorem flushed3_eq (c : Dev nD) (t : Fin cfg0.N) (hf : (cfg0.win 3).flush t = true) :
    (dats m 0 c).flushed 3 t = ((cfg0.win 3).blk t).view.read (Elt F) (G3 m c) := by
  show (cfg0.win 3).cut (grid0.coords t) ((dats m 0 c).after 3 t) = _
  rw [after0_3, outsAt0_sweep]
  obtain ⟨e0, e1, e2⟩ := idx_facts3 t
  funext y
  have hy0 : (y 0).val < 32 := (y 0).isLt
  have hy1 : (y 1).val < 128 := (y 1).isLt
  have hb0 : (((cfg0.win 3).blk t).view.emb y 0).val = win0_3.index t (0 : Fin 2) * 32 + 1 * (y 0).val := rfl
  have hb1 : (((cfg0.win 3).blk t).view.emb y 1).val = win0_3.index t (1 : Fin 2) * 128 + 1 * (y 1).val := rfl
  have hr : run3Of (((cfg0.win 3).blk t).view.emb y) = t.val := by
    show 1 * ((((cfg0.win 3).blk t).view.emb y 0).val / 32 - 0) + 1 * ((((cfg0.win 3).blk t).view.emb y 1).val / 128 - 0) = _
    rw [hb0, hb1]
    rw [show (win0_3.index t (0 : Fin 2) * 32 + 1 * (y 0).val) / 32 = win0_3.index t (0 : Fin 2) from by omega]; rw [show (win0_3.index t (1 : Fin 2) * 128 + 1 * (y 1).val) / 128 = win0_3.index t (1 : Fin 2) from by omega]
    omega
  have hl : loc3Of (((cfg0.win 3).blk t).view.emb y) = (cfg0.win 3).xinj (grid0.coords t) y := by
    funext a; apply Fin.ext
    match a with
    | ⟨0, _⟩ => show (((cfg0.win 3).blk t).view.emb y 0).val % 32 = (y 0).val; rw [hb0]; omega
    | ⟨1, _⟩ => show (((cfg0.win 3).blk t).view.emb y 1).val % 128 = (y 1).val; rw [hb1]; omega
  have hp : pt3Of (((cfg0.win 3).blk t).view.emb y) = t.val := by
    exact hr
  show (Pipeline.accAt (fun n h => stAt0 m c n h junk0) (stAt0 m c) 0 t.val _).2.1 ((cfg0.win 3).xinj (grid0.coords t) y) = G3 m c (((cfg0.win 3).blk t).view.emb y)
  unfold G3
  rw [dif_pos (by rw [hp]; exact t.isLt), hl, fold0_congr m c _ _ _ _ hp.symm]

/-- An index of the array is in point `t`'s block iff each coordinate is in the block's range on its axis. -/
theorem mem_blk3 (t : Fin cfg0.N) (i : S256x128.Idx) :
    i ∈ ((cfg0.win 3).blk t).view.set ↔ ∀ a : Fin 2, win0_3.index t a * S32x128.size a ≤ (i a).val ∧ (i a).val < win0_3.index t a * S32x128.size a + S32x128.size a := by
  show i ∈ ((View.whole main_v1_1).slice (win0_3.rect t)).set ↔ _
  rw [View.set_slice_whole, Rect.mem_set_unit]
  exact Iff.rfl

/-- THE COVERED INDICES: in some flushing point's block iff inside the box those blocks fill. -/
theorem covered_iff3 (i : S256x128.Idx) :
    (∃ t : Fin cfg0.N, (cfg0.win 3).flush t = true ∧ i ∈ ((cfg0.win 3).blk t).view.set) ↔ 0 ≤ (i 0).val ∧ (i 0).val < 256 ∧ 0 ≤ (i 1).val ∧ (i 1).val < 128 := by
  constructor
  · rintro ⟨t, -, hi⟩
    rw [mem_blk3] at hi
    have b0 : win0_3.index t (0 : Fin 2) * 32 ≤ (i 0).val ∧ (i 0).val < win0_3.index t (0 : Fin 2) * 32 + 32 := hi 0
    have b1 : win0_3.index t (1 : Fin 2) * 128 ≤ (i 1).val ∧ (i 1).val < win0_3.index t (1 : Fin 2) * 128 + 128 := hi 1
    obtain ⟨e0, e1, e2⟩ := idx_facts3 t
    omega
  · intro h
    have hi0 : (i 0).val < 256 := (i 0).isLt
    have hi1 : (i 1).val < 128 := (i 1).isLt
    obtain ⟨t, hft, ht⟩ := idx_onto3 ⟨(i 0).val / 32 - 0, by omega⟩ ⟨(i 1).val / 128 - 0, by omega⟩
    have q0 : win0_3.index t (0 : Fin 2) = (i 0).val / 32 - 0 + 0 := congrFun ht 0
    have q1 : win0_3.index t (1 : Fin 2) = (i 1).val / 128 - 0 + 0 := congrFun ht 1
    refine ⟨t, hft, ?_⟩
    rw [mem_blk3]
    intro a
    match a with
    | ⟨0, _⟩ => show win0_3.index t (0 : Fin 2) * 32 ≤ (i 0).val ∧ (i 0).val < win0_3.index t (0 : Fin 2) * 32 + 32; omega
    | ⟨1, _⟩ => show win0_3.index t (1 : Fin 2) * 128 ≤ (i 1).val ∧ (i 1).val < win0_3.index t (1 : Fin 2) * 128 + 128; omega

/-- THE ARRAY after the run: `G3` (the flushing blocks tile it). -/
theorem final3 (c : Dev nD) : (dats m 0 c).arrAt 3 cfg0.N = G3 m c :=
  (dats m 0 c).arrAt_eq_of_cover 3 _ (fun t hf => flushed3_eq m c t hf) (fun i => (covered_iff3 i).2 (by
    have h0 : (i 0).val < 256 := (i 0).isLt; have h1 : (i 1).val < 128 := (i 1).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v1_0) = G2 m c
      ∧ r.2.mem ((c : Thread nD τ).loc main_v1_1) = G3 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post2 m r h c).trans (final2 m c),
      (post3 m r h c).trans (final3 m c),
      kept_main_arg0 m r h c,
      kept_main_arg1 m r h c⟩)
    (run_main m ρ)

end Cert.RotateIdeal.Value

end
-- ==== Proof.RotRefVec.lean ====
/-
  The rotate-and-quantise reference's steps, each read entry by entry over the extended reals.
-/
import proofs.«01_k».proof.Proof.Gen.RotateReferenceIdeal.Frame
import proofs.«01_k».proof.Proof.RotSpec
import Idealize.ShloMosaic.Lib.Pointwise
set_option maxRecDepth 16384
set_option maxHeartbeats 1000000
noncomputable section
namespace Cert.RotateReferenceIdeal.Gen
open Idealize.ShloMosaic Idealize.ShloMosaic.TcCoe Idealize.ShloMosaic.Tactic
open Idealize.SL.Sem
open Cert.RotateReferenceIdeal Cert.RotSpec

/-- The parity of the number of ones two indices share. -/
def hpar : Vec Ideal S128x128 .i32 :=
  andi (ctpop (andi (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (broadcastInDim S1x128 ![1] bcast_S128_S1x128_1 (iotaInDim S128 32 0)))))
    (broadcastInDim S128x128 ![] bcast_S_S128x128 (constantI S_ 32 1#32))
/-- The sign matrix, as the reference builds it. -/
def hmat : Vec Ideal S128x128 .f32 :=
  select (cmpi .eq hpar (broadcastInDim S128x128 ![] bcast_S_S128x128 (constantI S_ 32 0#32)))
    (broadcastInDim S128x128 ![] bcast_S_S128x128 (constant (F := Ideal) S_ .f32 0x3F800000#32))
    (broadcastInDim S128x128 ![] bcast_S_S128x128 (constant (F := Ideal) S_ .f32 0xBF800000#32))
/-- Each group of 128 times the sign matrix. -/
def zmat (x : Vec Ideal S1x256x18944 .bf16) (h : Vec Ideal S128x128 .f32) : Vec Ideal S1x256x148x128 .f32 :=
  Host.dotGeneral (F := Ideal) (φ₁ := .f32) (φ₂ := .f32) dot_S1x256x148x128_S128x128_S1x256x148x128_3_1_012_0_n_n (some .fp32) (shapeCast S1x256x148x128 (extf .f32 x bitsLt_bf16_f32 : FVec Ideal S1x256x18944 .f32) shapeCasts_S1x256x18944_S1x256x148x128) h
/-- The second factor applied across the groups. -/
def wmat (z : Vec Ideal S1x256x148x128 .f32) (had : Vec Ideal S148x148 .f32) : Vec Ideal S1x256x128x148 .f32 :=
  Host.dotGeneral (F := Ideal) (φ₁ := .f32) (φ₂ := .f32) dot_S1x256x148x128_S148x148_S1x256x128x148_2_1_013_0_n_n (some .fp32) z had
/-- Back to rows, scaled. -/
def ymat (w : Vec Ideal S1x256x128x148 .f32) : Vec Ideal S256x18944 .f32 :=
  shapeCast S256x18944 (mulf (F := Ideal) (φ := .f32) (transpose S1x256x148x128 [0, 1, 3, 2] w
     transposes_S1x256x128x148_S1x256x148x128_0_1_3_2) (broadcastInDim S1x256x148x128 ![] bcast_S_S1x256x148x128 (constant (F := Ideal) S_ .f32 0x3BEE133E#32))) shapeCasts_S1x256x148x128_S256x18944
/-- The largest magnitude of each row. -/
def mvec (y : Vec Ideal S256x18944 .f32) : Vec Ideal S256 .f32 :=
  Host.reduce (FloatOps.maximumf (F := Ideal) (φ := .f32)) (Host.absf (F := Ideal) (φ := .f32) y) (constant (F := Ideal) S_ .f32 0xFF800000#32) reducesTo_S256x18944_S256_d1 h_S_
/-- What each row's exponent is taken of. -/
def vvec (a : Vec Ideal S256 .f32) : Vec Ideal S256 .f32 :=
  mulf (F := Ideal) (φ := .f32) a (broadcastInDim S256 ![] bcast_S_S256 (constant (F := Ideal) S_ .f32 0x3B124925#32))
/-- The number of powers of two not above each entry, less one. -/
def bits (v : Vec Ideal S256 .f32) : Vec Ideal S256 .i32 :=
  subi (Host.reduce IntOp.addi (extui 32 (cmpf (F := Ideal) .oge (broadcastInDim S256x256 ![0, 1] bcast_S256x1_S256x256_0_1 (broadcastInDim S256x1 ![0] bcast_S256_S256x1_0 v))
    (broadcastInDim S256x256 ![0, 1] bcast_S1x256_S256x256_0_1 (broadcastInDim S1x256 ![1] bcast_S256_S1x256_1 (bitcastToFloat .f32 (Host.shli (iotaInDim S256 32 0) (broadcastInDim S256 ![] bcast_S_S256 (constantI S_ 32 23#32))))))) natLt_1_32)
    (constantI S_ 32 0#32) reducesTo_S256x256_S256_d1 h_S_) (broadcastInDim S256 ![] bcast_S_S256 (constantI S_ 32 1#32))
/-- The exponents. -/
def evec (b : Vec Ideal S256 .i32) : Vec Ideal S256 .i32 :=
  select (cmpi .eq b (broadcastInDim S256 ![] bcast_S_S256 (constantI S_ 32 0#32))) (broadcastInDim S256 ![] bcast_S_S256 (constantI S_ 32 0#32)) (subi b (broadcastInDim S256 ![] bcast_S_S256 (constantI S_ 32 126#32)))
/-- The scales. -/
def svec (e : Vec Ideal S256 .i32) : Vec Ideal S256 .f32 :=
  bitcastToFloat (F := Ideal) .f32 (Host.shli (addi e (broadcastInDim S256 ![] bcast_S_S256 (constantI S_ 32 127#32))) (broadcastInDim S256 ![] bcast_S_S256 (constantI S_ 32 23#32)))
/-- The scales, along 128 lanes. -/
def smat (s : Vec Ideal S256 .f32) : Vec Ideal S256x128 .f32 :=
  broadcastInDim S256x128 ![0, 1] bcast_S256x1_S256x128_0_1 (broadcastInDim S256x1 ![0] bcast_S256_S256x1_0 s)
/-- The inverse scales. -/
def ivec (e : Vec Ideal S256 .i32) : Vec Ideal S256 .f32 :=
  bitcastToFloat (F := Ideal) .f32 (Host.shli (subi (broadcastInDim S256 ![] bcast_S_S256 (constantI S_ 32 127#32)) e) (broadcastInDim S256 ![] bcast_S_S256 (constantI S_ 32 23#32)))

theorem hmat_apply (p q : Fin 128) : hmat (ix2 p q) = sgn q p := by
  pointwise [hmat, hpar]
  rw [sgn_comm]; rfl
theorem zmat_apply (x : Vec Ideal S1x256x18944 .bf16) (h : Vec Ideal S128x128 .f32) (r : Fin 256) (k : Fin 148) (q : Fin 128) : zmat x h (ix4 0 r k q) = ∑ p : Fin 128, x (ix3 0 r ⟨k.val * 128 + p.val, by omega⟩) * h (ix2 q p) := by
  pointwise [zmat]
theorem wmat_apply (z : Vec Ideal S1x256x148x128 .f32) (had : Vec Ideal S148x148 .f32) (r : Fin 256) (k : Fin 148) (q : Fin 128) : wmat z had (ix4 0 r q k) = ∑ p : Fin 148, z (ix4 0 r p q) * had (ix2 k p) := by
  pointwise [wmat]
theorem ymat_apply (w : Vec Ideal S1x256x128x148 .f32) (r : Fin 256) (c : Fin 18944) : ymat w (ix2 r c) = w (ix4 0 r ⟨c.val % 128, Nat.mod_lt _ (by decide)⟩ ⟨c.val / 128, by omega⟩) * INV := by
  pointwise [ymat]
theorem vvec_apply (y : Vec Ideal S256 .f32) (r : Fin 256) : vvec y (ix1 r) = y (ix1 r) * C448 := by
  pointwise [vvec]
theorem bits_apply (y : Vec Ideal S256 .f32) (r : Fin 256) : bits y (ix1 r) = bitsOf (y (ix1 r)) := by
  unfold bitsOf
  pointwise [bits]
  rfl
theorem evec_apply (y : Vec Ideal S256 .i32) (r : Fin 256) : evec y (ix1 r) = Scalar.select (IntOp.cmpi .eq (y (ix1 r)) 0#32) (0#32) (IntOp.subi (y (ix1 r)) 126#32) := by
  pointwise [evec]
theorem svec_apply (y : Vec Ideal S256 .i32) (r : Fin 256) : svec y (ix1 r) = Ideal.ofBits FTy.f32 (IntOp.shli ArithUnit.vector (IntOp.addi (y (ix1 r)) 127#32) 23#32) := by
  pointwise [svec]
  rfl
theorem ivec_apply (y : Vec Ideal S256 .i32) (r : Fin 256) : ivec y (ix1 r) = Ideal.ofBits FTy.f32 (IntOp.shli ArithUnit.vector (IntOp.subi 127#32 (y (ix1 r))) 23#32) := by
  pointwise [ivec]
  rfl
theorem smat_apply (y : Vec Ideal S256 .f32) (r : Fin 256) (l : Fin 128) : smat y (ix2 r l) = y (ix1 r) := by
  pointwise [smat]
theorem codes_pay (y : Vec Ideal S256x18944 .f32) (i : Vec Ideal S256 .f32) (r : Fin 256) (c : Fin 18944) : k0_pay1 y i (ix2 r c) = min (Ideal.ofBits FTy.f32 1138753536#32) (max (Ideal.ofBits FTy.f32 3286237184#32) (y (ix2 r c) * i (ix1 r))) := by
  pointwise [k0_pay1]
theorem mvec_apply (y : Vec Ideal S256x18944 .f32) (r : Fin 256) : mvec y (ix1 r) = Finset.univ.sup fun c : Fin 18944 => max (y (ix2 r c)) (-(y (ix2 r c))) := by
  unfold mvec
  have h : (S256x18944 : Shape).Reduces [1] S256 := by decide
  rw [Host.reduce_eq_fold_single (FloatOps.maximumf (F := Ideal) (φ := .f32)) _ _ _ h h_S_]
  have hf : (Host.absf (F := Ideal) (φ := .f32) y ∘ h.lift (ix1 r)) = fun c : Fin 18944 => max (y (ix2 r c)) (-(y (ix2 r c))) := by
    funext c
    have e : h.lift (ix1 r) c = ix2 r c := by
      funext d; apply Fin.ext
      match d with
      | ⟨0, _⟩ => rfl
      | ⟨1, _⟩ => rfl
    show max (y (h.lift (ix1 r) c)) (-(y (h.lift (ix1 r) c))) = _
    rw [e]; rfl
  exact (congrArg (fun f => Finset.fold max (Ideal.ofBits .f32 0xFF800000#32) f (Finset.univ : Finset (Fin 18944))) hf).trans (fold_max _)

end Cert.RotateReferenceIdeal.Gen

end
-- ==== Proof.RotRef.lean ====
/-
  The rotate-and-quantise reference's run over the extended reals: its codes and its scales as the plain functions of the arguments.
-/
import proofs.«01_k».proof.Proof.RotRefVec
import Idealize.ShloMosaic.Lib.StableHlo.RunRead
import Idealize.ShloMosaic.Lib.Pipeline.Value
set_option maxRecDepth 16384
set_option maxHeartbeats 1000000
noncomputable section
namespace Cert.RotSpec
open Idealize.ShloMosaic

/-- Row `r` of the input, in groups of 128. -/
def rowOf (x : FVec Ideal (⟨3, ![1, 256, 18944]⟩ : Shape) .bf16) (r : Fin 256) (k : Fin 148) (p : Fin 128) : EReal := x (ix3 0 r ⟨k.val * 128 + p.val, by omega⟩)
/-- The second factor, entry by entry. -/
def facOf (had : FVec Ideal (⟨2, ![148, 148]⟩ : Shape) .f32) (a k : Fin 148) : EReal := had (ix2 a k)
/-- The codes of the whole input. -/
def codesS (x : FVec Ideal (⟨3, ![1, 256, 18944]⟩ : Shape) .bf16) (had : FVec Ideal (⟨2, ![148, 148]⟩ : Shape) .f32) : FVec Ideal (⟨2, ![256, 18944]⟩ : Shape) .fp8e4m3 := fun i =>
  codeS (yS (rowOf x (i 0)) (facOf had)) ⟨(i 1).val / 128, by have h : (i 1).val < 18944 := (i 1).isLt; omega⟩ ⟨(i 1).val % 128, Nat.mod_lt _ (by decide)⟩
/-- The scales of the whole input, each along 128 lanes. -/
def scalesS (x : FVec Ideal (⟨3, ![1, 256, 18944]⟩ : Shape) .bf16) (had : FVec Ideal (⟨2, ![148, 148]⟩ : Shape) .f32) : FVec Ideal (⟨2, ![256, 128]⟩ : Shape) .f32 := fun i =>
  sclOf (vS (yS (rowOf x (i 0)) (facOf had)))
end Cert.RotSpec

namespace Cert.RotateReferenceIdeal.Gen
open Idealize.ShloMosaic Idealize.ShloMosaic.TcCoe Idealize.ShloMosaic.Tactic
open Idealize.SL.Sem
open Cert.RotateReferenceIdeal Cert.RotSpec

/-- The scaled rotation, as the reference builds it. -/
def yOf (x : Vec Ideal S1x256x18944 .bf16) (had : Vec Ideal S148x148 .f32) : Vec Ideal S256x18944 .f32 := ymat (wmat (zmat x hmat) had)

/-- The scaled rotation, entry by entry. -/
theorem yOf_apply (x : Vec Ideal S1x256x18944 .bf16) (had : Vec Ideal S148x148 .f32) (r : Fin 256) (k : Fin 148) (q : Fin 128) (c : Fin 18944) (hc : c.val = 128 * k.val + q.val) :
    yOf x had (ix2 r c) = yS (rowOf x r) (facOf had) k q * INV := by
  unfold yOf
  rw [ymat_apply]
  have e1 : (⟨c.val % 128, Nat.mod_lt _ (by decide)⟩ : Fin 128) = q := Fin.ext (by show c.val % 128 = q.val; omega)
  have e2 : (⟨c.val / 128, by omega⟩ : Fin 148) = k := Fin.ext (by show c.val / 128 = k.val; omega)
  rw [e1, e2, wmat_apply]
  refine congrArg (· * INV) (Finset.sum_congr rfl fun p _ => ?_)
  rw [zmat_apply, mul_comm]
  refine congrArg (facOf had k p * ·) (Finset.sum_congr rfl fun l _ => ?_)
  rw [hmat_apply]
  rfl

/-- The largest magnitude of each row. -/
theorem amax_row (x : Vec Ideal S1x256x18944 .bf16) (had : Vec Ideal S148x148 .f32) (r : Fin 256) :
    vvec (mvec (yOf x had)) (ix1 r) = vS (yS (rowOf x r) (facOf had)) := by
  rw [vvec_apply, mvec_apply]
  unfold vS
  refine congrArg (· * C448) ?_
  exact amax_scaled (yS (rowOf x r) (facOf had)) (fun c => yOf x had (ix2 r c)) fun a l => yOf_apply x had r a l _ rfl

/-- Each row's exponent. -/
theorem exp_row (x : Vec Ideal S1x256x18944 .bf16) (had : Vec Ideal S148x148 .f32) (r : Fin 256) :
    evec (bits (vvec (mvec (yOf x had)))) (ix1 r) = eOf (vS (yS (rowOf x r) (facOf had))) := by
  rw [evec_apply, bits_apply, amax_row]
  rfl

/-- The reference's codes. -/
theorem codes_eq (x : Vec Ideal S1x256x18944 .bf16) (had : Vec Ideal S148x148 .f32) :
    k0_pay1 (yOf x had) (ivec (evec (bits (vvec (mvec (yOf x had)))))) = codesS x had := by
  funext i
  obtain ⟨r, c, rfl⟩ : ∃ (r : Fin 256) (c : Fin 18944), i = (ix2 r c : S256x18944.Idx) := ⟨i 0, i 1, eq_ix2 i⟩
  rw [codes_pay, ivec_apply, exp_row, yOf_apply x had r ⟨c.val / 128, by omega⟩ ⟨c.val % 128, by omega⟩ c (by show c.val = 128 * (c.val / 128) + c.val % 128; omega)]
  rfl

/-- The reference's scales. -/
theorem scales_eq (x : Vec Ideal S1x256x18944 .bf16) (had : Vec Ideal S148x148 .f32) :
    smat (svec (evec (bits (vvec (mvec (yOf x had)))))) = scalesS x had := by
  funext i
  obtain ⟨r, l, rfl⟩ : ∃ (r : Fin 256) (l : Fin 128), i = (ix2 r l : S256x128.Idx) := ⟨i 0, i 1, eq_ix2 i⟩
  rw [smat_apply, svec_apply, exp_row]
  rfl

variable (m : (ℓ : Loc nD τ sig) → Buf (Elt Ideal) ℓ) (ρ : Dev nD → PrngReg)

/-- The two arguments. -/
abbrev xArg (c : Dev nD) : Vec Ideal S1x256x18944 .bf16 := m ((c : Thread nD τ).loc main_arg0)
abbrev hArg (c : Dev nD) : Vec Ideal S148x148 .f32 := m ((c : Thread nD τ).loc main_arg1)

theorem V20 (c : Dev nD) : (V m c main_v20 : Vec Ideal S256x18944 .f32) = yOf (xArg m c) (hArg m c) := by
  after_reads_simp
  rfl
theorem V22 (c : Dev nD) : (V m c main_v22 : Vec Ideal S256 .f32) = mvec (V m c main_v20) := by
  unfold mvec
  after_reads_simp
theorem V24 (c : Dev nD) : (V m c main_v24 : Vec Ideal S256 .f32) = vvec (V m c main_v22) := by
  unfold vvec
  after_reads_simp
theorem V37 (c : Dev nD) : (V m c main_v37 : Vec Ideal S256 .i32) = bits (V m c main_v24) := by
  unfold bits
  after_reads_simp
theorem V42 (c : Dev nD) : (V m c main_v42 : Vec Ideal S256 .i32) = evec (V m c main_v37) := by
  unfold evec
  after_reads_simp
  simp -implicitDefEqProofs only [StableHlo.TRef.toBuf, StableHlo.TRef.ofBuf, cast_cast, cast_eq, id_eq]
theorem V52 (c : Dev nD) : (V m c main_v52 : Vec Ideal S256 .f32) = ivec (V m c main_v42) := by
  unfold ivec
  after_reads_simp
theorem V54 (c : Dev nD) : (V m c main_v54 : Vec Ideal S256x128 .f32) = smat (svec (V m c main_v42)) := by
  unfold smat svec
  after_reads_simp

theorem hz2 : (![0, 0] : Fin 2 → Nat) = fun _ => 0 := funext fun a => by fin_cases a <;> rfl
theorem hz1 : (![0] : Fin 1 → Nat) = fun _ => 0 := funext fun a => by fin_cases a <;> rfl

/-- Each window's block is its whole array. -/
theorem idx_zero0 : ∀ t : Fin cfg0.N, win0_0.index t (0 : Fin 2) = 0 ∧ win0_0.index t (1 : Fin 2) = 0 :=
  (by decide +kernel : ∀ t : Fin grid0.N, _)
theorem emb0 (t : Fin cfg0.N) (j : S256x18944.Idx) : ((cfg0.win 0).blk t).view.emb j = j := by
  obtain ⟨e0, e1⟩ := idx_zero0 t
  funext a; apply Fin.ext
  match a with
  | ⟨0, _⟩ => show win0_0.index t (0 : Fin 2) * 256 + 1 * (j 0).val = (j 0).val; omega
  | ⟨1, _⟩ => show win0_0.index t (1 : Fin 2) * 18944 + 1 * (j 1).val = (j 1).val; omega
theorem iblk0_eq (c : Dev nD) (t : Fin cfg0.N) : iblk m c 0 t = V m c main_v20 := by
  funext j; show V m c main_v20 (((cfg0.win 0).blk t).view.emb j) = V m c main_v20 j; rw [emb0]
theorem idx_zero1 : ∀ t : Fin cfg0.N, win0_1.index t (0 : Fin 1) = 0 :=
  (by decide +kernel : ∀ t : Fin grid0.N, _)
theorem emb1 (t : Fin cfg0.N) (j : S256.Idx) : ((cfg0.win 1).blk t).view.emb j = j := by
  have e0 := idx_zero1 t
  funext a; apply Fin.ext
  match a with
  | ⟨0, _⟩ => show win0_1.index t (0 : Fin 1) * 256 + 1 * (j 0).val = (j 0).val; omega
theorem iblk1_eq (c : Dev nD) (t : Fin cfg0.N) : iblk m c 1 t = V m c main_v52 := by
  funext j; show V m c main_v52 (((cfg0.win 1).blk t).view.emb j) = V m c main_v52 j; rw [emb1]
theorem idx_zero2 : ∀ t : Fin cfg0.N, win0_2.index t (0 : Fin 2) = 0 ∧ win0_2.index t (1 : Fin 2) = 0 :=
  (by decide +kernel : ∀ t : Fin grid0.N, _)
theorem emb2 (t : Fin cfg0.N) (j : S256x18944.Idx) : ((cfg0.win 2).blk t).view.emb j = j := by
  obtain ⟨e0, e1⟩ := idx_zero2 t
  funext a; apply Fin.ext
  match a with
  | ⟨0, _⟩ => show win0_2.index t (0 : Fin 2) * 256 + 1 * (j 0).val = (j 0).val; omega
  | ⟨1, _⟩ => show win0_2.index t (1 : Fin 2) * 18944 + 1 * (j 1).val = (j 1).val; omega

/-- The body's one store is the whole block. -/
theorem out2_eq (a0 : Vec Ideal S256x18944 .f32) (a1 : Vec Ideal S256 .f32) : out0_2 (F := Ideal) a0 a1 = k0_pay1 a0 a1 := by
  unfold out0_2
  rw [View.canon_unit_zero hz2, View.ld_unit_zero (S := S256x18944) hz2 _ a0, View.ld_unit_zero (S := S256) hz1 _ a1]
theorem cut2_eq (t : Fin cfg0.N) (X : Vec Ideal S256x18944 .fp8e4m3) :
    (cfg0.win 2).cut (grid0.coords t) X = ((cfg0.win 2).blk t).view.read (Elt Ideal) X := by
  funext j
  show X j = X (((cfg0.win 2).blk t).view.emb j)
  rw [emb2]
theorem flushed2_eq (c : Dev nD) (t : Fin cfg0.N) :
    (dats m 0 c).flushed 2 t = ((cfg0.win 2).blk t).view.read (Elt Ideal) (k0_pay1 (F := Ideal) (V m c main_v20) (V m c main_v52)) := by
  show (cfg0.win 2).cut (grid0.coords t) ((dats m 0 c).after 2 t) = _
  rw [after0_2, out2_eq, iblk0_eq, iblk1_eq]
  exact cut2_eq t _
theorem covered2 (i : S256x18944.Idx) :
    ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩

/-- The codes after the run. -/
theorem final2 (c : Dev nD) : (dats m 0 c).arrAt 2 cfg0.N = codesS (xArg m c) (hArg m c) :=
  ((dats m 0 c).arrAt_eq_of_cover 2 (k0_pay1 (F := Ideal) (V m c main_v20) (V m c main_v52)) (fun t _ => flushed2_eq m c t) covered2).trans (by
    rw [V52, V42, V37, V24, V22, V20]
    exact codes_eq _ _)

/-- The scales after the run. -/
theorem final54 (c : Dev nD) : (V m c main_v54 : Vec Ideal S256x128 .f32) = scalesS (xArg m c) (hArg m c) := by
  rw [V54, V42, V37, V24, V22, V20]
  exact scales_eq _ _

/-- The reference's run: both results named, the arguments unchanged. -/
theorem run : θ_run defs (onTc (τ := τ) (main (F := Ideal))) ⟨m, fun _ => 0, ρ⟩ (fun r => ∀ c : Dev nD,
      r.2.mem ((c.tc : Thread nD τ).loc main_v55) = codesS (xArg m c) (hArg m c)
      ∧ r.2.mem ((c.tc : Thread nD τ).loc main_v54) = scalesS (xArg m c) (hArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h c).1 2).trans (final2 m c),
      ((h c).2 main_v54 (Pipeline.mem_restRefs_of main_v54 (by decide) (by decide))).trans (final54 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.RotateReferenceIdeal.Gen

end
-- ==== Proof.RotEq.lean ====
/-
  The rotate-and-quantise kernel and its reference end with equal codes and scales, on finite inputs.
-/
import proofs.«01_k».proof.Defs
import proofs.«01_k».proof.Proof.RotOut
import proofs.«01_k».proof.Proof.RotValue
import proofs.«01_k».proof.Proof.RotRef
import proofs.«01_k».proof.Proof.Gen.Pre_finite_x
import Idealize.ShloMosaic.Lib.Bf16Pair
import Idealize.ShloMosaic.Lib.Bf16PairInverse
set_option maxRecDepth 16384
set_option maxHeartbeats 1000000
noncomputable section
namespace Cert.RotateIdeal.Rot
open Idealize.ShloMosaic Idealize.ShloMosaic.TcCoe Idealize.ShloMosaic.Tactic Idealize.SL.Sem
open Cert.RotateIdeal Cert.RotateIdeal.Gen Cert.RotateIdeal.Value Cert.RotSpec

variable (m : (ℓ : Loc nD τ sig) → Buf (Elt Ideal) ℓ)

/-- The two arguments. -/
abbrev xArg (c : Dev nD) : Vec Ideal S1x256x18944 .bf16 := m ((c : Thread nD τ).loc main_arg0)
abbrev hArg (c : Dev nD) : Vec Ideal S148x148 .f32 := m ((c : Thread nD τ).loc main_arg1)

/-- The input without its leading axis. -/
theorem V0_apply (c : Dev nD) (r : Fin 256) (j : Fin 18944) : (V m c main_v0 : Vec Ideal S256x18944 .bf16) (ix2 r j) = xArg m c (ix3 0 r j) := by
  have h : (V m c main_v0 : Vec Ideal S256x18944 .bf16) = shapeCast S256x18944 (xArg m c) shapeCasts_S1x256x18944_S256x18944 := rfl
  have key : ∀ (x : Vec Ideal S1x256x18944 .bf16) (r : Fin 256) (j : Fin 18944), shapeCast S256x18944 x shapeCasts_S1x256x18944_S256x18944 (ix2 r j) = x (ix3 0 r j) := by
    intro x r j
    pointwise
  rw [h]
  exact key _ r j

theorem idx_facts0 : ∀ t : Fin cfg0.N, win0_0.index t (0 : Fin 2) = t.val ∧ win0_0.index t (1 : Fin 2) = 0 :=
  (by decide +kernel : ∀ t : Fin grid0.N, _)
theorem idx_facts1 : ∀ t : Fin cfg0.N, win0_1.index t (0 : Fin 2) = 0 ∧ win0_1.index t (1 : Fin 2) = 0 :=
  (by decide +kernel : ∀ t : Fin grid0.N, _)

/-- Grid point `t` stages rows `32 t` to `32 t + 31`. -/
theorem iblk0_apply (c : Dev nD) (t : Fin cfg0.N) (n : Fin 32) (j : Fin 18944) (r : Fin 256) (hr : r.val = 32 * t.val + n.val) :
    (iblk m c 0 t : Vec Ideal S32x18944 .bf16) (ix2 n j) = xArg m c (ix3 0 r j) := by
  obtain ⟨e0, e1⟩ := idx_facts0 t
  rw [← V0_apply]
  show V m c main_v0 (((cfg0.win 0).blk t).view.emb (ix2 n j)) = V m c main_v0 (ix2 r j)
  refine congrArg _ ?_
  funext a; apply Fin.ext
  match a with
  | ⟨0, _⟩ => show win0_0.index t (0 : Fin 2) * 32 + 1 * n.val = r.val; omega
  | ⟨1, _⟩ => show win0_0.index t (1 : Fin 2) * 18944 + 1 * j.val = j.val; omega

/-- Every grid point stages the whole second factor. -/
theorem iblk1_fac (c : Dev nD) (t : Fin cfg0.N) : hadOf (iblk m c 1 t) = facOf (hArg m c) := by
  obtain ⟨e0, e1⟩ := idx_facts1 t
  funext a k
  show V m c main_arg1 (((cfg0.win 1).blk t).view.emb (ix2 a k)) = hArg m c (ix2 a k)
  rw [V_main_arg1]
  refine congrArg _ ?_
  funext d; apply Fin.ext
  match d with
  | ⟨0, _⟩ => show win0_1.index t (0 : Fin 2) * 148 + 1 * a.val = a.val; omega
  | ⟨1, _⟩ => show win0_1.index t (1 : Fin 2) * 148 + 1 * k.val = k.val; omega

/-- The groups of a staged row are the groups of its row of the input. -/
theorem grp_row (c : Dev nD) (t : Fin cfg0.N) (n : Fin 32) (r : Fin 256) (hr : r.val = 32 * t.val + n.val) :
    grp (iblk m c 0 t) n = rowOf (xArg m c) r := by
  funext k l
  refine (iblk0_apply m c t n _ r hr).trans ?_
  unfold rowOf
  refine congrArg (xArg m c) ?_
  refine congrArg (ix3 (0 : Fin 1) r) (Fin.ext ?_)
  show 128 * k.val + l.val = k.val * 128 + l.val
  omega

/-- What the precondition says of each entry. -/
theorem fin_of_pre (x : Vec Ideal S1x256x18944 .bf16) (h : Vec Ideal S148x148 .f32) (hp : Cert.Pre_finite_x.fn (F := Ideal) x h = fun _ => 1#1) (i : S1x256x18944.Idx) : Fin' (x i) := by
  have e := congrFun hp i
  simp only [Cert.Pre_finite_x.fn] at e
  have e' : BitVec.ofBool (decide (max (x i) (-(x i)) < Ideal.ofBits .f32 0x7F800000#32)) = 1#1 := e
  have htop : Ideal.ofBits .f32 0x7F800000#32 = ⊤ := by simp [Ideal.ofBits, Ideal.ieee]
  rw [htop] at e'
  have hlt : max (x i) (-(x i)) < ⊤ := by
    by_contra hn
    rw [decide_eq_false hn] at e'
    exact absurd e' (by decide)
  obtain ⟨h1, h2⟩ := max_lt_iff.mp hlt
  have hb : x i ≠ ⊥ := by
    intro hx
    rw [hx] at h2
    simp at h2
  exact ⟨(x i).toReal, (EReal.coe_toReal h1.ne hb).symm⟩

/-- What each grid point leaves, on finite inputs. -/
theorem outs (c : Dev nD) (hx : ∀ i, Fin' (xArg m c i)) (n : ℕ) (hn : n < cfg0.N) :
    OutIs (iblk m c 0 ⟨n, hn⟩) (facOf (hArg m c)) (outsAt0 m c n hn) :=
  outs_all m c (facOf (hArg m c)) (fun t => iblk1_fac m c t) (fun t n k l => by
    have hN : cfg0.N = 8 := N_0
    have ht := t.isLt
    rw [grp_row m c t n ⟨32 * t.val + n.val, by omega⟩ rfl]
    exact hx _) n hn

/-- The codes the kernel ends with. -/
theorem G2_eq (c : Dev nD) (hx : ∀ i, Fin' (xArg m c i)) : G2 m c = codesS (xArg m c) (hArg m c) := by
  have hN : cfg0.N = 8 := N_0
  funext i
  have h0 : (i 0).val < 256 := (i 0).isLt
  have h1 : (i 1).val < 18944 := (i 1).isLt
  have hp : pt2Of i < cfg0.N := by rw [hN]; show 1 * ((i 0).val / 32 - 0) + 1 * ((i 1).val / 18944 - 0) < 8; omega
  have hpv : pt2Of i = (i 0).val / 32 := by show 1 * ((i 0).val / 32 - 0) + 1 * ((i 1).val / 18944 - 0) = _; omega
  unfold G2
  rw [dif_pos hp, ← outsAt0_sweep m c (pt2Of i) hp]
  refine ((outs m c hx (pt2Of i) hp).codes (loc2Of i) ⟨(i 0).val % 32, Nat.mod_lt _ (by decide)⟩ ⟨(i 1).val / 128, by omega⟩ ⟨(i 1).val % 128, Nat.mod_lt _ (by decide)⟩ rfl
    (by show (i 1).val % 18944 = 128 * ((i 1).val / 128) + (i 1).val % 128; omega)).trans ?_
  rw [grp_row m c ⟨pt2Of i, hp⟩ _ (i 0) (by show (i 0).val = 32 * pt2Of i + (i 0).val % 32; omega)]
  rfl

/-- The scales the kernel ends with. -/
theorem G3_eq (c : Dev nD) (hx : ∀ i, Fin' (xArg m c i)) : G3 m c = scalesS (xArg m c) (hArg m c) := by
  have hN : cfg0.N = 8 := N_0
  funext i
  have h0 : (i 0).val < 256 := (i 0).isLt
  have h1 : (i 1).val < 128 := (i 1).isLt
  have hp : pt3Of i < cfg0.N := by rw [hN]; show 1 * ((i 0).val / 32 - 0) + 1 * ((i 1).val / 128 - 0) < 8; omega
  have hpv : pt3Of i = (i 0).val / 32 := by show 1 * ((i 0).val / 32 - 0) + 1 * ((i 1).val / 128 - 0) = _; omega
  have hl : loc3Of i = (ix2 (⟨(i 0).val % 32, Nat.mod_lt _ (by decide)⟩ : Fin 32) (⟨(i 1).val % 128, Nat.mod_lt _ (by decide)⟩ : Fin 128) : S32x128.Idx) := by
    funext a
    match a with
    | ⟨0, _⟩ => rfl
    | ⟨1, _⟩ => rfl
  unfold G3
  rw [dif_pos hp, ← outsAt0_sweep m c (pt3Of i) hp, hl]
  refine ((outs m c hx (pt3Of i) hp).scales _ _).trans ?_
  rw [grp_row m c ⟨pt3Of i, hp⟩ _ (i 0) (by show (i 0).val = 32 * pt3Of i + (i 0).val % 32; omega)]
  rfl

end Cert.RotateIdeal.Rot

namespace Cert.Proof.RotEq
open Idealize.ShloMosaic Idealize.ShloMosaic.TcCoe Idealize.SL.Sem

/-- The two programs end with equal codes and scales over the extended reals, on finite inputs. -/
theorem algebraic : Cert.algebraic_RotateIdeal_RotateReferenceIdeal_pre_finite_x := by
  intro m g m' g' hpre hagree
  have hx : ∀ (c : Dev Cert.RotateIdeal.nD) i, Cert.RotSpec.Fin' (Cert.RotateIdeal.Rot.xArg m c i) := fun c i => Cert.RotateIdeal.Rot.fin_of_pre _ _ (hpre c) i
  refine ⟨fun c => Cert.RotateIdeal.Value.G2 m c, fun c => Cert.RotateIdeal.Value.G3 m c, Cert.RotateIdeal.Value.run m g, ?_⟩
  refine (θ_run _ _ _).mono (fun r h c => ?_) (Cert.RotateReferenceIdeal.Gen.run m' g')
  obtain ⟨h0, h1, hargs⟩ := h c
  obtain ⟨e0, e1⟩ := hagree c
  refine ⟨h0.trans ?_, h1.trans ?_, hargs⟩
  · refine Eq.trans ?_ (Cert.RotateIdeal.Rot.G2_eq m c (hx c)).symm
    rw [show Cert.RotateReferenceIdeal.Gen.xArg m' c = Cert.RotateIdeal.Rot.xArg m c from e0, show Cert.RotateReferenceIdeal.Gen.hArg m' c = Cert.RotateIdeal.Rot.hArg m c from e1]
  · refine Eq.trans ?_ (Cert.RotateIdeal.Rot.G3_eq m c (hx c)).symm
    rw [show Cert.RotateReferenceIdeal.Gen.xArg m' c = Cert.RotateIdeal.Rot.xArg m c from e0, show Cert.RotateReferenceIdeal.Gen.hArg m' c = Cert.RotateIdeal.Rot.hArg m c from e1]

/-- The idealized kernel is the printed one with its packed words read as pairs and its masks as truncations. -/
theorem preserves : Cert.preserves_Rotate_RotateIdeal :=
  ⟨IdealRules.bf16_pair.bufferStatement _ _, IdealRules.bf16_pair.statement _ _, IdealRules.bf16_pair.statement _ _, IdealRules.bf16_pair.statement _ _,
    IdealRules.bf16_pair.selectZeroStatement _, IdealRules.bf16_pair.statement _ _, IdealRules.bf16_pair.statement _ _, IdealRules.bf16_pack.statement _⟩

end Cert.Proof.RotEq

end
-- ==== Proof.lean ====
/- The certificate's claims, put together from the generated frames and the hand-written modules. -/
import proofs.«01_k».proof.Defs
import proofs.«01_k».proof.Proof.DownEq
import proofs.«01_k».proof.Proof.DownFrame
import proofs.«01_k».proof.Proof.WrdFrame
import proofs.«01_k».proof.Proof.RotFrame
import proofs.«01_k».proof.Proof.RotEq
import Idealize.ShloMosaic.Adequacy
import Idealize.ShloMosaic.Init

noncomputable section

namespace Cert.Proof

open Idealize.ShloMosaic Idealize.SL.Sem

/-- Everything the certificate states: of the projection and of the rotate-and-quantise kernel, that they run and leave their arguments as they
    were, that the idealized programs are theirs, and that each ends with its reference's results over the extended reals. -/
theorem claim : Cert.Claim := ⟨Cert.Kernel.Gen.facts, Cert.KernelIdeal.Gen.facts, Cert.ReferenceIdeal.Gen.facts,
  Cert.Rotate.Gen.facts, Cert.RotateIdeal.Gen.facts, Cert.RotateReferenceIdeal.Gen.facts, Cert.Pre_finite_x.Gen.facts,
  fun m ρ _ => Cert.Kernel.Down.frame m ρ,
  fun m ρ _ => Cert.KernelIdeal.Down.frame m ρ,
  fun m ρ _ => Cert.ReferenceIdeal.Gen.frame m ρ,
  fun m ρ _ => Cert.Rotate.Gen.frame m ρ,
  fun m ρ _ => Cert.RotateIdeal.Gen.frame m ρ,
  fun m ρ _ => Cert.RotateIdeal.Gen.frame m ρ,
  fun m ρ _ => Cert.RotateReferenceIdeal.Gen.frame m ρ,
  fun m ρ _ => Cert.RotateReferenceIdeal.Gen.frame m ρ,
  trivial,
  DownEq.algebraic,
  RotEq.preserves,
  RotEq.algebraic⟩

end Cert.Proof

end
